-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts [hPre_tiles_sorted : Cert.Pre_tiles_sorted.Facts] (m : (ℓ : Loc Cert.Experts.nD Cert.Experts.τ Cert.Experts.sig) → Buf (Elt Bits) ℓ) : Prop :=
  ∀ c : Dev Cert.Experts.nD,
    (Cert.Pre_tiles_sorted.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))).1 = (fun _ => 1#1)
    ∧ (Cert.Pre_tiles_sorted.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))).2.1 = (fun _ => 1#1)
    ∧ (Cert.Pre_tiles_sorted.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))).2.2.1 = (fun _ => 1#1)
    ∧ (Cert.Pre_tiles_sorted.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))).2.2.2.1 = (fun _ => 1#1)
    ∧ (Cert.Pre_tiles_sorted.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))).2.2.2.2.1 = (fun _ => 1#1)
    ∧ (Cert.Pre_tiles_sorted.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))).2.2.2.2.2.1 = (fun _ => 1#1)
    ∧ (Cert.Pre_tiles_sorted.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))).2.2.2.2.2.2.1 = (fun _ => 1#1)
    ∧ (Cert.Pre_tiles_sorted.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))).2.2.2.2.2.2.2 = (fun _ => 1#1)

def Pre_ExpertsIdeal [hPre_tiles_sorted : Cert.Pre_tiles_sorted.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tiles_sorted.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).1 = (fun _ => 1#1)
    ∧ (Cert.Pre_tiles_sorted.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).2.1 = (fun _ => 1#1)
    ∧ (Cert.Pre_tiles_sorted.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).2.2.1 = (fun _ => 1#1)
    ∧ (Cert.Pre_tiles_sorted.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).2.2.2.1 = (fun _ => 1#1)
    ∧ (Cert.Pre_tiles_sorted.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).2.2.2.2.1 = (fun _ => 1#1)
    ∧ (Cert.Pre_tiles_sorted.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).2.2.2.2.2.1 = (fun _ => 1#1)
    ∧ (Cert.Pre_tiles_sorted.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).2.2.2.2.2.2.1 = (fun _ => 1#1)
    ∧ (Cert.Pre_tiles_sorted.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).2.2.2.2.2.2.2 = (fun _ => 1#1)

def Pre_ExpertsReferenceIdeal [hPre_tiles_sorted : Cert.Pre_tiles_sorted.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tiles_sorted.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))).1 = (fun _ => 1#1)
    ∧ (Cert.Pre_tiles_sorted.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))).2.1 = (fun _ => 1#1)
    ∧ (Cert.Pre_tiles_sorted.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))).2.2.1 = (fun _ => 1#1)
    ∧ (Cert.Pre_tiles_sorted.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))).2.2.2.1 = (fun _ => 1#1)
    ∧ (Cert.Pre_tiles_sorted.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))).2.2.2.2.1 = (fun _ => 1#1)
    ∧ (Cert.Pre_tiles_sorted.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))).2.2.2.2.2.1 = (fun _ => 1#1)
    ∧ (Cert.Pre_tiles_sorted.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))).2.2.2.2.2.2.1 = (fun _ => 1#1)
    ∧ (Cert.Pre_tiles_sorted.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))).2.2.2.2.2.2.2 = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Experts [hExperts : Cert.Experts.Facts] [hPre_tiles_sorted : Cert.Pre_tiles_sorted.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_tiles_sorted : Cert.Pre_tiles_sorted.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] [hPre_tiles_sorted : Cert.Pre_tiles_sorted.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_tiles_sorted : Cert.Pre_tiles_sorted.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v14)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v14) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v300) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)) →
    ∃ (v0 : (c : Dev Cert.ProjectionIdeal.nD) → Buf (Elt Ideal) ((c.tc : Thread Cert.ProjectionIdeal.nD Cert.ProjectionIdeal.τ).loc Cert.ProjectionIdeal.main_v3)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v3) = v0 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v22) = v0 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v25_0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v25_0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v27) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hProjection : Cert.Projection.Facts) (hProjectionIdeal : Cert.ProjectionIdeal.Facts) (hProjectionReferenceIdeal : Cert.ProjectionReferenceIdeal.Facts) (hMerge : Cert.Merge.Facts) (hMergeIdeal : Cert.MergeIdeal.Facts) (hMergeReferenceIdeal : Cert.MergeReferenceIdeal.Facts) (hPre_tiles_sorted : Cert.Pre_tiles_sorted.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts) (hPre_tiles_sorted := hPre_tiles_sorted)
    ∧ quiescent_ExpertsIdeal (hExpertsIdeal := hExpertsIdeal) (hPre_tiles_sorted := hPre_tiles_sorted)
    ∧ quiescent_ExpertsReferenceIdeal (hExpertsReferenceIdeal := hExpertsReferenceIdeal) (hPre_tiles_sorted := hPre_tiles_sorted)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_ExpertsReferenceIdeal (hExpertsIdeal := hExpertsIdeal) (hExpertsReferenceIdeal := hExpertsReferenceIdeal) (hPre_tiles_sorted := hPre_tiles_sorted)
    ∧ preserves_Projection_ProjectionIdeal
    ∧ algebraic_ProjectionIdeal_ProjectionReferenceIdeal (hProjectionIdeal := hProjectionIdeal) (hProjectionReferenceIdeal := hProjectionReferenceIdeal)
    ∧ preserves_Merge_MergeIdeal
    ∧ algebraic_MergeIdeal_MergeReferenceIdeal (hMergeIdeal := hMergeIdeal) (hMergeReferenceIdeal := hMergeReferenceIdeal)
-- ==== Pre_tiles_sorted.lean ====
abbrev S8x128 : Shape := ⟨2, ![8, 128]⟩
abbrev S28160x1152 : Shape := ⟨2, ![28160, 1152]⟩
abbrev S4x16x1024x512 : Shape := ⟨4, ![4, 16, 1024, 512]⟩
abbrev S4x16x512x1024 : Shape := ⟨4, ![4, 16, 512, 1024]⟩
abbrev S55 : Shape := ⟨1, ![55]⟩
abbrev S1x1 : Shape := ⟨2, ![1, 1]⟩
abbrev S_ : Shape := ⟨0, ![]⟩
abbrev S1x55 : Shape := ⟨2, ![1, 55]⟩
abbrev S28160x2 : Shape := ⟨2, ![28160, 2]⟩
abbrev S55x512x2 : Shape := ⟨3, ![55, 512, 2]⟩
abbrev S55x512x1 : Shape := ⟨3, ![55, 512, 1]⟩
abbrev S55x512 : Shape := ⟨2, ![55, 512]⟩
abbrev S55x1 : Shape := ⟨2, ![55, 1]⟩
abbrev S55x55 : Shape := ⟨2, ![55, 55]⟩
abbrev S512 : Shape := ⟨1, ![512]⟩
abbrev S1x512 : Shape := ⟨2, ![1, 512]⟩
abbrev S55x55x1 : Shape := ⟨3, ![55, 55, 1]⟩
abbrev S1x55x512 : Shape := ⟨3, ![1, 55, 512]⟩
abbrev S55x55x512 : Shape := ⟨3, ![55, 55, 512]⟩
abbrev S55x1x512 : Shape := ⟨3, ![55, 1, 512]⟩

class Facts : Prop where
  slices_S8x128_S1x1_3_0 : S8x128.Slices ![3, 0] S1x1
  shapeCasts_S1x1_S_ : S1x1.ShapeCasts S_
  slices_S8x128_S1x55_0_0 : S8x128.Slices ![0, 0] S1x55
  shapeCasts_S1x55_S55 : S1x55.ShapeCasts S55
  slices_S8x128_S1x55_1_0 : S8x128.Slices ![1, 0] S1x55
  slices_S8x128_S1x55_2_0 : S8x128.Slices ![2, 0] S1x55
  slices_S8x128_S1x55_4_0 : S8x128.Slices ![4, 0] S1x55
  slices_S28160x1152_S28160x2_0_1024 : S28160x1152.Slices ![0, 1024] S28160x2
  shapeCasts_S28160x2_S55x512x2 : S28160x2.ShapeCasts S55x512x2
  slices_S55x512x2_S55x512x1_0_0_0 : S55x512x2.Slices ![0, 0, 0] S55x512x1
  shapeCasts_S55x512x1_S55x512 : S55x512x1.ShapeCasts S55x512
  bcast_S_S55x512 : S_.BroadcastsInDim S55x512 (![] : Fin 0 → Fin S55x512.rank)
  slices_S55x512x2_S55x512x1_0_0_1 : S55x512x2.Slices ![0, 0, 1] S55x512x1
  bcast_S55_S1x55_1 : S55.BroadcastsInDim S1x55 (![1] : Fin 1 → Fin S1x55.rank)
  bcast_S55_S55x1_0 : S55.BroadcastsInDim S55x1 (![0] : Fin 1 → Fin S55x1.rank)
  bcast_S1x55_S55x55_0_1 : S1x55.BroadcastsInDim S55x55 (![0, 1] : Fin 2 → Fin S55x55.rank)
  bcast_S55x1_S55x55_0_1 : S55x1.BroadcastsInDim S55x55 (![0, 1] : Fin 2 → Fin S55x55.rank)
  bcast_S_S1x55 : S_.BroadcastsInDim S1x55 (![] : Fin 0 → Fin S1x55.rank)
  bcast_S512_S1x512_1 : S512.BroadcastsInDim S1x512 (![1] : Fin 1 → Fin S1x512.rank)
  bcast_S1x512_S55x512_0_1 : S1x512.BroadcastsInDim S55x512 (![0, 1] : Fin 2 → Fin S55x512.rank)
  bcast_S55x1_S55x512_0_1 : S55x1.BroadcastsInDim S55x512 (![0, 1] : Fin 2 → Fin S55x512.rank)
  bcast_S_S55 : S_.BroadcastsInDim S55 (![] : Fin 0 → Fin S55.rank)
  bcast_S55x55_S55x55x1_0_1 : S55x55.BroadcastsInDim S55x55x1 (![0, 1] : Fin 2 → Fin S55x55x1.rank)
  bcast_S55x512_S1x55x512_1_2 : S55x512.BroadcastsInDim S1x55x512 (![1, 2] : Fin 2 → Fin S1x55x512.rank)
  bcast_S55x55x1_S55x55x512_0_1_2 : S55x55x1.BroadcastsInDim S55x55x512 (![0, 1, 2] : Fin 3 → Fin S55x55x512.rank)
  bcast_S1x55x512_S55x55x512_0_1_2 : S1x55x512.BroadcastsInDim S55x55x512 (![0, 1, 2] : Fin 3 → Fin S55x55x512.rank)
  bcast_S55x512_S55x1x512_0_2 : S55x512.BroadcastsInDim S55x1x512 (![0, 2] : Fin 2 → Fin S55x1x512.rank)
  bcast_S55x1x512_S55x55x512_0_1_2 : S55x1x512.BroadcastsInDim S55x55x512 (![0, 1, 2] : Fin 3 → Fin S55x55x512.rank)

variable [Facts]

def fn_part3 {F : FTy → Type} [FloatOps F] (main_v0 : IVec S55 32) (main_v21 : IVec S55x512 1) (main_v31 : IVec S55x55 1) (main_v37 : IVec S55x512 1) (main_v38 : IVec S_ 1) (main_v39 : IVec S_ 1) (main_v44 : IVec S55 1) (main_v49 : IVec S55 1) (main_v53 : IVec S55 1) (main_v58 : IVec S55 1) (main_v60 : IVec S1x55 32) (main_v61 : IVec S55x55 32) : IVec S_ 1 × IVec S_ 1 × IVec S55 1 × IVec S55 1 × IVec S55 1 × IVec S55 1 × IVec S55x55 1 × IVec S55x55x512 1 :=
  let main_v62 : IVec S55x55 32 := broadcastInDim S55x55 ![0, 1] bcast_S1x55_S55x55_0_1 main_v60
  let main_v63 : IVec S55x55 1 := cmpi .ne main_v61 main_v62
  let main_v64 : IVec S55x1 32 := broadcastInDim S55x1 ![0] bcast_S55_S55x1_0 main_v0
  let main_v65 : IVec S1x55 32 := broadcastInDim S1x55 ![1] bcast_S55_S1x55_1 main_v0
  let main_v66 : IVec S55x55 32 := broadcastInDim S55x55 ![0, 1] bcast_S55x1_S55x55_0_1 main_v64
  let main_v67 : IVec S55x55 32 := broadcastInDim S55x55 ![0, 1] bcast_S1x55_S55x55_0_1 main_v65
  let main_v68 : IVec S55x55 1 := cmpi .eq main_v66 main_v67
  let main_v69 : IVec S55x55 1 := ori main_v63 main_v68
  let main_v70 : IVec S55x55 1 := noti main_v31
  let main_v71 : IVec S55x55x1 1 := broadcastInDim S55x55x1 ![0, 1] bcast_S55x55_S55x55x1_0_1 main_v70
  let main_v72 : IVec S1x55x512 1 := broadcastInDim S1x55x512 ![1, 2] bcast_S55x512_S1x55x512_1_2 main_v37
  let main_v73 : IVec S55x55x512 1 := broadcastInDim S55x55x512 ![0, 1, 2] bcast_S55x55x1_S55x55x512_0_1_2 main_v71
  let main_v74 : IVec S55x55x512 1 := broadcastInDim S55x55x512 ![0, 1, 2] bcast_S1x55x512_S55x55x512_0_1_2 main_v72
  let main_v75 : IVec S55x55x512 1 := ori main_v73 main_v74
  let main_v76 : IVec S55x1x512 1 := broadcastInDim S55x1x512 ![0, 2] bcast_S55x512_S55x1x512_0_2 main_v21
  let main_v77 : IVec S55x55x512 1 := broadcastInDim S55x55x512 ![0, 1, 2] bcast_S55x1x512_S55x55x512_0_1_2 main_v76
  let main_v78 : IVec S55x55x512 1 := ori main_v75 main_v77
  (main_v38, main_v39, main_v44, main_v49, main_v53, main_v58, main_v69, main_v78)

def fn_part2 {F : FTy → Type} [FloatOps F] (main_v0 : IVec S55 32) (main_v2 : IVec S_ 32) (main_v4 : IVec S55 32) (main_v6 : IVec S55 32) (main_v10 : IVec S55 32) (main_v21 : IVec S55x512 1) (main_v31 : IVec S55x55 1) (main_v37 : IVec S55x512 1) (main_v38 : IVec S_ 1) (main_v39 : IVec S_ 1) (main_v41 : IVec S55 1) (main_c_3 : IVec S_ 32) : IVec S_ 1 × IVec S_ 1 × IVec S55 1 × IVec S55 1 × IVec S55 1 × IVec S55 1 × IVec S55x55 1 × IVec S55x55x512 1 :=
  let main_v42 : IVec S55 32 := broadcastInDim S55 ![] bcast_S_S55 main_c_3
  let main_v43 : IVec S55 1 := cmpi .slt main_v4 main_v42
  let main_v44 : IVec S55 1 := andi main_v41 main_v43
  let main_c_4 : IVec S_ 32 := constantI S_ 32 0#32
  let main_v45 : IVec S55 32 := broadcastInDim S55 ![] bcast_S_S55 main_c_4
  let main_v46 : IVec S55 1 := cmpi .sge main_v6 main_v45
  let main_c_5 : IVec S_ 32 := constantI S_ 32 16#32
  let main_v47 : IVec S55 32 := broadcastInDim S55 ![] bcast_S_S55 main_c_5
  let main_v48 : IVec S55 1 := cmpi .slt main_v6 main_v47
  let main_v49 : IVec S55 1 := andi main_v46 main_v48
  let main_v50 : IVec S55 1 := cmpi .ne main_v4 main_v6
  let main_v51 : IVec S55 32 := broadcastInDim S55 ![] bcast_S_S55 main_v2
  let main_v52 : IVec S55 1 := cmpi .sge main_v0 main_v51
  let main_v53 : IVec S55 1 := ori main_v50 main_v52
  let main_c_6 : IVec S_ 32 := constantI S_ 32 0#32
  let main_v54 : IVec S55 32 := broadcastInDim S55 ![] bcast_S_S55 main_c_6
  let main_v55 : IVec S55 1 := cmpi .sge main_v10 main_v54
  let main_c_7 : IVec S_ 32 := constantI S_ 32 55#32
  let main_v56 : IVec S55 32 := broadcastInDim S55 ![] bcast_S_S55 main_c_7
  let main_v57 : IVec S55 1 := cmpi .slt main_v10 main_v56
  let main_v58 : IVec S55 1 := andi main_v55 main_v57
  let main_v59 : IVec S55x1 32 := broadcastInDim S55x1 ![0] bcast_S55_S55x1_0 main_v10
  let main_v60 : IVec S1x55 32 := broadcastInDim S1x55 ![1] bcast_S55_S1x55_1 main_v10
  let main_v61 : IVec S55x55 32 := broadcastInDim S55x55 ![0, 1] bcast_S55x1_S55x55_0_1 main_v59
  fn_part3 (F := F) main_v0 main_v21 main_v31 main_v37 main_v38 main_v39 main_v44 main_v49 main_v53 main_v58 main_v60 main_v61

def fn_part1 {F : FTy → Type} [FloatOps F] (main_v0 : IVec S55 32) (main_v2 : IVec S_ 32) (main_v4 : IVec S55 32) (main_v6 : IVec S55 32) (main_v8 : IVec S55 32) (main_v10 : IVec S55 32) (main_v21 : IVec S55x512 1) : IVec S_ 1 × IVec S_ 1 × IVec S55 1 × IVec S55 1 × IVec S55 1 × IVec S55 1 × IVec S55x55 1 × IVec S55x55x512 1 :=
  let main_v22 : IVec S1x55 32 := broadcastInDim S1x55 ![1] bcast_S55_S1x55_1 main_v10
  let main_v23 : IVec S55x1 32 := broadcastInDim S55x1 ![0] bcast_S55_S55x1_0 main_v0
  let main_v24 : IVec S55x55 32 := broadcastInDim S55x55 ![0, 1] bcast_S1x55_S55x55_0_1 main_v22
  let main_v25 : IVec S55x55 32 := broadcastInDim S55x55 ![0, 1] bcast_S55x1_S55x55_0_1 main_v23
  let main_v26 : IVec S55x55 1 := cmpi .eq main_v24 main_v25
  let main_v27 : IVec S1x55 32 := broadcastInDim S1x55 ![1] bcast_S55_S1x55_1 main_v0
  let main_v28 : IVec S1x55 32 := broadcastInDim S1x55 ![] bcast_S_S1x55 main_v2
  let main_v29 : IVec S1x55 1 := cmpi .slt main_v27 main_v28
  let main_v30 : IVec S55x55 1 := broadcastInDim S55x55 ![0, 1] bcast_S1x55_S55x55_0_1 main_v29
  let main_v31 : IVec S55x55 1 := andi main_v26 main_v30
  let main_v32 : IVec S512 32 := iotaInDim S512 32 0
  let main_v33 : IVec S1x512 32 := broadcastInDim S1x512 ![1] bcast_S512_S1x512_1 main_v32
  let main_v34 : IVec S55x1 32 := broadcastInDim S55x1 ![0] bcast_S55_S55x1_0 main_v8
  let main_v35 : IVec S55x512 32 := broadcastInDim S55x512 ![0, 1] bcast_S1x512_S55x512_0_1 main_v33
  let main_v36 : IVec S55x512 32 := broadcastInDim S55x512 ![0, 1] bcast_S55x1_S55x512_0_1 main_v34
  let main_v37 : IVec S55x512 1 := cmpi .slt main_v35 main_v36
  let main_c : IVec S_ 32 := constantI S_ 32 1#32
  let main_v38 : IVec S_ 1 := cmpi .sge main_v2 main_c
  let main_c_1 : IVec S_ 32 := constantI S_ 32 55#32
  let main_v39 : IVec S_ 1 := cmpi .sle main_v2 main_c_1
  let main_c_2 : IVec S_ 32 := constantI S_ 32 0#32
  let main_v40 : IVec S55 32 := broadcastInDim S55 ![] bcast_S_S55 main_c_2
  let main_v41 : IVec S55 1 := cmpi .sge main_v4 main_v40
  let main_c_3 : IVec S_ 32 := constantI S_ 32 16#32
  fn_part2 (F := F) main_v0 main_v2 main_v4 main_v6 main_v10 main_v21 main_v31 main_v37 main_v38 main_v39 main_v41 main_c_3

def fn {F : FTy → Type} [FloatOps F] (main_arg0 : IVec S8x128 32) (main_arg1 : FVec F S28160x1152 .f32) (main_arg2 : FVec F S4x16x1024x512 .f32) (main_arg3 : FVec F S4x16x1024x512 .f32) (main_arg4 : FVec F S4x16x512x1024 .f32) : IVec S_ 1 × IVec S_ 1 × IVec S55 1 × IVec S55 1 × IVec S55 1 × IVec S55 1 × IVec S55x55 1 × IVec S55x55x512 1 :=
  let main_v0 : IVec S55 32 := iotaInDim S55 32 0
  let main_v1 : IVec S1x1 32 := (extractStridedSlice S1x1 ![3, 0] · slices_S8x128_S1x1_3_0) main_arg0
  let main_v2 : IVec S_ 32 := shapeCast S_ main_v1 shapeCasts_S1x1_S_
  let main_v3 : IVec S1x55 32 := (extractStridedSlice S1x55 ![0, 0] · slices_S8x128_S1x55_0_0) main_arg0
  let main_v4 : IVec S55 32 := shapeCast S55 main_v3 shapeCasts_S1x55_S55
  let main_v5 : IVec S1x55 32 := (extractStridedSlice S1x55 ![1, 0] · slices_S8x128_S1x55_1_0) main_arg0
  let main_v6 : IVec S55 32 := shapeCast S55 main_v5 shapeCasts_S1x55_S55
  let main_v7 : IVec S1x55 32 := (extractStridedSlice S1x55 ![2, 0] · slices_S8x128_S1x55_2_0) main_arg0
  let main_v8 : IVec S55 32 := shapeCast S55 main_v7 shapeCasts_S1x55_S55
  let main_v9 : IVec S1x55 32 := (extractStridedSlice S1x55 ![4, 0] · slices_S8x128_S1x55_4_0) main_arg0
  let main_v10 : IVec S55 32 := shapeCast S55 main_v9 shapeCasts_S1x55_S55
  let main_v11 : FVec F S28160x2 .f32 := (extractStridedSlice S28160x2 ![0, 1024] · slices_S28160x1152_S28160x2_0_1024) main_arg1
  let main_v12 : FVec F S55x512x2 .f32 := shapeCast S55x512x2 main_v11 shapeCasts_S28160x2_S55x512x2
  let main_v13 : FVec F S55x512x1 .f32 := (extractStridedSlice S55x512x1 ![0, 0, 0] · slices_S55x512x2_S55x512x1_0_0_0) main_v12
  let main_v14 : FVec F S55x512 .f32 := shapeCast S55x512 main_v13 shapeCasts_S55x512x1_S55x512
  let main_cst : FVec F S_ .f32 := constant S_ .f32 0x00000000#32
  let main_v15 : FVec F S55x512 .f32 := broadcastInDim S55x512 ![] bcast_S_S55x512 main_cst
  let main_v16 : IVec S55x512 1 := cmpf .oeq main_v14 main_v15
  let main_v17 : FVec F S55x512x1 .f32 := (extractStridedSlice S55x512x1 ![0, 0, 1] · slices_S55x512x2_S55x512x1_0_0_1) main_v12
  let main_v18 : FVec F S55x512 .f32 := shapeCast S55x512 main_v17 shapeCasts_S55x512x1_S55x512
  let main_cst_0 : FVec F S_ .f32 := constant S_ .f32 0x00000000#32
  let main_v19 : FVec F S55x512 .f32 := broadcastInDim S55x512 ![] bcast_S_S55x512 main_cst_0
  let main_v20 : IVec S55x512 1 := cmpf .oeq main_v18 main_v19
  let main_v21 : IVec S55x512 1 := andi main_v16 main_v20
  fn_part1 (F := F) main_v0 main_v2 main_v4 main_v6 main_v8 main_v10 main_v21
-- ==== Kernel.lean ====
abbrev S4x4096x4608 : Shape := ⟨3, ![4, 4096, 4608]⟩
abbrev S4x4x512 : Shape := ⟨3, ![4, 4, 512]⟩
abbrev S4x512 : Shape := ⟨2, ![4, 512]⟩
abbrev S4x8x64x64 : Shape := ⟨4, ![4, 8, 64, 64]⟩
abbrev S8x8 : Shape := ⟨2, ![8, 8]⟩
abbrev S_ : Shape := ⟨0, ![]⟩
abbrev S1x8x1x8x1 : Shape := ⟨5, ![1, 8, 1, 8, 1]⟩
abbrev S4x8x64x1x64 : Shape := ⟨5, ![4, 8, 64, 1, 64]⟩
abbrev S4x8x64x8x64 : Shape := ⟨5, ![4, 8, 64, 8, 64]⟩
abbrev S4x512x512 : Shape := ⟨3, ![4, 512, 512]⟩
abbrev S4x4096x2048 : Shape := ⟨3, ![4, 4096, 2048]⟩
abbrev S4x4096x2560 : Shape := ⟨3, ![4, 4096, 2560]⟩
abbrev S4x1x512 : Shape := ⟨3, ![4, 1, 512]⟩
abbrev S4x4096x512 : Shape := ⟨3, ![4, 4096, 512]⟩
abbrev S1x512x512 : Shape := ⟨3, ![1, 512, 512]⟩
abbrev S1x4x512 : Shape := ⟨3, ![1, 4, 512]⟩
abbrev S1x1x512 : Shape := ⟨3, ![1, 1, 512]⟩
abbrev S8x512 : Shape := ⟨2, ![8, 512]⟩
abbrev S1x512 : Shape := ⟨2, ![1, 512]⟩
abbrev S512x512 : Shape := ⟨2, ![512, 512]⟩
abbrev S64x8x512 : Shape := ⟨3, ![64, 8, 512]⟩
abbrev S1x8x512 : Shape := ⟨3, ![1, 8, 512]⟩
abbrev S63x8x512 : Shape := ⟨3, ![63, 8, 512]⟩

abbrev nBuf : Space → Nat
  | .hbm => 45
  | .vmem => 17
  | .smem => 0
  | _ => 0

abbrev bufTy : (tb : Table) → Fin (tcTables nBuf tb) → BufTy
  | .hbm, ⟨0, _⟩ => ⟨S4x4096x4608, .f32⟩
  | .hbm, ⟨1, _⟩ => ⟨S4x4x512, .f32⟩
  | .hbm, ⟨2, _⟩ => ⟨S4x512, .f32⟩
  | .hbm, ⟨3, _⟩ => ⟨S4x8x64x64, .f32⟩
  | .hbm, ⟨4, _⟩ => ⟨S4x512, .f32⟩
  | .hbm, ⟨5, _⟩ => ⟨S4x8x64x64, .f32⟩
  | .hbm, ⟨6, _⟩ => ⟨S4x512, .f32⟩
  | .hbm, ⟨7, _⟩ => ⟨S4x512, .f32⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8, .f32⟩
  | .hbm, ⟨15, _⟩ => ⟨S1x8x1x8x1, .f32⟩
  | .hbm, ⟨16, _⟩ => ⟨S4x8x64x1x64, .f32⟩
  | .hbm, ⟨17, _⟩ => ⟨S4x8x64x8x64, .f32⟩
  | .hbm, ⟨18, _⟩ => ⟨S4x8x64x8x64, .f32⟩
  | .hbm, ⟨19, _⟩ => ⟨S4x8x64x8x64, .f32⟩
  | .hbm, ⟨20, _⟩ => ⟨S4x512x512, .f32⟩
  | .hbm, ⟨21, _⟩ => ⟨S4x512x512, .bf16⟩
  | .hbm, ⟨22, _⟩ => ⟨S8x8, .i32⟩
  | .hbm, ⟨23, _⟩ => ⟨S8x8, .i32⟩
  | .hbm, ⟨24, _⟩ => ⟨S_, .i32⟩
  | .hbm, ⟨25, _⟩ => ⟨S8x8, .i32⟩
  | .hbm, ⟨26, _⟩ => ⟨S8x8, .i32⟩
  | .hbm, ⟨27, _⟩ => ⟨S8x8, .i1⟩
  | .hbm, ⟨28, _⟩ => ⟨S8x8, .f32⟩
  | .hbm, ⟨29, _⟩ => ⟨S1x8x1x8x1, .f32⟩
  | .hbm, ⟨30, _⟩ => ⟨S4x8x64x1x64, .f32⟩
  | .hbm, ⟨31, _⟩ => ⟨S4x8x64x8x64, .f32⟩
  | .hbm, ⟨32, _⟩ => ⟨S4x8x64x8x64, .f32⟩
  | .hbm, ⟨33, _⟩ => ⟨S4x8x64x8x64, .f32⟩
  | .hbm, ⟨34, _⟩ => ⟨S4x512x512, .f32⟩
  | .hbm, ⟨35, _⟩ => ⟨S4x512x512, .bf16⟩
  | .hbm, ⟨36, _⟩ => ⟨S4x4096x2048, .f32⟩
  | .hbm, ⟨37, _⟩ => ⟨S4x4096x2560, .f32⟩
  | .hbm, ⟨38, _⟩ => ⟨S4x4096x4608, .f32⟩
  | .hbm, ⟨39, _⟩ => ⟨S4x4096x4608, .bf16⟩
  | .hbm, ⟨40, _⟩ => ⟨S4x1x512, .f32⟩
  | .hbm, ⟨41, _⟩ => ⟨S4x1x512, .f32⟩
  | .hbm, ⟨42, _⟩ => ⟨S4x1x512, .f32⟩
  | .hbm, ⟨43, _⟩ => ⟨S4x1x512, .f32⟩
  | .hbm, ⟨44, _⟩ => ⟨S4x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x4x512, .f32⟩
  | .local _ .vmem, ⟨5, _⟩ => ⟨S1x1x512, .f32⟩
  | .local _ .vmem, ⟨6, _⟩ => ⟨S1x512x512, .bf16⟩
  | .local _ .vmem, ⟨7, _⟩ => ⟨S1x1x512, .f32⟩
  | .local _ .vmem, ⟨8, _⟩ => ⟨S1x512x512, .bf16⟩
  | .local _ .vmem, ⟨9, _⟩ => ⟨S1x1x512, .f32⟩
  | .local _ .vmem, ⟨10, _⟩ => ⟨S1x1x512, .f32⟩
  | .local _ .vmem, ⟨11, _⟩ => ⟨S1x512x512, .bf16⟩
  | .local _ .vmem, ⟨12, _⟩ => ⟨S1x512x512, .bf16⟩
  | .local _ .vmem, ⟨13, _⟩ => ⟨S8x512, .f32⟩
  | .local _ .vmem, ⟨14, _⟩ => ⟨S1x512, .f32⟩
  | .local _ .vmem, ⟨15, _⟩ => ⟨S512x512, .f32⟩
  | .local _ .vmem, ⟨16, _⟩ => ⟨S512x512, .f32⟩
  | _, _ => ⟨S4x4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_69 : BitVec 32 := 0#32
  let c64_i32 : BitVec 32 := 64#32
  let v164 : BitVec 32 := Scalar.addi c0_i32_69 c64_i32
  let c1_i32_70 : BitVec 32 := 1#32
  ⟨c0_i32_69, v164, c1_i32_70⟩
def k0_mult1 (k0_t1 : Fin k0_t1_loop.trips) : BitVec 32 :=
  let c0_i32_69 : BitVec 32 := 0#32
  let c1_i32_70 : BitVec 32 := 1#32
  let arg16 : BitVec 32 := Scf.iv c0_i32_69 c1_i32_70 k0_t1
  let c8_i32 : BitVec 32 := 8#32
  let v191 : BitVec 32 := Scalar.muli arg16 c8_i32
  v191
def k0_off1 (k0_t1 : Fin k0_t1_loop.trips) : Fin 2 → Nat :=
  let c0_i32_69 : BitVec 32 := 0#32
  let c1_i32_70 : BitVec 32 := 1#32
  let arg16 : BitVec 32 := Scf.iv c0_i32_69 c1_i32_70 k0_t1
  let c8_i32 : BitVec 32 := 8#32
  let v191 : BitVec 32 := Scalar.muli arg16 c8_i32
  let v192 : BitVec 32 := v191
  let v193 : Index := Scalar.indexCast v192
  let c0_86 : Index := 0#32
  ![v193.toNat, 0]
def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x4096x4608 : Shape := ⟨3, ![4, 4096, 4608]⟩
abbrev S4x4x512 : Shape := ⟨3, ![4, 4, 512]⟩
abbrev S4x512 : Shape := ⟨2, ![4, 512]⟩
abbrev S4x8x64x64 : Shape := ⟨4, ![4, 8, 64, 64]⟩
abbrev S4x4096x512 : Shape := ⟨3, ![4, 4096, 512]⟩
abbrev S1x4x512 : Shape := ⟨3, ![1, 4, 512]⟩
abbrev S1x512 : Shape := ⟨2, ![1, 512]⟩
abbrev S512 : Shape := ⟨1, ![512]⟩
abbrev S1x8x64x64 : Shape := ⟨4, ![1, 8, 64, 64]⟩
abbrev S8x64x64 : Shape := ⟨3, ![8, 64, 64]⟩
abbrev S_ : Shape := ⟨0, ![]⟩
abbrev S4x4099x512 : Shape := ⟨3, ![4, 4099, 512]⟩
abbrev S1x1x512 : Shape := ⟨3, ![1, 1, 512]⟩
abbrev S4x4096x8x64 : Shape := ⟨4, ![4, 4096, 8, 64]⟩
abbrev S8x64x4x4096 : Shape := ⟨4, ![8, 64, 4, 4096]⟩
abbrev S4096x4x512 : Shape := ⟨3, ![4096, 4, 512]⟩

abbrev nBuf : Space → Nat
  | .hbm => 166
  | .vmem => 0
  | .smem => 0
  | _ => 0

abbrev hbmTy0_0 (i : Nat) : BufTy := match i % 128 with
  | 0 => ⟨S4x4096x4608, .f32⟩
  | 1 => ⟨S4x4x512, .f32⟩
  | 2 => ⟨S4x512, .f32⟩
  | 3 => ⟨S4x8x64x64, .f32⟩
  | 4 => ⟨S4x512, .f32⟩
  | 5 => ⟨S4x8x64x64, .f32⟩
  | 6 => ⟨S4x512, .f32⟩
  | 7 => ⟨S4x512, .f32⟩
  | 8 => ⟨S4x4096x512, .f32⟩
  | 9 => ⟨S1x4x512, .f32⟩
  | 10 => ⟨S4x512, .f32⟩
  | 11 => ⟨S1x512, .f32⟩
  | 12 => ⟨S512, .f32⟩
  | 13 => ⟨S1x512, .f32⟩
  | 14 => ⟨S512, .f32⟩
  | 15 => ⟨S1x8x64x64, .f32⟩
  | 16 => ⟨S8x64x64, .f32⟩
  | 17 => ⟨S1x512, .f32⟩
  | 18 => ⟨S512, .f32⟩
  | 19 => ⟨S1x8x64x64, .f32⟩
  | 20 => ⟨S8x64x64, .f32⟩
  | 21 => ⟨S1x512, .f32⟩
  | 22 => ⟨S512, .f32⟩
  | 23 => ⟨S_, .i32⟩
  | 24 => ⟨S_, .f32⟩
  | 25 => ⟨S4x4099x512, .f32⟩
  | 26 => ⟨S1x512, .f32⟩
  | 27 => ⟨S512, .f32⟩
  | 28 => ⟨S4x4096x512, .f32⟩
  | 29 => ⟨S1x1x512, .f32⟩
  | 30 => ⟨S4x4096x512, .f32⟩
  | 31 => ⟨S4x4096x512, .f32⟩
  | 32 => ⟨S1x1x512, .f32⟩
  | 33 => ⟨S4x4096x512, .f32⟩
  | 34 => ⟨S4x4096x512, .f32⟩
  | 35 => ⟨S1x512, .f32⟩
  | 36 => ⟨S512, .f32⟩
  | 37 => ⟨S4x4096x512, .f32⟩
  | 38 => ⟨S1x1x512, .f32⟩
  | 39 => ⟨S4x4096x512, .f32⟩
  | 40 => ⟨S4x4096x512, .f32⟩
  | 41 => ⟨S4x4096x512, .f32⟩
  | 42 => ⟨S1x512, .f32⟩
  | 43 => ⟨S512, .f32⟩
  | 44 => ⟨S4x4096x512, .f32⟩
  | 45 => ⟨S1x1x512, .f32⟩
  | 46 => ⟨S4x4096x512, .f32⟩
  | 47 => ⟨S4x4096x512, .f32⟩
  | 48 => ⟨S4x4096x512, .f32⟩
  | 49 => ⟨S1x512, .f32⟩
  | 50 => ⟨S512, .f32⟩
  | 51 => ⟨S4x4096x512, .f32⟩
  | 52 => ⟨S1x1x512, .f32⟩
  | 53 => ⟨S4x4096x512, .f32⟩
  | 54 => ⟨S4x4096x512, .f32⟩
  | 55 => ⟨S4x4096x512, .f32⟩
  | 56 => ⟨S4x4096x8x64, .f32⟩
  | 57 => ⟨S8x64x4x4096, .f32⟩
  | 58 => ⟨S4x4096x8x64, .f32⟩
  | 59 => ⟨S4x4096x512, .f32⟩
  | 60 => ⟨S1x1x512, .f32⟩
  | 61 => ⟨S4x4096x512, .f32⟩
  | 62 => ⟨S4x4096x512, .f32⟩
  | 63 => ⟨S4x4096x512, .f32⟩
  | 64 => ⟨S4x4096x512, .f32⟩
  | 65 => ⟨S_, .f32⟩
  | 66 => ⟨S4x4096x512, .f32⟩
  | 67 => ⟨S4x4096x512, .f32⟩
  | 68 => ⟨S_, .f32⟩
  | 69 => ⟨S4x4096x512, .f32⟩
  | 70 => ⟨S4x4096x512, .f32⟩
  | 71 => ⟨S8x64x4x4096, .f32⟩
  | 72 => ⟨S4x4096x8x64, .f32⟩
  | 73 => ⟨S4x4096x512, .f32⟩
  | 74 => ⟨S1x1x512, .f32⟩
  | 75 => ⟨S4x4096x512, .f32⟩
  | 76 => ⟨S4x4096x512, .f32⟩
  | 77 => ⟨S4x4096x512, .f32⟩
  | 78 => ⟨S4x4096x512, .f32⟩
  | 79 => ⟨S_, .f32⟩
  | 80 => ⟨S4x4096x512, .f32⟩
  | 81 => ⟨S4x4096x512, .f32⟩
  | 82 => ⟨S_, .f32⟩
  | 83 => ⟨S4x4096x512, .f32⟩
  | 84 => ⟨S4x4096x512, .f32⟩
  | 85 => ⟨S512, .f32⟩
  | 86 => ⟨S_, .f32⟩
  | 87 => ⟨S512, .f32⟩
  | 88 => ⟨S512, .f32⟩
  | 89 => ⟨S512, .f32⟩
  | 90 => ⟨S512, .f32⟩
  | 91 => ⟨S512, .i1⟩
  | 92 => ⟨S512, .f32⟩
  | 93 => ⟨S512, .f32⟩
  | 94 => ⟨S512, .f32⟩
  | 95 => ⟨S512, .f32⟩
  | 96 => ⟨S512, .f32⟩
  | 97 => ⟨S512, .f32⟩
  | 98 => ⟨S512, .f32⟩
  | 99 => ⟨S512, .f32⟩
  | 100 => ⟨S_, .f32⟩
  | 101 => ⟨S512, .f32⟩
  | 102 => ⟨S512, .f32⟩
  | 103 => ⟨S1x1x512, .f32⟩
  | 104 => ⟨S4x4096x512, .f32⟩
  | 105 => ⟨S4x4096x512, .f32⟩
  | 106 => ⟨S4x4096x512, .f32⟩
  | 107 => ⟨S_, .f32⟩
  | 108 => ⟨S4x4096x512, .f32⟩
  | 109 => ⟨S4x4096x512, .f32⟩
  | 110 => ⟨S4x4096x512, .f32⟩
  | 111 => ⟨S4x4096x512, .f32⟩
  | 112 => ⟨S4x4096x512, .f32⟩
  | 113 => ⟨S4x4096x512, .f32⟩
  | 114 => ⟨S4x4096x512, .f32⟩
  | 115 => ⟨S_, .f32⟩
  | 116 => ⟨S4x512, .f32⟩
  | 117 => ⟨S4096x4x512, .f32⟩
  | 118 => ⟨S4096x4x512, .f32⟩
  | 119 => ⟨S_, .f32⟩
  | 120 => ⟨S4096x4x512, .f32⟩
  | 121 => ⟨S_, .i32⟩
  | 122 => ⟨S4096x4x512, .f32⟩
  | 123 => ⟨S4096x4x512, .f32⟩
  | 124 => ⟨S_, .i32⟩
  | 125 => ⟨S4x512, .f32⟩
  | 126 => ⟨S4096x4x512, .f32⟩
  | 127 => ⟨S_, .i32⟩
  | _ => ⟨S4x4096x4608, .f32⟩

abbrev hbmTy0_1 (i : Nat) : BufTy := match i % 128 with
  | 0 => ⟨S_, .i1⟩
  | 1 => ⟨S_, .i32⟩
  | 2 => ⟨S_, .i32⟩
  | 3 => ⟨S1x4x512, .f32⟩
  | 4 => ⟨S4x512, .f32⟩
  | 5 => ⟨S_, .i32⟩
  | 6 => ⟨S_, .i32⟩
  | 7 => ⟨S1x4x512, .f32⟩
  | 8 => ⟨S4x512, .f32⟩
  | 9 => ⟨S4x512, .f32⟩
  | 10 => ⟨S4x512, .f32⟩
  | 11 => ⟨S1x4x512, .f32⟩
  | 12 => ⟨S_, .i32⟩
  | 13 => ⟨S_, .i32⟩
  | 14 => ⟨S4096x4x512, .f32⟩
  | 15 => ⟨S_, .i32⟩
  | 16 => ⟨S_, .i32⟩
  | 17 => ⟨S4x4096x512, .f32⟩
  | 18 => ⟨S4x4096x512, .f32⟩
  | 19 => ⟨S4x4096x512, .f32⟩
  | 20 => ⟨S4x4096x512, .f32⟩
  | 21 => ⟨S_, .f32⟩
  | 22 => ⟨S4x4096x512, .f32⟩
  | 23 => ⟨S4x4096x512, .f32⟩
  | 24 => ⟨S4x4096x512, .f32⟩
  | 25 => ⟨S_, .f32⟩
  | 26 => ⟨S4x4096x512, .f32⟩
  | 27 => ⟨S4x4096x512, .f32⟩
  | 28 => ⟨S4x4096x512, .f32⟩
  | 29 => ⟨S_, .f32⟩
  | 30 => ⟨S4x4096x512, .f32⟩
  | 31 => ⟨S4x4096x512, .f32⟩
  | 32 => ⟨S_, .f32⟩
  | 33 => ⟨S4x4096x512, .f32⟩
  | 34 => ⟨S4x4096x512, .f32⟩
  | 35 => ⟨S4x4096x512, .f32⟩
  | 36 => ⟨S4x4096x512, .f32⟩
  | 37 => ⟨S4x4096x512, .bf16⟩
  | _ => ⟨S4x4096x4608, .f32⟩

abbrev hbmTy (i : Nat) : BufTy := match i / 128 with
  | 0 => hbmTy0_0 i
  | 1 => hbmTy0_1 i
  | _ => ⟨S4x4096x4608, .f32⟩

abbrev bufTy : (tb : Table) → Fin (tcTables nBuf tb) → BufTy
  | .hbm, ⟨i, _⟩ => hbmTy i
  | _, _ => ⟨S4x4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst : Ref sig .tc := ⟨.hbm, 65, rfl⟩
abbrev main_v55 : Ref sig .tc := ⟨.hbm, 66, rfl⟩
abbrev main_v56 : Ref sig .tc := ⟨.hbm, 67, rfl⟩
abbrev main_cst_0 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_1 : Ref sig .tc := ⟨.hbm, 79, rfl⟩
abbrev main_v67 : Ref sig .tc := ⟨.hbm, 80, rfl⟩
abbrev main_v68 : Ref sig .tc := ⟨.hbm, 81, rfl⟩
abbrev main_cst_2 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_v72 : Ref sig .tc := ⟨.hbm, 99, rfl⟩
abbrev main_cst_3 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_4 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_5 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_6 : Ref sig .tc := ⟨.hbm, 119, rfl⟩
abbrev main_v89 : Ref sig .tc := ⟨.hbm, 120, rfl⟩
abbrev main_c_7 : Ref sig .tc := ⟨.hbm, 121, rfl⟩
abbrev main_v90_0 : Ref sig .tc := ⟨.hbm, 122, rfl⟩
abbrev main_v90_1 : Ref sig .tc := ⟨.hbm, 123, rfl⟩
abbrev main_v90_2 : Ref sig .tc := ⟨.hbm, 124, rfl⟩
abbrev main_v90_3 : Ref sig .tc := ⟨.hbm, 125, rfl⟩
abbrev main_v90_4 : Ref sig .tc := ⟨.hbm, 126, rfl⟩
abbrev main_while0c_c_16 : Ref sig .tc := ⟨.hbm, 127, rfl⟩
abbrev main_while0c_v108 : Ref sig .tc := ⟨.hbm, 128, rfl⟩
abbrev main_while0b_call2_c : Ref sig .tc := ⟨.hbm, 129, rfl⟩
abbrev main_while0b_call2_c_0 : Ref sig .tc := ⟨.hbm, 130, rfl⟩
abbrev main_while0b_call2_v0 : Ref sig .tc := ⟨.hbm, 131, rfl⟩
abbrev main_while0b_v108 : Ref sig .tc := ⟨.hbm, 132, rfl⟩
abbrev main_while0b_call3_c : Ref sig .tc := ⟨.hbm, 133, rfl⟩
abbrev main_while0b_call3_c_0 : Ref sig .tc := ⟨.hbm, 134, rfl⟩
abbrev main_while0b_call3_v0 : Ref sig .tc := ⟨.hbm, 135, rfl⟩
abbrev main_while0b_v109 : Ref sig .tc := ⟨.hbm, 136, rfl⟩
abbrev main_while0b_v110 : Ref sig .tc := ⟨.hbm, 137, rfl⟩
abbrev main_while0b_v111 : Ref sig .tc := ⟨.hbm, 138, rfl⟩
abbrev main_while0b_call4_v0 : Ref sig .tc := ⟨.hbm, 139, rfl⟩
abbrev main_while0b_call4_c : Ref sig .tc := ⟨.hbm, 140, rfl⟩
abbrev main_while0b_call4_c_0 : Ref sig .tc := ⟨.hbm, 141, rfl⟩
abbrev main_while0b_v112 : Ref sig .tc := ⟨.hbm, 142, rfl⟩
abbrev main_while0b_c_16 : Ref sig .tc := ⟨.hbm, 143, rfl⟩
abbrev main_while0b_v113 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_8 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_9 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_10 : Ref sig .tc := ⟨.hbm, 157, rfl⟩
abbrev main_v101 : Ref sig .tc := ⟨.hbm, 158, rfl⟩
abbrev main_v102 : Ref sig .tc := ⟨.hbm, 159, rfl⟩
abbrev main_cst_11 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩

abbrev nD : Nat := 1
abbrev τ : Topo := Topo.v7x

variable {F : FTy → Type} [FloatOps F]

abbrev main_while0_count : Scf.Loop 32 := ⟨0#32, 4096#32, 1#32⟩
-- ==== Experts.lean ====
abbrev S8x128 : Shape := ⟨2, ![8, 128]⟩
abbrev S28160x1152 : Shape := ⟨2, ![28160, 1152]⟩
abbrev S4x16x1024x512 : Shape := ⟨4, ![4, 16, 1024, 512]⟩
abbrev S4x16x512x1024 : Shape := ⟨4, ![4, 16, 512, 1024]⟩
abbrev S1x1 : Shape := ⟨2, ![1, 1]⟩
abbrev S_ : Shape := ⟨0, ![]⟩
abbrev S8x1 : Shape := ⟨2, ![8, 1]⟩
abbrev S128 : Shape := ⟨1, ![128]⟩
abbrev S1x128 : Shape := ⟨2, ![1, 128]⟩
abbrev S28160x1024 : Shape := ⟨2, ![28160, 1024]⟩
abbrev S512x1152 : Shape := ⟨2, ![512, 1152]⟩
abbrev S1x1x1024x512 : Shape := ⟨4, ![1, 1, 1024, 512]⟩
abbrev S1x1x512x1024 : Shape := ⟨4, ![1, 1, 512, 1024]⟩
abbrev S512x1024 : Shape := ⟨2, ![512, 1024]⟩
abbrev S2x1024x512 : Shape := ⟨3, ![2, 1024, 512]⟩
abbrev S2x512x1024 : Shape := ⟨3, ![2, 512, 1024]⟩
abbrev S1024x512 : Shape := ⟨2, ![1024, 512]⟩
abbrev S1x1024x512 : Shape := ⟨3, ![1, 1024, 512]⟩
abbrev S1x512x1024 : Shape := ⟨3, ![1, 512, 1024]⟩
abbrev S512x512 : Shape := ⟨2, ![512, 512]⟩
abbrev S512x1 : Shape := ⟨2, ![512, 1]⟩
abbrev S256x1152 : Shape := ⟨2, ![256, 1152]⟩
abbrev S256x1024 : Shape := ⟨2, ![256, 1024]⟩
abbrev S256x512 : Shape := ⟨2, ![256, 512]⟩
abbrev S256x1 : Shape := ⟨2, ![256, 1]⟩

abbrev nBuf : Space → Nat
  | .hbm => 22
  | .vmem => 19
  | .smem => 2
  | _ => 0

abbrev bufTy : (tb : Table) → Fin (tcTables nBuf tb) → BufTy
  | .hbm, ⟨0, _⟩ => ⟨S28160x1152, .f32⟩
  | .hbm, ⟨1, _⟩ => ⟨S4x16x1024x512, .f32⟩
  | .hbm, ⟨2, _⟩ => ⟨S4x16x1024x512, .f32⟩
  | .hbm, ⟨3, _⟩ => ⟨S4x16x512x1024, .f32⟩
  | .hbm, ⟨4, _⟩ => ⟨S1x1, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S8x1, .i32⟩
  | .hbm, ⟨15, _⟩ => ⟨S128, .i32⟩
  | .hbm, ⟨16, _⟩ => ⟨S1x128, .i32⟩
  | .hbm, ⟨17, _⟩ => ⟨S1x128, .i32⟩
  | .hbm, ⟨18, _⟩ => ⟨S1x128, .i1⟩
  | .hbm, ⟨19, _⟩ => ⟨S8x128, .i1⟩
  | .hbm, ⟨20, _⟩ => ⟨S8x128, .i32⟩
  | .hbm, ⟨21, _⟩ => ⟨S28160x1024, .f32⟩
  | .local _ .vmem, ⟨0, _⟩ => ⟨S512x1152, .f32⟩
  | .local _ .vmem, ⟨1, _⟩ => ⟨S512x1152, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x1x1024x512, .f32⟩
  | .local _ .vmem, ⟨9, _⟩ => ⟨S1x1x1024x512, .f32⟩
  | .local _ .vmem, ⟨10, _⟩ => ⟨S1x1x1024x512, .f32⟩
  | .local _ .vmem, ⟨11, _⟩ => ⟨S1x1x1024x512, .f32⟩
  | .local _ .vmem, ⟨12, _⟩ => ⟨S1x1x512x1024, .f32⟩
  | .local _ .vmem, ⟨13, _⟩ => ⟨S1x1x512x1024, .f32⟩
  | .local _ .vmem, ⟨14, _⟩ => ⟨S512x1024, .f32⟩
  | .local _ .vmem, ⟨15, _⟩ => ⟨S512x1024, .f32⟩
  | .local _ .vmem, ⟨16, _⟩ => ⟨S2x1024x512, .bf16⟩
  | .local _ .vmem, ⟨17, _⟩ => ⟨S2x1024x512, .bf16⟩
  | .local _ .vmem, ⟨18, _⟩ => ⟨S2x512x1024, .bf16⟩
  | .local _ .smem, ⟨0, _⟩ => ⟨S8x128, .i32⟩
  | .local _ .smem, ⟨1, _⟩ => ⟨S8x128, .i32⟩
  | _, _ => ⟨S28160x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v14 : Ref sig .tc := ⟨.hbm, 21, rfl⟩
abbrev main_arg0 : Ref sig .tc := ⟨.smem, 0, rfl⟩
abbrev main_v13 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![55], ![false]⟩

abbrev pre0 : Pipeline.Prefetch sig := ⟨2, ![main_arg0.idx, main_v13.idx], fun | 0 => main_arg0.names | 1 => main_v13.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let c4 : Index := 4#32
  let arg0 : BitVec 32 := BitVec.ofNat 32 (i 0).val
  let v0 : Index := Scalar.indexCast arg0
  ![4, v0.toNat]
def k0_off2 (i : grid0.Coords) : Fin 2 → Nat :=
  let c0 : Index := 0#32
  let arg0 : BitVec 32 := BitVec.ofNat 32 (i 0).val
  let v0 : Index := Scalar.indexCast arg0
  ![0, v0.toNat]
def k0_off3 (i : grid0.Coords) : Fin 2 → Nat :=
  let c1 : Index := 1#32
  let arg0 : BitVec 32 := BitVec.ofNat 32 (i 0).val
  let v0 : Index := Scalar.indexCast arg0
  ![1, v0.toNat]
def k0_off4 (i : grid0.Coords) : Fin 2 → Nat :=
  let c0_2 : Index := 0#32
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v7 : Index := Scalar.indexCast v3
  ![0, v7.toNat]
def k0_off5 (i : grid0.Coords) : Fin 2 → Nat :=
  let c1 : Index := 1#32
  let arg0 : BitVec 32 := BitVec.ofNat 32 (i 0).val
  let v15 : Index := Scalar.indexCast arg0
  ![1, v15.toNat]
def k0_off6 (i : grid0.Coords) : Fin 2 → Nat :=
  let c1_5 : Index := 1#32
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v17 : Index := Scalar.indexCast v3
  ![1, v17.toNat]
def k0_off7 (i : grid0.Coords) : Fin 2 → Nat :=
  let c2 : Index := 2#32
  let arg0 : BitVec 32 := BitVec.ofNat 32 (i 0).val
  let v27 : Index := Scalar.indexCast arg0
  ![2, v27.toNat]
def k0_off8 (i : grid0.Coords) : Fin 2 → Nat :=
  let c2_9 : Index := 2#32
  let arg0 : BitVec 32 := BitVec.ofNat 32 (i 0).val
  let v33 : Index := Scalar.indexCast arg0
  ![2, v33.toNat]
def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v24 : BitVec 1 := Scalar.xori v1 v_true
  let v25 : BitVec 32 := Scalar.extui v24
  let c0_i32_7 : BitVec 32 := 0#32
  let v26 : BitVec 1 := Scalar.cmpi .ne v25 c0_i32_7
  v26

def k0_cond4 (i : grid0.Coords) (v0 : BitVec 32) (v28 : BitVec 32) : BitVec 1 :=
  let arg0 : BitVec 32 := BitVec.ofNat 32 (i 0).val
  let v1 : BitVec 1 := Scalar.cmpi .slt arg0 v0
  let c256_i32 : BitVec 32 := 256#32
  let v29 : BitVec 1 := Scalar.cmpi .sgt v28 c256_i32
  let v30 : BitVec 1 := Scalar.andi v1 v29
  let v31 : BitVec 32 := Scalar.extui v30
  let c0_i32_8 : BitVec 32 := 0#32
  let v32 : BitVec 1 := Scalar.cmpi .ne v31 c0_i32_8
  v32

def k0_cond5 (i : grid0.Coords) (v0 : BitVec 32) (v34 : BitVec 32) : BitVec 1 :=
  let arg0 : BitVec 32 := BitVec.ofNat 32 (i 0).val
  let v1 : BitVec 1 := Scalar.cmpi .slt arg0 v0
  let c256_i32_10 : BitVec 32 := 256#32
  let v35 : BitVec 1 := Scalar.cmpi .sle v34 c256_i32_10
  let v36 : BitVec 1 := Scalar.andi v1 v35
  let v37 : BitVec 32 := Scalar.extui v36
  let c0_i32_11 : BitVec 32 := 0#32
  let v38 : BitVec 1 := Scalar.cmpi .ne v37 c0_i32_11
  v38

def cc0_transform_0 (k0_off1_inb : ∀ i : grid0.Coords, ∀ a, (k0_off1 i) a + S1x1.size a ≤ S8x128.size a) (numel1_S1x1 : S1x1.numel = 1) (pf : pre0.Contents (Elt F)) (i : grid0.Coords) : Fin 2 → Nat :=
  let arg0 : BitVec 32 := BitVec.ofNat 32 (i 0).val
  let c4 : Index := 4#32
  let v0 : Index := Scalar.indexCast arg0
  let v1 : BitVec 32 := pf.at 1 (Rect.unit (s := S8x128) ![4, v0.toNat] S1x1.size (k0_off1_inb i)) numel1_S1x1
  let c0_i32 : BitVec 32 := 0#32
  let c0_i32_0 : BitVec 32 := 0#32
  ![v1.toNat, c0_i32.toNat]

def cc0_transform_1 (k0_off2_inb : ∀ i : grid0.Coords, ∀ a, (k0_off2 i) a + S1x1.size a ≤ S8x128.size a) (numel1_S1x1 : S1x1.numel = 1) (pf : pre0.Contents (Elt F)) (i : grid0.Coords) : Fin 4 → Nat :=
  let arg0 : BitVec 32 := BitVec.ofNat 32 (i 0).val
  let c0 : Index := 0#32
  let v0 : Index := Scalar.indexCast arg0
  let v1 : BitVec 32 := pf.at 1 (Rect.unit (s := S8x128) ![0, v0.toNat] S1x1.size (k0_off2_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off2_inb : ∀ i : grid0.Coords, ∀ a, (k0_off2 i) a + S1x1.size a ≤ S8x128.size a) (numel1_S1x1 : S1x1.numel = 1) (pf : pre0.Contents (Elt F)) (i : grid0.Coords) : Fin 4 → Nat :=
  let arg0 : BitVec 32 := BitVec.ofNat 32 (i 0).val
  let c0 : Index := 0#32
  let v0 : Index := Scalar.indexCast arg0
  let v1 : BitVec 32 := pf.at 1 (Rect.unit (s := S8x128) ![0, v0.toNat] S1x1.size (k0_off2_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off2_inb : ∀ i : grid0.Coords, ∀ a, (k0_off2 i) a + S1x1.size a ≤ S8x128.size a) (numel1_S1x1 : S1x1.numel = 1) (pf : pre0.Contents (Elt F)) (i : grid0.Coords) : Fin 4 → Nat :=
  let arg0 : BitVec 32 := BitVec.ofNat 32 (i 0).val
  let c0 : Index := 0#32
  let v0 : Index := Scalar.indexCast arg0
  let v1 : BitVec 32 := pf.at 1 (Rect.unit (s := S8x128) ![0, v0.toNat] S1x1.size (k0_off2_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off3_inb : ∀ i : grid0.Coords, ∀ a, (k0_off3 i) a + S1x1.size a ≤ S8x128.size a) (numel1_S1x1 : S1x1.numel = 1) (pf : pre0.Contents (Elt F)) (i : grid0.Coords) : Fin 4 → Nat :=
  let arg0 : BitVec 32 := BitVec.ofNat 32 (i 0).val
  let c1 : Index := 1#32
  let v0 : Index := Scalar.indexCast arg0
  let v1 : BitVec 32 := pf.at 1 (Rect.unit (s := S8x128) ![1, v0.toNat] S1x1.size (k0_off3_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off3_inb : ∀ i : grid0.Coords, ∀ a, (k0_off3 i) a + S1x1.size a ≤ S8x128.size a) (numel1_S1x1 : S1x1.numel = 1) (pf : pre0.Contents (Elt F)) (i : grid0.Coords) : Fin 4 → Nat :=
  let arg0 : BitVec 32 := BitVec.ofNat 32 (i 0).val
  let c1 : Index := 1#32
  let v0 : Index := Scalar.indexCast arg0
  let v1 : BitVec 32 := pf.at 1 (Rect.unit (s := S8x128) ![1, v0.toNat] S1x1.size (k0_off3_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off3_inb : ∀ i : grid0.Coords, ∀ a, (k0_off3 i) a + S1x1.size a ≤ S8x128.size a) (numel1_S1x1 : S1x1.numel = 1) (pf : pre0.Contents (Elt F)) (i : grid0.Coords) : Fin 4 → Nat :=
  let arg0 : BitVec 32 := BitVec.ofNat 32 (i 0).val
  let c1 : Index := 1#32
  let v0 : Index := Scalar.indexCast arg0
  let v1 : BitVec 32 := pf.at 1 (Rect.unit (s := S8x128) ![1, v0.toNat] S1x1.size (k0_off3_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (k0_off1_inb : ∀ i : grid0.Coords, ∀ a, (k0_off1 i) a + S1x1.size a ≤ S8x128.size a) (numel1_S1x1 : S1x1.numel = 1) (pf : pre0.Contents (Elt F)) (i : grid0.Coords) : Fin 2 → Nat :=
  let arg0 : BitVec 32 := BitVec.ofNat 32 (i 0).val
  let c4 : Index := 4#32
  let v0 : Index := Scalar.indexCast arg0
  let v1 : BitVec 32 := pf.at 0 (Rect.unit (s := S8x128) ![4, v0.toNat] S1x1.size (k0_off1_inb i)) numel1_S1x1
  let c0_i32 : BitVec 32 := 0#32
  let c0_i32_0 : BitVec 32 := 0#32
  ![v1.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsReferenceIdeal.lean ====
abbrev S8x128 : Shape := ⟨2, ![8, 128]⟩
abbrev S28160x1152 : Shape := ⟨2, ![28160, 1152]⟩
abbrev S4x16x1024x512 : Shape := ⟨4, ![4, 16, 1024, 512]⟩
abbrev S4x16x512x1024 : Shape := ⟨4, ![4, 16, 512, 1024]⟩
abbrev S1x16x1024x512 : Shape := ⟨4, ![1, 16, 1024, 512]⟩
abbrev S16x1024x512 : Shape := ⟨3, ![16, 1024, 512]⟩
abbrev S1x16x512x1024 : Shape := ⟨4, ![1, 16, 512, 1024]⟩
abbrev S16x512x1024 : Shape := ⟨3, ![16, 512, 1024]⟩
abbrev S28160x1024 : Shape := ⟨2, ![28160, 1024]⟩
abbrev S1x55 : Shape := ⟨2, ![1, 55]⟩
abbrev S55 : Shape := ⟨1, ![55]⟩
abbrev S55x1 : Shape := ⟨2, ![55, 1]⟩
abbrev S55x55 : Shape := ⟨2, ![55, 55]⟩
abbrev S1x1 : Shape := ⟨2, ![1, 1]⟩
abbrev S_ : Shape := ⟨0, ![]⟩
abbrev S28160x16 : Shape := ⟨2, ![28160, 16]⟩
abbrev S16 : Shape := ⟨1, ![16]⟩
abbrev S1x16 : Shape := ⟨2, ![1, 16]⟩
abbrev S55x16 : Shape := ⟨2, ![55, 16]⟩
abbrev S28160x1 : Shape := ⟨2, ![28160, 1]⟩
abbrev S55x512x16 : Shape := ⟨3, ![55, 512, 16]⟩
abbrev S1x1024x512 : Shape := ⟨3, ![1, 1024, 512]⟩
abbrev S1024x512 : Shape := ⟨2, ![1024, 512]⟩
abbrev S28160x512 : Shape := ⟨2, ![28160, 512]⟩
abbrev S1x512x1024 : Shape := ⟨3, ![1, 512, 1024]⟩
abbrev S512x1024 : Shape := ⟨2, ![512, 1024]⟩

abbrev nBuf : Space → Nat
  | .hbm => 452
  | .vmem => 0
  | .smem => 0
  | _ => 0

abbrev hbmTy0_0 (i : Nat) : BufTy := match i % 128 with
  | 0 => ⟨S8x128, .i32⟩
  | 1 => ⟨S28160x1152, .f32⟩
  | 2 => ⟨S4x16x1024x512, .f32⟩
  | 3 => ⟨S4x16x1024x512, .f32⟩
  | 4 => ⟨S4x16x512x1024, .f32⟩
  | 5 => ⟨S1x16x1024x512, .f32⟩
  | 6 => ⟨S16x1024x512, .f32⟩
  | 7 => ⟨S1x16x1024x512, .f32⟩
  | 8 => ⟨S16x1024x512, .f32⟩
  | 9 => ⟨S1x16x512x1024, .f32⟩
  | 10 => ⟨S16x512x1024, .f32⟩
  | 11 => ⟨S28160x1024, .f32⟩
  | 12 => ⟨S1x55, .i32⟩
  | 13 => ⟨S55, .i32⟩
  | 14 => ⟨S1x55, .i32⟩
  | 15 => ⟨S55, .i32⟩
  | 16 => ⟨S55x1, .i32⟩
  | 17 => ⟨S55x55, .i32⟩
  | 18 => ⟨S55x55, .i32⟩
  | 19 => ⟨S55x55, .i1⟩
  | 20 => ⟨S55, .i32⟩
  | 21 => ⟨S1x55, .i32⟩
  | 22 => ⟨S1x1, .i32⟩
  | 23 => ⟨S_, .i32⟩
  | 24 => ⟨S1x55, .i32⟩
  | 25 => ⟨S1x55, .i1⟩
  | 26 => ⟨S55x55, .i1⟩
  | 27 => ⟨S55x55, .i1⟩
  | 28 => ⟨S_, .f32⟩
  | 29 => ⟨S28160x16, .f32⟩
  | 30 => ⟨S1x55, .i32⟩
  | 31 => ⟨S55, .i32⟩
  | 32 => ⟨S55x1, .i32⟩
  | 33 => ⟨S16, .i32⟩
  | 34 => ⟨S1x16, .i32⟩
  | 35 => ⟨S55x16, .i32⟩
  | 36 => ⟨S55x16, .i32⟩
  | 37 => ⟨S55x16, .i1⟩
  | 38 => ⟨S_, .f32⟩
  | 39 => ⟨S_, .f32⟩
  | 40 => ⟨S55x55, .f32⟩
  | 41 => ⟨S55x55, .f32⟩
  | 42 => ⟨S55x55, .f32⟩
  | 43 => ⟨S_, .f32⟩
  | 44 => ⟨S_, .f32⟩
  | 45 => ⟨S55x16, .f32⟩
  | 46 => ⟨S55x16, .f32⟩
  | 47 => ⟨S55x16, .f32⟩
  | 48 => ⟨S55x16, .f32⟩
  | 49 => ⟨S28160x1, .f32⟩
  | 50 => ⟨S55x512x16, .f32⟩
  | 51 => ⟨S28160x16, .f32⟩
  | 52 => ⟨S28160x16, .f32⟩
  | 53 => ⟨S28160x16, .f32⟩
  | 54 => ⟨S28160x16, .f32⟩
  | 55 => ⟨S28160x16, .f32⟩
  | 56 => ⟨S1x55, .i32⟩
  | 57 => ⟨S55, .i32⟩
  | 58 => ⟨S55x1, .i32⟩
  | 59 => ⟨S16, .i32⟩
  | 60 => ⟨S1x16, .i32⟩
  | 61 => ⟨S55x16, .i32⟩
  | 62 => ⟨S55x16, .i32⟩
  | 63 => ⟨S55x16, .i1⟩
  | 64 => ⟨S_, .f32⟩
  | 65 => ⟨S_, .f32⟩
  | 66 => ⟨S55x55, .f32⟩
  | 67 => ⟨S55x55, .f32⟩
  | 68 => ⟨S55x55, .f32⟩
  | 69 => ⟨S_, .f32⟩
  | 70 => ⟨S_, .f32⟩
  | 71 => ⟨S55x16, .f32⟩
  | 72 => ⟨S55x16, .f32⟩
  | 73 => ⟨S55x16, .f32⟩
  | 74 => ⟨S55x16, .f32⟩
  | 75 => ⟨S28160x1, .f32⟩
  | 76 => ⟨S55x512x16, .f32⟩
  | 77 => ⟨S28160x16, .f32⟩
  | 78 => ⟨S28160x16, .f32⟩
  | 79 => ⟨S28160x16, .f32⟩
  | 80 => ⟨S28160x16, .f32⟩
  | 81 => ⟨S28160x16, .f32⟩
  | 82 => ⟨S_, .f32⟩
  | 83 => ⟨S28160x1024, .f32⟩
  | 84 => ⟨S1x1024x512, .f32⟩
  | 85 => ⟨S1024x512, .f32⟩
  | 86 => ⟨S28160x512, .f32⟩
  | 87 => ⟨S28160x512, .f32⟩
  | 88 => ⟨S28160x512, .f32⟩
  | 89 => ⟨S_, .f32⟩
  | 90 => ⟨S28160x512, .f32⟩
  | 91 => ⟨S28160x512, .f32⟩
  | 92 => ⟨S_, .f32⟩
  | 93 => ⟨S28160x512, .f32⟩
  | 94 => ⟨S28160x512, .f32⟩
  | 95 => ⟨S28160x512, .f32⟩
  | 96 => ⟨S1x1024x512, .f32⟩
  | 97 => ⟨S1024x512, .f32⟩
  | 98 => ⟨S28160x512, .f32⟩
  | 99 => ⟨S28160x512, .f32⟩
  | 100 => ⟨S28160x1, .f32⟩
  | 101 => ⟨S1x512x1024, .f32⟩
  | 102 => ⟨S512x1024, .f32⟩
  | 103 => ⟨S28160x1024, .f32⟩
  | 104 => ⟨S28160x1024, .f32⟩
  | 105 => ⟨S28160x1024, .f32⟩
  | 106 => ⟨S28160x1024, .f32⟩
  | 107 => ⟨S1x1024x512, .f32⟩
  | 108 => ⟨S1024x512, .f32⟩
  | 109 => ⟨S28160x512, .f32⟩
  | 110 => ⟨S28160x512, .f32⟩
  | 111 => ⟨S28160x512, .f32⟩
  | 112 => ⟨S_, .f32⟩
  | 113 => ⟨S28160x512, .f32⟩
  | 114 => ⟨S28160x512, .f32⟩
  | 115 => ⟨S_, .f32⟩
  | 116 => ⟨S28160x512, .f32⟩
  | 117 => ⟨S28160x512, .f32⟩
  | 118 => ⟨S28160x512, .f32⟩
  | 119 => ⟨S1x1024x512, .f32⟩
  | 120 => ⟨S1024x512, .f32⟩
  | 121 => ⟨S28160x512, .f32⟩
  | 122 => ⟨S28160x512, .f32⟩
  | 123 => ⟨S28160x1, .f32⟩
  | 124 => ⟨S1x512x1024, .f32⟩
  | 125 => ⟨S512x1024, .f32⟩
  | 126 => ⟨S28160x1024, .f32⟩
  | 127 => ⟨S28160x1024, .f32⟩
  | _ => ⟨S8x128, .i32⟩

abbrev hbmTy0_1 (i : Nat) : BufTy := match i % 128 with
  | 0 => ⟨S28160x1024, .f32⟩
  | 1 => ⟨S28160x1024, .f32⟩
  | 2 => ⟨S1x1024x512, .f32⟩
  | 3 => ⟨S1024x512, .f32⟩
  | 4 => ⟨S28160x512, .f32⟩
  | 5 => ⟨S28160x512, .f32⟩
  | 6 => ⟨S28160x512, .f32⟩
  | 7 => ⟨S_, .f32⟩
  | 8 => ⟨S28160x512, .f32⟩
  | 9 => ⟨S28160x512, .f32⟩
  | 10 => ⟨S_, .f32⟩
  | 11 => ⟨S28160x512, .f32⟩
  | 12 => ⟨S28160x512, .f32⟩
  | 13 => ⟨S28160x512, .f32⟩
  | 14 => ⟨S1x1024x512, .f32⟩
  | 15 => ⟨S1024x512, .f32⟩
  | 16 => ⟨S28160x512, .f32⟩
  | 17 => ⟨S28160x512, .f32⟩
  | 18 => ⟨S28160x1, .f32⟩
  | 19 => ⟨S1x512x1024, .f32⟩
  | 20 => ⟨S512x1024, .f32⟩
  | 21 => ⟨S28160x1024, .f32⟩
  | 22 => ⟨S28160x1024, .f32⟩
  | 23 => ⟨S28160x1024, .f32⟩
  | 24 => ⟨S28160x1024, .f32⟩
  | 25 => ⟨S1x1024x512, .f32⟩
  | 26 => ⟨S1024x512, .f32⟩
  | 27 => ⟨S28160x512, .f32⟩
  | 28 => ⟨S28160x512, .f32⟩
  | 29 => ⟨S28160x512, .f32⟩
  | 30 => ⟨S_, .f32⟩
  | 31 => ⟨S28160x512, .f32⟩
  | 32 => ⟨S28160x512, .f32⟩
  | 33 => ⟨S_, .f32⟩
  | 34 => ⟨S28160x512, .f32⟩
  | 35 => ⟨S28160x512, .f32⟩
  | 36 => ⟨S28160x512, .f32⟩
  | 37 => ⟨S1x1024x512, .f32⟩
  | 38 => ⟨S1024x512, .f32⟩
  | 39 => ⟨S28160x512, .f32⟩
  | 40 => ⟨S28160x512, .f32⟩
  | 41 => ⟨S28160x1, .f32⟩
  | 42 => ⟨S1x512x1024, .f32⟩
  | 43 => ⟨S512x1024, .f32⟩
  | 44 => ⟨S28160x1024, .f32⟩
  | 45 => ⟨S28160x1024, .f32⟩
  | 46 => ⟨S28160x1024, .f32⟩
  | 47 => ⟨S28160x1024, .f32⟩
  | 48 => ⟨S1x1024x512, .f32⟩
  | 49 => ⟨S1024x512, .f32⟩
  | 50 => ⟨S28160x512, .f32⟩
  | 51 => ⟨S28160x512, .f32⟩
  | 52 => ⟨S28160x512, .f32⟩
  | 53 => ⟨S_, .f32⟩
  | 54 => ⟨S28160x512, .f32⟩
  | 55 => ⟨S28160x512, .f32⟩
  | 56 => ⟨S_, .f32⟩
  | 57 => ⟨S28160x512, .f32⟩
  | 58 => ⟨S28160x512, .f32⟩
  | 59 => ⟨S28160x512, .f32⟩
  | 60 => ⟨S1x1024x512, .f32⟩
  | 61 => ⟨S1024x512, .f32⟩
  | 62 => ⟨S28160x512, .f32⟩
  | 63 => ⟨S28160x512, .f32⟩
  | 64 => ⟨S28160x1, .f32⟩
  | 65 => ⟨S1x512x1024, .f32⟩
  | 66 => ⟨S512x1024, .f32⟩
  | 67 => ⟨S28160x1024, .f32⟩
  | 68 => ⟨S28160x1024, .f32⟩
  | 69 => ⟨S28160x1024, .f32⟩
  | 70 => ⟨S28160x1024, .f32⟩
  | 71 => ⟨S1x1024x512, .f32⟩
  | 72 => ⟨S1024x512, .f32⟩
  | 73 => ⟨S28160x512, .f32⟩
  | 74 => ⟨S28160x512, .f32⟩
  | 75 => ⟨S28160x512, .f32⟩
  | 76 => ⟨S_, .f32⟩
  | 77 => ⟨S28160x512, .f32⟩
  | 78 => ⟨S28160x512, .f32⟩
  | 79 => ⟨S_, .f32⟩
  | 80 => ⟨S28160x512, .f32⟩
  | 81 => ⟨S28160x512, .f32⟩
  | 82 => ⟨S28160x512, .f32⟩
  | 83 => ⟨S1x1024x512, .f32⟩
  | 84 => ⟨S1024x512, .f32⟩
  | 85 => ⟨S28160x512, .f32⟩
  | 86 => ⟨S28160x512, .f32⟩
  | 87 => ⟨S28160x1, .f32⟩
  | 88 => ⟨S1x512x1024, .f32⟩
  | 89 => ⟨S512x1024, .f32⟩
  | 90 => ⟨S28160x1024, .f32⟩
  | 91 => ⟨S28160x1024, .f32⟩
  | 92 => ⟨S28160x1024, .f32⟩
  | 93 => ⟨S28160x1024, .f32⟩
  | 94 => ⟨S1x1024x512, .f32⟩
  | 95 => ⟨S1024x512, .f32⟩
  | 96 => ⟨S28160x512, .f32⟩
  | 97 => ⟨S28160x512, .f32⟩
  | 98 => ⟨S28160x512, .f32⟩
  | 99 => ⟨S_, .f32⟩
  | 100 => ⟨S28160x512, .f32⟩
  | 101 => ⟨S28160x512, .f32⟩
  | 102 => ⟨S_, .f32⟩
  | 103 => ⟨S28160x512, .f32⟩
  | 104 => ⟨S28160x512, .f32⟩
  | 105 => ⟨S28160x512, .f32⟩
  | 106 => ⟨S1x1024x512, .f32⟩
  | 107 => ⟨S1024x512, .f32⟩
  | 108 => ⟨S28160x512, .f32⟩
  | 109 => ⟨S28160x512, .f32⟩
  | 110 => ⟨S28160x1, .f32⟩
  | 111 => ⟨S1x512x1024, .f32⟩
  | 112 => ⟨S512x1024, .f32⟩
  | 113 => ⟨S28160x1024, .f32⟩
  | 114 => ⟨S28160x1024, .f32⟩
  | 115 => ⟨S28160x1024, .f32⟩
  | 116 => ⟨S28160x1024, .f32⟩
  | 117 => ⟨S1x1024x512, .f32⟩
  | 118 => ⟨S1024x512, .f32⟩
  | 119 => ⟨S28160x512, .f32⟩
  | 120 => ⟨S28160x512, .f32⟩
  | 121 => ⟨S28160x512, .f32⟩
  | 122 => ⟨S_, .f32⟩
  | 123 => ⟨S28160x512, .f32⟩
  | 124 => ⟨S28160x512, .f32⟩
  | 125 => ⟨S_, .f32⟩
  | 126 => ⟨S28160x512, .f32⟩
  | 127 => ⟨S28160x512, .f32⟩
  | _ => ⟨S8x128, .i32⟩

abbrev hbmTy0_2 (i : Nat) : BufTy := match i % 128 with
  | 0 => ⟨S28160x512, .f32⟩
  | 1 => ⟨S1x1024x512, .f32⟩
  | 2 => ⟨S1024x512, .f32⟩
  | 3 => ⟨S28160x512, .f32⟩
  | 4 => ⟨S28160x512, .f32⟩
  | 5 => ⟨S28160x1, .f32⟩
  | 6 => ⟨S1x512x1024, .f32⟩
  | 7 => ⟨S512x1024, .f32⟩
  | 8 => ⟨S28160x1024, .f32⟩
  | 9 => ⟨S28160x1024, .f32⟩
  | 10 => ⟨S28160x1024, .f32⟩
  | 11 => ⟨S28160x1024, .f32⟩
  | 12 => ⟨S1x1024x512, .f32⟩
  | 13 => ⟨S1024x512, .f32⟩
  | 14 => ⟨S28160x512, .f32⟩
  | 15 => ⟨S28160x512, .f32⟩
  | 16 => ⟨S28160x512, .f32⟩
  | 17 => ⟨S_, .f32⟩
  | 18 => ⟨S28160x512, .f32⟩
  | 19 => ⟨S28160x512, .f32⟩
  | 20 => ⟨S_, .f32⟩
  | 21 => ⟨S28160x512, .f32⟩
  | 22 => ⟨S28160x512, .f32⟩
  | 23 => ⟨S28160x512, .f32⟩
  | 24 => ⟨S1x1024x512, .f32⟩
  | 25 => ⟨S1024x512, .f32⟩
  | 26 => ⟨S28160x512, .f32⟩
  | 27 => ⟨S28160x512, .f32⟩
  | 28 => ⟨S28160x1, .f32⟩
  | 29 => ⟨S1x512x1024, .f32⟩
  | 30 => ⟨S512x1024, .f32⟩
  | 31 => ⟨S28160x1024, .f32⟩
  | 32 => ⟨S28160x1024, .f32⟩
  | 33 => ⟨S28160x1024, .f32⟩
  | 34 => ⟨S28160x1024, .f32⟩
  | 35 => ⟨S1x1024x512, .f32⟩
  | 36 => ⟨S1024x512, .f32⟩
  | 37 => ⟨S28160x512, .f32⟩
  | 38 => ⟨S28160x512, .f32⟩
  | 39 => ⟨S28160x512, .f32⟩
  | 40 => ⟨S_, .f32⟩
  | 41 => ⟨S28160x512, .f32⟩
  | 42 => ⟨S28160x512, .f32⟩
  | 43 => ⟨S_, .f32⟩
  | 44 => ⟨S28160x512, .f32⟩
  | 45 => ⟨S28160x512, .f32⟩
  | 46 => ⟨S28160x512, .f32⟩
  | 47 => ⟨S1x1024x512, .f32⟩
  | 48 => ⟨S1024x512, .f32⟩
  | 49 => ⟨S28160x512, .f32⟩
  | 50 => ⟨S28160x512, .f32⟩
  | 51 => ⟨S28160x1, .f32⟩
  | 52 => ⟨S1x512x1024, .f32⟩
  | 53 => ⟨S512x1024, .f32⟩
  | 54 => ⟨S28160x1024, .f32⟩
  | 55 => ⟨S28160x1024, .f32⟩
  | 56 => ⟨S28160x1024, .f32⟩
  | 57 => ⟨S28160x1024, .f32⟩
  | 58 => ⟨S1x1024x512, .f32⟩
  | 59 => ⟨S1024x512, .f32⟩
  | 60 => ⟨S28160x512, .f32⟩
  | 61 => ⟨S28160x512, .f32⟩
  | 62 => ⟨S28160x512, .f32⟩
  | 63 => ⟨S_, .f32⟩
  | 64 => ⟨S28160x512, .f32⟩
  | 65 => ⟨S28160x512, .f32⟩
  | 66 => ⟨S_, .f32⟩
  | 67 => ⟨S28160x512, .f32⟩
  | 68 => ⟨S28160x512, .f32⟩
  | 69 => ⟨S28160x512, .f32⟩
  | 70 => ⟨S1x1024x512, .f32⟩
  | 71 => ⟨S1024x512, .f32⟩
  | 72 => ⟨S28160x512, .f32⟩
  | 73 => ⟨S28160x512, .f32⟩
  | 74 => ⟨S28160x1, .f32⟩
  | 75 => ⟨S1x512x1024, .f32⟩
  | 76 => ⟨S512x1024, .f32⟩
  | 77 => ⟨S28160x1024, .f32⟩
  | 78 => ⟨S28160x1024, .f32⟩
  | 79 => ⟨S28160x1024, .f32⟩
  | 80 => ⟨S28160x1024, .f32⟩
  | 81 => ⟨S1x1024x512, .f32⟩
  | 82 => ⟨S1024x512, .f32⟩
  | 83 => ⟨S28160x512, .f32⟩
  | 84 => ⟨S28160x512, .f32⟩
  | 85 => ⟨S28160x512, .f32⟩
  | 86 => ⟨S_, .f32⟩
  | 87 => ⟨S28160x512, .f32⟩
  | 88 => ⟨S28160x512, .f32⟩
  | 89 => ⟨S_, .f32⟩
  | 90 => ⟨S28160x512, .f32⟩
  | 91 => ⟨S28160x512, .f32⟩
  | 92 => ⟨S28160x512, .f32⟩
  | 93 => ⟨S1x1024x512, .f32⟩
  | 94 => ⟨S1024x512, .f32⟩
  | 95 => ⟨S28160x512, .f32⟩
  | 96 => ⟨S28160x512, .f32⟩
  | 97 => ⟨S28160x1, .f32⟩
  | 98 => ⟨S1x512x1024, .f32⟩
  | 99 => ⟨S512x1024, .f32⟩
  | 100 => ⟨S28160x1024, .f32⟩
  | 101 => ⟨S28160x1024, .f32⟩
  | 102 => ⟨S28160x1024, .f32⟩
  | 103 => ⟨S28160x1024, .f32⟩
  | 104 => ⟨S1x1024x512, .f32⟩
  | 105 => ⟨S1024x512, .f32⟩
  | 106 => ⟨S28160x512, .f32⟩
  | 107 => ⟨S28160x512, .f32⟩
  | 108 => ⟨S28160x512, .f32⟩
  | 109 => ⟨S_, .f32⟩
  | 110 => ⟨S28160x512, .f32⟩
  | 111 => ⟨S28160x512, .f32⟩
  | 112 => ⟨S_, .f32⟩
  | 113 => ⟨S28160x512, .f32⟩
  | 114 => ⟨S28160x512, .f32⟩
  | 115 => ⟨S28160x512, .f32⟩
  | 116 => ⟨S1x1024x512, .f32⟩
  | 117 => ⟨S1024x512, .f32⟩
  | 118 => ⟨S28160x512, .f32⟩
  | 119 => ⟨S28160x512, .f32⟩
  | 120 => ⟨S28160x1, .f32⟩
  | 121 => ⟨S1x512x1024, .f32⟩
  | 122 => ⟨S512x1024, .f32⟩
  | 123 => ⟨S28160x1024, .f32⟩
  | 124 => ⟨S28160x1024, .f32⟩
  | 125 => ⟨S28160x1024, .f32⟩
  | 126 => ⟨S28160x1024, .f32⟩
  | 127 => ⟨S1x1024x512, .f32⟩
  | _ => ⟨S8x128, .i32⟩

abbrev hbmTy0_3 (i : Nat) : BufTy := match i % 128 with
  | 0 => ⟨S1024x512, .f32⟩
  | 1 => ⟨S28160x512, .f32⟩
  | 2 => ⟨S28160x512, .f32⟩
  | 3 => ⟨S28160x512, .f32⟩
  | 4 => ⟨S_, .f32⟩
  | 5 => ⟨S28160x512, .f32⟩
  | 6 => ⟨S28160x512, .f32⟩
  | 7 => ⟨S_, .f32⟩
  | 8 => ⟨S28160x512, .f32⟩
  | 9 => ⟨S28160x512, .f32⟩
  | 10 => ⟨S28160x512, .f32⟩
  | 11 => ⟨S1x1024x512, .f32⟩
  | 12 => ⟨S1024x512, .f32⟩
  | 13 => ⟨S28160x512, .f32⟩
  | 14 => ⟨S28160x512, .f32⟩
  | 15 => ⟨S28160x1, .f32⟩
  | 16 => ⟨S1x512x1024, .f32⟩
  | 17 => ⟨S512x1024, .f32⟩
  | 18 => ⟨S28160x1024, .f32⟩
  | 19 => ⟨S28160x1024, .f32⟩
  | 20 => ⟨S28160x1024, .f32⟩
  | 21 => ⟨S28160x1024, .f32⟩
  | 22 => ⟨S1x1024x512, .f32⟩
  | 23 => ⟨S1024x512, .f32⟩
  | 24 => ⟨S28160x512, .f32⟩
  | 25 => ⟨S28160x512, .f32⟩
  | 26 => ⟨S28160x512, .f32⟩
  | 27 => ⟨S_, .f32⟩
  | 28 => ⟨S28160x512, .f32⟩
  | 29 => ⟨S28160x512, .f32⟩
  | 30 => ⟨S_, .f32⟩
  | 31 => ⟨S28160x512, .f32⟩
  | 32 => ⟨S28160x512, .f32⟩
  | 33 => ⟨S28160x512, .f32⟩
  | 34 => ⟨S1x1024x512, .f32⟩
  | 35 => ⟨S1024x512, .f32⟩
  | 36 => ⟨S28160x512, .f32⟩
  | 37 => ⟨S28160x512, .f32⟩
  | 38 => ⟨S28160x1, .f32⟩
  | 39 => ⟨S1x512x1024, .f32⟩
  | 40 => ⟨S512x1024, .f32⟩
  | 41 => ⟨S28160x1024, .f32⟩
  | 42 => ⟨S28160x1024, .f32⟩
  | 43 => ⟨S28160x1024, .f32⟩
  | 44 => ⟨S28160x1024, .f32⟩
  | 45 => ⟨S1x1024x512, .f32⟩
  | 46 => ⟨S1024x512, .f32⟩
  | 47 => ⟨S28160x512, .f32⟩
  | 48 => ⟨S28160x512, .f32⟩
  | 49 => ⟨S28160x512, .f32⟩
  | 50 => ⟨S_, .f32⟩
  | 51 => ⟨S28160x512, .f32⟩
  | 52 => ⟨S28160x512, .f32⟩
  | 53 => ⟨S_, .f32⟩
  | 54 => ⟨S28160x512, .f32⟩
  | 55 => ⟨S28160x512, .f32⟩
  | 56 => ⟨S28160x512, .f32⟩
  | 57 => ⟨S1x1024x512, .f32⟩
  | 58 => ⟨S1024x512, .f32⟩
  | 59 => ⟨S28160x512, .f32⟩
  | 60 => ⟨S28160x512, .f32⟩
  | 61 => ⟨S28160x1, .f32⟩
  | 62 => ⟨S1x512x1024, .f32⟩
  | 63 => ⟨S512x1024, .f32⟩
  | 64 => ⟨S28160x1024, .f32⟩
  | 65 => ⟨S28160x1024, .f32⟩
  | 66 => ⟨S28160x1024, .f32⟩
  | 67 => ⟨S28160x1024, .f32⟩
  | _ => ⟨S8x128, .i32⟩

abbrev hbmTy (i : Nat) : BufTy := match i / 128 with
  | 0 => hbmTy0_0 i
  | 1 => hbmTy0_1 i
  | 2 => hbmTy0_2 i
  | 3 => hbmTy0_3 i
  | _ => ⟨S8x128, .i32⟩

abbrev bufTy : (tb : Table) → Fin (tcTables nBuf tb) → BufTy
  | .hbm, ⟨i, _⟩ => hbmTy i
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_0 : Ref sig .tc := ⟨.hbm, 38, rfl⟩
abbrev main_cst_1 : Ref sig .tc := ⟨.hbm, 39, rfl⟩
abbrev main_call0_v0 : Ref sig .tc := ⟨.hbm, 40, rfl⟩
abbrev main_call0_v1 : Ref sig .tc := ⟨.hbm, 41, rfl⟩
abbrev main_v32 : Ref sig .tc := ⟨.hbm, 42, rfl⟩
abbrev main_cst_2 : Ref sig .tc := ⟨.hbm, 43, rfl⟩
abbrev main_cst_3 : Ref sig .tc := ⟨.hbm, 44, rfl⟩
abbrev main_call1_v0 : Ref sig .tc := ⟨.hbm, 45, rfl⟩
abbrev main_call1_v1 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_4 : Ref sig .tc := ⟨.hbm, 64, rfl⟩
abbrev main_cst_5 : Ref sig .tc := ⟨.hbm, 65, rfl⟩
abbrev main_call2_v0 : Ref sig .tc := ⟨.hbm, 66, rfl⟩
abbrev main_call2_v1 : Ref sig .tc := ⟨.hbm, 67, rfl⟩
abbrev main_v50 : Ref sig .tc := ⟨.hbm, 68, rfl⟩
abbrev main_cst_6 : Ref sig .tc := ⟨.hbm, 69, rfl⟩
abbrev main_cst_7 : Ref sig .tc := ⟨.hbm, 70, rfl⟩
abbrev main_call3_v0 : Ref sig .tc := ⟨.hbm, 71, rfl⟩
abbrev main_call3_v1 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call4_v0 : Ref sig .tc := ⟨.hbm, 87, rfl⟩
abbrev main_call4_v1 : Ref sig .tc := ⟨.hbm, 88, rfl⟩
abbrev main_call4_cst : Ref sig .tc := ⟨.hbm, 89, rfl⟩
abbrev main_call4_v2 : Ref sig .tc := ⟨.hbm, 90, rfl⟩
abbrev main_call4_v3 : Ref sig .tc := ⟨.hbm, 91, rfl⟩
abbrev main_call4_cst_0 : Ref sig .tc := ⟨.hbm, 92, rfl⟩
abbrev main_call4_v4 : Ref sig .tc := ⟨.hbm, 93, rfl⟩
abbrev main_call4_v5 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_call5_v0 : Ref sig .tc := ⟨.hbm, 110, rfl⟩
abbrev main_call5_v1 : Ref sig .tc := ⟨.hbm, 111, rfl⟩
abbrev main_call5_cst : Ref sig .tc := ⟨.hbm, 112, rfl⟩
abbrev main_call5_v2 : Ref sig .tc := ⟨.hbm, 113, rfl⟩
abbrev main_call5_v3 : Ref sig .tc := ⟨.hbm, 114, rfl⟩
abbrev main_call5_cst_0 : Ref sig .tc := ⟨.hbm, 115, rfl⟩
abbrev main_call5_v4 : Ref sig .tc := ⟨.hbm, 116, rfl⟩
abbrev main_call5_v5 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_call6_v0 : Ref sig .tc := ⟨.hbm, 133, rfl⟩
abbrev main_call6_v1 : Ref sig .tc := ⟨.hbm, 134, rfl⟩
abbrev main_call6_cst : Ref sig .tc := ⟨.hbm, 135, rfl⟩
abbrev main_call6_v2 : Ref sig .tc := ⟨.hbm, 136, rfl⟩
abbrev main_call6_v3 : Ref sig .tc := ⟨.hbm, 137, rfl⟩
abbrev main_call6_cst_0 : Ref sig .tc := ⟨.hbm, 138, rfl⟩
abbrev main_call6_v4 : Ref sig .tc := ⟨.hbm, 139, rfl⟩
abbrev main_call6_v5 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_call7_v0 : Ref sig .tc := ⟨.hbm, 156, rfl⟩
abbrev main_call7_v1 : Ref sig .tc := ⟨.hbm, 157, rfl⟩
abbrev main_call7_cst : Ref sig .tc := ⟨.hbm, 158, rfl⟩
abbrev main_call7_v2 : Ref sig .tc := ⟨.hbm, 159, rfl⟩
abbrev main_call7_v3 : Ref sig .tc := ⟨.hbm, 160, rfl⟩
abbrev main_call7_cst_0 : Ref sig .tc := ⟨.hbm, 161, rfl⟩
abbrev main_call7_v4 : Ref sig .tc := ⟨.hbm, 162, rfl⟩
abbrev main_call7_v5 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_call8_v0 : Ref sig .tc := ⟨.hbm, 179, rfl⟩
abbrev main_call8_v1 : Ref sig .tc := ⟨.hbm, 180, rfl⟩
abbrev main_call8_cst : Ref sig .tc := ⟨.hbm, 181, rfl⟩
abbrev main_call8_v2 : Ref sig .tc := ⟨.hbm, 182, rfl⟩
abbrev main_call8_v3 : Ref sig .tc := ⟨.hbm, 183, rfl⟩
abbrev main_call8_cst_0 : Ref sig .tc := ⟨.hbm, 184, rfl⟩
abbrev main_call8_v4 : Ref sig .tc := ⟨.hbm, 185, rfl⟩
abbrev main_call8_v5 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_call9_v0 : Ref sig .tc := ⟨.hbm, 202, rfl⟩
abbrev main_call9_v1 : Ref sig .tc := ⟨.hbm, 203, rfl⟩
abbrev main_call9_cst : Ref sig .tc := ⟨.hbm, 204, rfl⟩
abbrev main_call9_v2 : Ref sig .tc := ⟨.hbm, 205, rfl⟩
abbrev main_call9_v3 : Ref sig .tc := ⟨.hbm, 206, rfl⟩
abbrev main_call9_cst_0 : Ref sig .tc := ⟨.hbm, 207, rfl⟩
abbrev main_call9_v4 : Ref sig .tc := ⟨.hbm, 208, rfl⟩
abbrev main_call9_v5 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_call10_v0 : Ref sig .tc := ⟨.hbm, 225, rfl⟩
abbrev main_call10_v1 : Ref sig .tc := ⟨.hbm, 226, rfl⟩
abbrev main_call10_cst : Ref sig .tc := ⟨.hbm, 227, rfl⟩
abbrev main_call10_v2 : Ref sig .tc := ⟨.hbm, 228, rfl⟩
abbrev main_call10_v3 : Ref sig .tc := ⟨.hbm, 229, rfl⟩
abbrev main_call10_cst_0 : Ref sig .tc := ⟨.hbm, 230, rfl⟩
abbrev main_call10_v4 : Ref sig .tc := ⟨.hbm, 231, rfl⟩
abbrev main_call10_v5 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_call11_v0 : Ref sig .tc := ⟨.hbm, 248, rfl⟩
abbrev main_call11_v1 : Ref sig .tc := ⟨.hbm, 249, rfl⟩
abbrev main_call11_cst : Ref sig .tc := ⟨.hbm, 250, rfl⟩
abbrev main_call11_v2 : Ref sig .tc := ⟨.hbm, 251, rfl⟩
abbrev main_call11_v3 : Ref sig .tc := ⟨.hbm, 252, rfl⟩
abbrev main_call11_cst_0 : Ref sig .tc := ⟨.hbm, 253, rfl⟩
abbrev main_call11_v4 : Ref sig .tc := ⟨.hbm, 254, rfl⟩
abbrev main_call11_v5 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_call12_v0 : Ref sig .tc := ⟨.hbm, 271, rfl⟩
abbrev main_call12_v1 : Ref sig .tc := ⟨.hbm, 272, rfl⟩
abbrev main_call12_cst : Ref sig .tc := ⟨.hbm, 273, rfl⟩
abbrev main_call12_v2 : Ref sig .tc := ⟨.hbm, 274, rfl⟩
abbrev main_call12_v3 : Ref sig .tc := ⟨.hbm, 275, rfl⟩
abbrev main_call12_cst_0 : Ref sig .tc := ⟨.hbm, 276, rfl⟩
abbrev main_call12_v4 : Ref sig .tc := ⟨.hbm, 277, rfl⟩
abbrev main_call12_v5 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_v196 : Ref sig .tc := ⟨.hbm, 291, rfl⟩
abbrev main_v197 : Ref sig .tc := ⟨.hbm, 292, rfl⟩
abbrev main_v198 : Ref sig .tc := ⟨.hbm, 293, rfl⟩
abbrev main_call13_v0 : Ref sig .tc := ⟨.hbm, 294, rfl⟩
abbrev main_call13_v1 : Ref sig .tc := ⟨.hbm, 295, rfl⟩
abbrev main_call13_cst : Ref sig .tc := ⟨.hbm, 296, rfl⟩
abbrev main_call13_v2 : Ref sig .tc := ⟨.hbm, 297, rfl⟩
abbrev main_call13_v3 : Ref sig .tc := ⟨.hbm, 298, rfl⟩
abbrev main_call13_cst_0 : Ref sig .tc := ⟨.hbm, 299, rfl⟩
abbrev main_call13_v4 : Ref sig .tc := ⟨.hbm, 300, rfl⟩
abbrev main_call13_v5 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_v213 : Ref sig .tc := ⟨.hbm, 316, rfl⟩
abbrev main_call14_v0 : Ref sig .tc := ⟨.hbm, 317, rfl⟩
abbrev main_call14_v1 : Ref sig .tc := ⟨.hbm, 318, rfl⟩
abbrev main_call14_cst : Ref sig .tc := ⟨.hbm, 319, rfl⟩
abbrev main_call14_v2 : Ref sig .tc := ⟨.hbm, 320, rfl⟩
abbrev main_call14_v3 : Ref sig .tc := ⟨.hbm, 321, rfl⟩
abbrev main_call14_cst_0 : Ref sig .tc := ⟨.hbm, 322, rfl⟩
abbrev main_call14_v4 : Ref sig .tc := ⟨.hbm, 323, rfl⟩
abbrev main_call14_v5 : Ref sig .tc := ⟨.hbm, 324, rfl⟩
abbrev main_v214 : Ref sig .tc := ⟨.hbm, 325, rfl⟩
abbrev main_v215 : Ref sig .tc := ⟨.hbm, 326, rfl⟩
abbrev main_v216 : Ref sig .tc := ⟨.hbm, 327, rfl⟩
abbrev main_v217 : Ref sig .tc := ⟨.hbm, 328, rfl⟩
abbrev main_v218 : Ref sig .tc := ⟨.hbm, 329, rfl⟩
abbrev main_v219 : Ref sig .tc := ⟨.hbm, 330, rfl⟩
abbrev main_v220 : Ref sig .tc := ⟨.hbm, 331, rfl⟩
abbrev main_v221 : Ref sig .tc := ⟨.hbm, 332, rfl⟩
abbrev main_v222 : Ref sig .tc := ⟨.hbm, 333, rfl⟩
abbrev main_v223 : Ref sig .tc := ⟨.hbm, 334, rfl⟩
abbrev main_v224 : Ref sig .tc := ⟨.hbm, 335, rfl⟩
abbrev main_v225 : Ref sig .tc := ⟨.hbm, 336, rfl⟩
abbrev main_v226 : Ref sig .tc := ⟨.hbm, 337, rfl⟩
abbrev main_v227 : Ref sig .tc := ⟨.hbm, 338, rfl⟩
abbrev main_v228 : Ref sig .tc := ⟨.hbm, 339, rfl⟩
abbrev main_call15_v0 : Ref sig .tc := ⟨.hbm, 340, rfl⟩
abbrev main_call15_v1 : Ref sig .tc := ⟨.hbm, 341, rfl⟩
abbrev main_call15_cst : Ref sig .tc := ⟨.hbm, 342, rfl⟩
abbrev main_call15_v2 : Ref sig .tc := ⟨.hbm, 343, rfl⟩
abbrev main_call15_v3 : Ref sig .tc := ⟨.hbm, 344, rfl⟩
abbrev main_call15_cst_0 : Ref sig .tc := ⟨.hbm, 345, rfl⟩
abbrev main_call15_v4 : Ref sig .tc := ⟨.hbm, 346, rfl⟩
abbrev main_call15_v5 : Ref sig .tc := ⟨.hbm, 347, rfl⟩
abbrev main_v229 : Ref sig .tc := ⟨.hbm, 348, rfl⟩
abbrev main_v230 : Ref sig .tc := ⟨.hbm, 349, rfl⟩
abbrev main_v231 : Ref sig .tc := ⟨.hbm, 350, rfl⟩
abbrev main_v232 : Ref sig .tc := ⟨.hbm, 351, rfl⟩
abbrev main_v233 : Ref sig .tc := ⟨.hbm, 352, rfl⟩
abbrev main_v234 : Ref sig .tc := ⟨.hbm, 353, rfl⟩
abbrev main_v235 : Ref sig .tc := ⟨.hbm, 354, rfl⟩
abbrev main_v236 : Ref sig .tc := ⟨.hbm, 355, rfl⟩
abbrev main_v237 : Ref sig .tc := ⟨.hbm, 356, rfl⟩
abbrev main_v238 : Ref sig .tc := ⟨.hbm, 357, rfl⟩
abbrev main_v239 : Ref sig .tc := ⟨.hbm, 358, rfl⟩
abbrev main_v240 : Ref sig .tc := ⟨.hbm, 359, rfl⟩
abbrev main_v241 : Ref sig .tc := ⟨.hbm, 360, rfl⟩
abbrev main_v242 : Ref sig .tc := ⟨.hbm, 361, rfl⟩
abbrev main_v243 : Ref sig .tc := ⟨.hbm, 362, rfl⟩
abbrev main_call16_v0 : Ref sig .tc := ⟨.hbm, 363, rfl⟩
abbrev main_call16_v1 : Ref sig .tc := ⟨.hbm, 364, rfl⟩
abbrev main_call16_cst : Ref sig .tc := ⟨.hbm, 365, rfl⟩
abbrev main_call16_v2 : Ref sig .tc := ⟨.hbm, 366, rfl⟩
abbrev main_call16_v3 : Ref sig .tc := ⟨.hbm, 367, rfl⟩
abbrev main_call16_cst_0 : Ref sig .tc := ⟨.hbm, 368, rfl⟩
abbrev main_call16_v4 : Ref sig .tc := ⟨.hbm, 369, rfl⟩
abbrev main_call16_v5 : Ref sig .tc := ⟨.hbm, 370, rfl⟩
abbrev main_v244 : Ref sig .tc := ⟨.hbm, 371, rfl⟩
abbrev main_v245 : Ref sig .tc := ⟨.hbm, 372, rfl⟩
abbrev main_v246 : Ref sig .tc := ⟨.hbm, 373, rfl⟩
abbrev main_v247 : Ref sig .tc := ⟨.hbm, 374, rfl⟩
abbrev main_v248 : Ref sig .tc := ⟨.hbm, 375, rfl⟩
abbrev main_v249 : Ref sig .tc := ⟨.hbm, 376, rfl⟩
abbrev main_v250 : Ref sig .tc := ⟨.hbm, 377, rfl⟩
abbrev main_v251 : Ref sig .tc := ⟨.hbm, 378, rfl⟩
abbrev main_v252 : Ref sig .tc := ⟨.hbm, 379, rfl⟩
abbrev main_v253 : Ref sig .tc := ⟨.hbm, 380, rfl⟩
abbrev main_v254 : Ref sig .tc := ⟨.hbm, 381, rfl⟩
abbrev main_v255 : Ref sig .tc := ⟨.hbm, 382, rfl⟩
abbrev main_v256 : Ref sig .tc := ⟨.hbm, 383, rfl⟩
abbrev main_v257 : Ref sig .tc := ⟨.hbm, 384, rfl⟩
abbrev main_v258 : Ref sig .tc := ⟨.hbm, 385, rfl⟩
abbrev main_call17_v0 : Ref sig .tc := ⟨.hbm, 386, rfl⟩
abbrev main_call17_v1 : Ref sig .tc := ⟨.hbm, 387, rfl⟩
abbrev main_call17_cst : Ref sig .tc := ⟨.hbm, 388, rfl⟩
abbrev main_call17_v2 : Ref sig .tc := ⟨.hbm, 389, rfl⟩
abbrev main_call17_v3 : Ref sig .tc := ⟨.hbm, 390, rfl⟩
abbrev main_call17_cst_0 : Ref sig .tc := ⟨.hbm, 391, rfl⟩
abbrev main_call17_v4 : Ref sig .tc := ⟨.hbm, 392, rfl⟩
abbrev main_call17_v5 : Ref sig .tc := ⟨.hbm, 393, rfl⟩
abbrev main_v259 : Ref sig .tc := ⟨.hbm, 394, rfl⟩
abbrev main_v260 : Ref sig .tc := ⟨.hbm, 395, rfl⟩
abbrev main_v261 : Ref sig .tc := ⟨.hbm, 396, rfl⟩
abbrev main_v262 : Ref sig .tc := ⟨.hbm, 397, rfl⟩
abbrev main_v263 : Ref sig .tc := ⟨.hbm, 398, rfl⟩
abbrev main_v264 : Ref sig .tc := ⟨.hbm, 399, rfl⟩
abbrev main_v265 : Ref sig .tc := ⟨.hbm, 400, rfl⟩
abbrev main_v266 : Ref sig .tc := ⟨.hbm, 401, rfl⟩
abbrev main_v267 : Ref sig .tc := ⟨.hbm, 402, rfl⟩
abbrev main_v268 : Ref sig .tc := ⟨.hbm, 403, rfl⟩
abbrev main_v269 : Ref sig .tc := ⟨.hbm, 404, rfl⟩
abbrev main_v270 : Ref sig .tc := ⟨.hbm, 405, rfl⟩
abbrev main_v271 : Ref sig .tc := ⟨.hbm, 406, rfl⟩
abbrev main_v272 : Ref sig .tc := ⟨.hbm, 407, rfl⟩
abbrev main_v273 : Ref sig .tc := ⟨.hbm, 408, rfl⟩
abbrev main_call18_v0 : Ref sig .tc := ⟨.hbm, 409, rfl⟩
abbrev main_call18_v1 : Ref sig .tc := ⟨.hbm, 410, rfl⟩
abbrev main_call18_cst : Ref sig .tc := ⟨.hbm, 411, rfl⟩
abbrev main_call18_v2 : Ref sig .tc := ⟨.hbm, 412, rfl⟩
abbrev main_call18_v3 : Ref sig .tc := ⟨.hbm, 413, rfl⟩
abbrev main_call18_cst_0 : Ref sig .tc := ⟨.hbm, 414, rfl⟩
abbrev main_call18_v4 : Ref sig .tc := ⟨.hbm, 415, rfl⟩
abbrev main_call18_v5 : Ref sig .tc := ⟨.hbm, 416, rfl⟩
abbrev main_v274 : Ref sig .tc := ⟨.hbm, 417, rfl⟩
abbrev main_v275 : Ref sig .tc := ⟨.hbm, 418, rfl⟩
abbrev main_v276 : Ref sig .tc := ⟨.hbm, 419, rfl⟩
abbrev main_v277 : Ref sig .tc := ⟨.hbm, 420, rfl⟩
abbrev main_v278 : Ref sig .tc := ⟨.hbm, 421, rfl⟩
abbrev main_v279 : Ref sig .tc := ⟨.hbm, 422, rfl⟩
abbrev main_v280 : Ref sig .tc := ⟨.hbm, 423, rfl⟩
abbrev main_v281 : Ref sig .tc := ⟨.hbm, 424, rfl⟩
abbrev main_v282 : Ref sig .tc := ⟨.hbm, 425, rfl⟩
abbrev main_v283 : Ref sig .tc := ⟨.hbm, 426, rfl⟩
abbrev main_v284 : Ref sig .tc := ⟨.hbm, 427, rfl⟩
abbrev main_v285 : Ref sig .tc := ⟨.hbm, 428, rfl⟩
abbrev main_v286 : Ref sig .tc := ⟨.hbm, 429, rfl⟩
abbrev main_v287 : Ref sig .tc := ⟨.hbm, 430, rfl⟩
abbrev main_v288 : Ref sig .tc := ⟨.hbm, 431, rfl⟩
abbrev main_call19_v0 : Ref sig .tc := ⟨.hbm, 432, rfl⟩
abbrev main_call19_v1 : Ref sig .tc := ⟨.hbm, 433, rfl⟩
abbrev main_call19_cst : Ref sig .tc := ⟨.hbm, 434, rfl⟩
abbrev main_call19_v2 : Ref sig .tc := ⟨.hbm, 435, rfl⟩
abbrev main_call19_v3 : Ref sig .tc := ⟨.hbm, 436, rfl⟩
abbrev main_call19_cst_0 : Ref sig .tc := ⟨.hbm, 437, rfl⟩
abbrev main_call19_v4 : Ref sig .tc := ⟨.hbm, 438, rfl⟩
abbrev main_call19_v5 : Ref sig .tc := ⟨.hbm, 439, rfl⟩
abbrev main_v289 : Ref sig .tc := ⟨.hbm, 440, rfl⟩
abbrev main_v290 : Ref sig .tc := ⟨.hbm, 441, rfl⟩
abbrev main_v291 : Ref sig .tc := ⟨.hbm, 442, rfl⟩
abbrev main_v292 : Ref sig .tc := ⟨.hbm, 443, rfl⟩
abbrev main_v293 : Ref sig .tc := ⟨.hbm, 444, rfl⟩
abbrev main_v294 : Ref sig .tc := ⟨.hbm, 445, rfl⟩
abbrev main_v295 : Ref sig .tc := ⟨.hbm, 446, rfl⟩
abbrev main_v296 : Ref sig .tc := ⟨.hbm, 447, rfl⟩
abbrev main_v297 : Ref sig .tc := ⟨.hbm, 448, rfl⟩
abbrev main_v298 : Ref sig .tc := ⟨.hbm, 449, rfl⟩
abbrev main_v299 : Ref sig .tc := ⟨.hbm, 450, rfl⟩
abbrev main_v300 : Ref sig .tc := ⟨.hbm, 451, rfl⟩

abbrev nD : Nat := 1
abbrev τ : Topo := Topo.v7x

variable {F : FTy → Type} [FloatOps F]
-- ==== Projection.lean ====
abbrev S4x4096x1024 : Shape := ⟨3, ![4, 4096, 1024]⟩
abbrev S4x1024 : Shape := ⟨2, ![4, 1024]⟩
abbrev S4x1024x4608 : Shape := ⟨3, ![4, 1024, 4608]⟩
abbrev S16384x1024 : Shape := ⟨2, ![16384, 1024]⟩
abbrev S4x1x1024 : Shape := ⟨3, ![4, 1, 1024]⟩
abbrev S16384x4608 : Shape := ⟨2, ![16384, 4608]⟩
abbrev S512x1024 : Shape := ⟨2, ![512, 1024]⟩
abbrev S1x1x1024 : Shape := ⟨3, ![1, 1, 1024]⟩
abbrev S1x1024x4608 : Shape := ⟨3, ![1, 1024, 4608]⟩
abbrev S512x4608 : Shape := ⟨2, ![512, 4608]⟩
abbrev S1x1024 : Shape := ⟨2, ![1, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x4608, .f32⟩
  | .hbm, ⟨3, _⟩ => ⟨S16384x1024, .f32⟩
  | .hbm, ⟨4, _⟩ => ⟨S4x1x1024, .f32⟩
  | .hbm, ⟨5, _⟩ => ⟨S4x1024x4608, .bf16⟩
  | .hbm, ⟨6, _⟩ => ⟨S16384x4608, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x4608, .bf16⟩
  | .local _ .vmem, ⟨4, _⟩ => ⟨S512x4608, .bf16⟩
  | .local _ .vmem, ⟨5, _⟩ => ⟨S512x4608, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4608 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjectionReferenceIdeal.lean ====
abbrev S4x4096x1024 : Shape := ⟨3, ![4, 4096, 1024]⟩
abbrev S4x1024 : Shape := ⟨2, ![4, 1024]⟩
abbrev S4x1024x4608 : Shape := ⟨3, ![4, 1024, 4608]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4608 : Shape := ⟨3, ![1, 1024, 4608]⟩
abbrev S1024x4608 : Shape := ⟨2, ![1024, 4608]⟩
abbrev S4x4096x4608 : Shape := ⟨3, ![4, 4096, 4608]⟩
abbrev S4x4096x2560 : Shape := ⟨3, ![4, 4096, 2560]⟩
abbrev S4x4096x2048 : Shape := ⟨3, ![4, 4096, 2048]⟩
abbrev S16384x4608 : Shape := ⟨2, ![16384, 4608]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x4608, .f32⟩
  | .hbm, ⟨3, _⟩ => ⟨S1x1024, .f32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1x1024x4608, .f32⟩
  | .hbm, ⟨22, _⟩ => ⟨S1024x4608, .f32⟩
  | .hbm, ⟨23, _⟩ => ⟨S4x4096x4608, .f32⟩
  | .hbm, ⟨24, _⟩ => ⟨S4x4096x2560, .f32⟩
  | .hbm, ⟨25, _⟩ => ⟨S4x4096x2048, .f32⟩
  | .hbm, ⟨26, _⟩ => ⟨S4x4096x4608, .f32⟩
  | .hbm, ⟨27, _⟩ => ⟨S4x4096x4608, .bf16⟩
  | .hbm, ⟨28, _⟩ => ⟨S16384x4608, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Merge.lean ====
abbrev S4x4096x1024 : Shape := ⟨3, ![4, 4096, 1024]⟩
abbrev S4x4096x512 : Shape := ⟨3, ![4, 4096, 512]⟩
abbrev S4x4096x4608 : Shape := ⟨3, ![4, 4096, 4608]⟩
abbrev S4x512x1024 : Shape := ⟨3, ![4, 512, 1024]⟩
abbrev S4x1024x1024 : Shape := ⟨3, ![4, 1024, 1024]⟩
abbrev S4x1024 : Shape := ⟨2, ![4, 1024]⟩
abbrev S4x1024x4 : Shape := ⟨3, ![4, 1024, 4]⟩
abbrev S4x4 : Shape := ⟨2, ![4, 4]⟩
abbrev S4x1024x16 : Shape := ⟨3, ![4, 1024, 16]⟩
abbrev S4x16 : Shape := ⟨2, ![4, 16]⟩
abbrev S4x1024x20 : Shape := ⟨3, ![4, 1024, 20]⟩
abbrev S_ : Shape := ⟨0, ![]⟩
abbrev S4x1024x32 : Shape := ⟨3, ![4, 1024, 32]⟩
abbrev S4x1024x64 : Shape := ⟨3, ![4, 1024, 64]⟩
abbrev S4x1024x128 : Shape := ⟨3, ![4, 1024, 128]⟩
abbrev S4x20 : Shape := ⟨2, ![4, 20]⟩
abbrev S4x32 : Shape := ⟨2, ![4, 32]⟩
abbrev S4x32x1 : Shape := ⟨3, ![4, 32, 1]⟩
abbrev S4x4096x2048 : Shape := ⟨3, ![4, 4096, 2048]⟩
abbrev S4x4096x2560 : Shape := ⟨3, ![4, 4096, 2560]⟩
abbrev S16384x1024 : Shape := ⟨2, ![16384, 1024]⟩
abbrev S16384x512 : Shape := ⟨2, ![16384, 512]⟩
abbrev S16384x4608 : Shape := ⟨2, ![16384, 4608]⟩
abbrev S4x1x1024 : Shape := ⟨3, ![4, 1, 1024]⟩
abbrev S16384x1152 : Shape := ⟨2, ![16384, 1152]⟩
abbrev S8x16384 : Shape := ⟨2, ![8, 16384]⟩
abbrev S512x1024 : Shape := ⟨2, ![512, 1024]⟩
abbrev S512x512 : Shape := ⟨2, ![512, 512]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S1x1024x128 : Shape := ⟨3, ![1, 1024, 128]⟩
abbrev S1x32x1 : Shape := ⟨3, ![1, 32, 1]⟩
abbrev S512x1152 : Shape := ⟨2, ![512, 1152]⟩
abbrev S8x512 : Shape := ⟨2, ![8, 512]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩
abbrev S1024x128 : Shape := ⟨2, ![1024, 128]⟩
abbrev S512x128 : Shape := ⟨2, ![512, 128]⟩
abbrev S128x512 : Shape := ⟨2, ![128, 512]⟩
abbrev S32x512 : Shape := ⟨2, ![32, 512]⟩
abbrev S32x1 : Shape := ⟨2, ![32, 1]⟩
abbrev S1x512 : Shape := ⟨2, ![1, 512]⟩
abbrev S7x512 : Shape := ⟨2, ![7, 512]⟩
abbrev S126x512 : Shape := ⟨2, ![126, 512]⟩

abbrev nBuf : Space → Nat
  | .hbm => 46
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x4608, .f32⟩
  | .hbm, ⟨4, _⟩ => ⟨S4x512x1024, .f32⟩
  | .hbm, ⟨5, _⟩ => ⟨S4x512x1024, .f32⟩
  | .hbm, ⟨6, _⟩ => ⟨S4x1024x1024, .f32⟩
  | .hbm, ⟨7, _⟩ => ⟨S4x1024, .f32⟩
  | .hbm, ⟨8, _⟩ => ⟨S4x1024x4, .f32⟩
  | .hbm, ⟨9, _⟩ => ⟨S4x4, .f32⟩
  | .hbm, ⟨10, _⟩ => ⟨S4x1024x16, .f32⟩
  | .hbm, ⟨11, _⟩ => ⟨S4x16, .f32⟩
  | .hbm, ⟨12, _⟩ => ⟨S4x1024x20, .f32⟩
  | .hbm, ⟨13, _⟩ => ⟨S_, .i32⟩
  | .hbm, ⟨14, _⟩ => ⟨S_, .f32⟩
  | .hbm, ⟨15, _⟩ => ⟨S4x1024x32, .f32⟩
  | .hbm, ⟨16, _⟩ => ⟨S4x1024x32, .bf16⟩
  | .hbm, ⟨17, _⟩ => ⟨S4x1024x32, .f32⟩
  | .hbm, ⟨18, _⟩ => ⟨S4x1024x32, .f32⟩
  | .hbm, ⟨19, _⟩ => ⟨S4x1024x32, .bf16⟩
  | .hbm, ⟨20, _⟩ => ⟨S4x1024x64, .bf16⟩
  | .hbm, ⟨21, _⟩ => ⟨S_, .i32⟩
  | .hbm, ⟨22, _⟩ => ⟨S_, .bf16⟩
  | .hbm, ⟨23, _⟩ => ⟨S4x1024x128, .bf16⟩
  | .hbm, ⟨24, _⟩ => ⟨S4x20, .f32⟩
  | .hbm, ⟨25, _⟩ => ⟨S_, .i32⟩
  | .hbm, ⟨26, _⟩ => ⟨S_, .f32⟩
  | .hbm, ⟨27, _⟩ => ⟨S4x32, .f32⟩
  | .hbm, ⟨28, _⟩ => ⟨S4x32x1, .f32⟩
  | .hbm, ⟨29, _⟩ => ⟨S4x512x1024, .bf16⟩
  | .hbm, ⟨30, _⟩ => ⟨S4x512x1024, .bf16⟩
  | .hbm, ⟨31, _⟩ => ⟨S4x1024x1024, .bf16⟩
  | .hbm, ⟨32, _⟩ => ⟨S4x4096x2048, .f32⟩
  | .hbm, ⟨33, _⟩ => ⟨S4x4096x2560, .f32⟩
  | .hbm, ⟨34, _⟩ => ⟨S4x4096x4608, .f32⟩
  | .hbm, ⟨35, _⟩ => ⟨S4x4096x4608, .bf16⟩
  | .hbm, ⟨36, _⟩ => ⟨S16384x1024, .f32⟩
  | .hbm, ⟨37, _⟩ => ⟨S4x4096x512, .bf16⟩
  | .hbm, ⟨38, _⟩ => ⟨S16384x512, .bf16⟩
  | .hbm, ⟨39, _⟩ => ⟨S4x4096x512, .bf16⟩
  | .hbm, ⟨40, _⟩ => ⟨S16384x512, .bf16⟩
  | .hbm, ⟨41, _⟩ => ⟨S16384x4608, .bf16⟩
  | .hbm, ⟨42, _⟩ => ⟨S4x1x1024, .f32⟩
  | .hbm, ⟨43, _⟩ => ⟨S16384x1024, .f32⟩
  | .hbm, ⟨44, _⟩ => ⟨S16384x1152, .f32⟩
  | .hbm, ⟨45, _⟩ => ⟨S8x16384, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024x1024, .bf16⟩
  | .local _ .vmem, ⟨13, _⟩ => ⟨S1x1x1024, .f32⟩
  | .local _ .vmem, ⟨14, _⟩ => ⟨S1x1024x128, .bf16⟩
  | .local _ .vmem, ⟨15, _⟩ => ⟨S1x32x1, .f32⟩
  | .local _ .vmem, ⟨16, _⟩ => ⟨S512x1024, .f32⟩
  | .local _ .vmem, ⟨17, _⟩ => ⟨S512x1024, .f32⟩
  | .local _ .vmem, ⟨18, _⟩ => ⟨S512x1152, .f32⟩
  | .local _ .vmem, ⟨19, _⟩ => ⟨S512x1152, .f32⟩
  | .local _ .vmem, ⟨20, _⟩ => ⟨S8x512, .f32⟩
  | .local _ .vmem, ⟨21, _⟩ => ⟨S8x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_call1_v0 : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_call2_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev main_v25_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1152 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeReferenceIdeal.lean ====
abbrev S4x4096x1024 : Shape := ⟨3, ![4, 4096, 1024]⟩
abbrev S4x4096x512 : Shape := ⟨3, ![4, 4096, 512]⟩
abbrev S4x4096x4608 : Shape := ⟨3, ![4, 4096, 4608]⟩
abbrev S4x512x1024 : Shape := ⟨3, ![4, 512, 1024]⟩
abbrev S4x1024x1024 : Shape := ⟨3, ![4, 1024, 1024]⟩
abbrev S4x1024 : Shape := ⟨2, ![4, 1024]⟩
abbrev S4x1024x4 : Shape := ⟨3, ![4, 1024, 4]⟩
abbrev S4x4 : Shape := ⟨2, ![4, 4]⟩
abbrev S4x1024x16 : Shape := ⟨3, ![4, 1024, 16]⟩
abbrev S4x16 : Shape := ⟨2, ![4, 16]⟩
abbrev S1x512x1024 : Shape := ⟨3, ![1, 512, 1024]⟩
abbrev S512x1024 : Shape := ⟨2, ![512, 1024]⟩
abbrev S_ : Shape := ⟨0, ![]⟩
abbrev S1x1024x1024 : Shape := ⟨3, ![1, 1024, 1024]⟩
abbrev S1024x1024 : Shape := ⟨2, ![1024, 1024]⟩
abbrev S16384x1024 : Shape := ⟨2, ![16384, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x4608, .f32⟩
  | .hbm, ⟨4, _⟩ => ⟨S4x512x1024, .f32⟩
  | .hbm, ⟨5, _⟩ => ⟨S4x512x1024, .f32⟩
  | .hbm, ⟨6, _⟩ => ⟨S4x1024x1024, .f32⟩
  | .hbm, ⟨7, _⟩ => ⟨S4x1024, .f32⟩
  | .hbm, ⟨8, _⟩ => ⟨S4x1024x4, .f32⟩
  | .hbm, ⟨9, _⟩ => ⟨S4x4, .f32⟩
  | .hbm, ⟨10, _⟩ => ⟨S4x1024x16, .f32⟩
  | .hbm, ⟨11, _⟩ => ⟨S4x16, .f32⟩
  | .hbm, ⟨12, _⟩ => ⟨S4x4096x1024, .f32⟩
  | .hbm, ⟨13, _⟩ => ⟨S4x4096x1024, .f32⟩
  | .hbm, ⟨14, _⟩ => ⟨S1x512x1024, .f32⟩
  | .hbm, ⟨15, _⟩ => ⟨S512x1024, .f32⟩
  | .hbm, ⟨16, _⟩ => ⟨S4x4096x1024, .f32⟩
  | .hbm, ⟨17, _⟩ => ⟨S1x512x1024, .f32⟩
  | .hbm, ⟨18, _⟩ => ⟨S512x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S_, .f32⟩
  | .hbm, ⟨23, _⟩ => ⟨S4x4096x1024, .f32⟩
  | .hbm, ⟨24, _⟩ => ⟨S4x4096x1024, .f32⟩
  | .hbm, ⟨25, _⟩ => ⟨S_, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x4096x1024, .f32⟩
  | .hbm, ⟨33, _⟩ => ⟨S4x4096x1024, .f32⟩
  | .hbm, ⟨34, _⟩ => ⟨S_, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S1x1024x1024, .f32⟩
  | .hbm, ⟨40, _⟩ => ⟨S1024x1024, .f32⟩
  | .hbm, ⟨41, _⟩ => ⟨S4x4096x1024, .f32⟩
  | .hbm, ⟨42, _⟩ => ⟨S4x4096x1024, .f32⟩
  | .hbm, ⟨43, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Proof.RgBody.lean ====
module

public import proofs.«01_k».proof.Proof.Gen.KernelIdeal.Frame
public import proofs.«01_k».proof.Proof.Gen.KernelIdeal.Skeleton
public import Idealize.ShloMosaic.Lib.Claim
public import Idealize.ShloMosaic.Lib.VecWindow

@[expose] public section

set_option maxRecDepth 8192
set_option maxHeartbeats 4000000

noncomputable section

namespace Cert.Proof.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point as functions of what it reads -/

/-- What one grid point reads of its input windows: the tile of the recurrent branch, the tile of the gate branch, the
    convolution's taps and bias, the two block-diagonal gate weights with their biases, and the decay parameter. -/
structure Ins (F : FTy → Type) where
  xr : Vec F S1x512x512 .bf16
  xg : Vec F S1x512x512 .bf16
  cw : Vec F S1x4x512 .f32
  cb : Vec F S1x1x512 .f32
  wa : Vec F S1x512x512 .bf16
  ba : Vec F S1x1x512 .f32
  wx : Vec F S1x512x512 .bf16
  bx : Vec F S1x1x512 .f32
  lam : Vec F S1x1x512 .f32

/-- The row number within a group of eight. -/
def rowIota : IVec S64x8x512 32 := iota .tc S64x8x512 32 [1] iota_S64x8x512_d1_w32

/-- Tap `j` of the convolution. -/
def tap0 (I : Ins F) : Vec F S1x1x512 .f32 := View.ld I.cw (Rect.unit (s := S1x4x512) ![0, 0, 0] S1x1x512.size inb_S1x4x512_S1x1x512_0_0_0)
def tap1 (I : Ins F) : Vec F S1x1x512 .f32 := View.ld I.cw (Rect.unit (s := S1x4x512) ![0, 1, 0] S1x1x512.size inb_S1x4x512_S1x1x512_0_1_0)
def tap2 (I : Ins F) : Vec F S1x1x512 .f32 := View.ld I.cw (Rect.unit (s := S1x4x512) ![0, 2, 0] S1x1x512.size inb_S1x4x512_S1x1x512_0_2_0)
def tap3 (I : Ins F) : Vec F S1x1x512 .f32 := View.ld I.cw (Rect.unit (s := S1x4x512) ![0, 3, 0] S1x1x512.size inb_S1x4x512_S1x1x512_0_3_0)

/-- The convolved tile, from the tile and the last rows `T` of the tile before it. -/
def xcv (I : Ins F) (T : Vec F S8x512 .f32) : FVec F S512x512 .f32 :=
  k0_pay9 (k0_pay3 I.xr) T rowIota (k0_pay5 I.xr T I.cb (tap0 I)) (k0_pay6 I.xr) (k0_pay7 T) (k0_pay8 I.xr) (tap1 I) (tap2 I) (tap3 I)
/-- The same rounded for the gates' products. -/
def xcb (I : Ins F) (T : Vec F S8x512 .f32) : FVec F S512x512 .bf16 :=
  k0_pay10 (k0_pay3 I.xr) T rowIota (k0_pay5 I.xr T I.cb (tap0 I)) (k0_pay6 I.xr) (k0_pay7 T) (k0_pay8 I.xr) (tap1 I) (tap2 I) (tap3 I)
/-- The recurrence gate before its logistic function. -/
def rpre (I : Ins F) (T : Vec F S8x512 .f32) : FVec F S512x512 .f32 :=
  k0_pay11 (k0_pay3 I.xr) T rowIota (k0_pay5 I.xr T I.cb (tap0 I)) (k0_pay6 I.xr) (k0_pay7 T) (k0_pay8 I.xr) (tap1 I) (tap2 I) (tap3 I) I.wa I.ba
/-- The input gate. -/
def igate (I : Ins F) (T : Vec F S8x512 .f32) : FVec F S512x512 .f32 := k0_pay12 (xcb I T) I.wx I.bx
/-- The decay of each row. -/
def decay (I : Ins F) (T : Vec F S8x512 .f32) : FVec F S512x512 .f32 := k0_pay13 (rpre I T) (Scalar.ofBits .f32 0x3F000000#32) I.lam
/-- The products of decays within each group of eight rows. -/
def grpA (I : Ins F) (T : Vec F S8x512 .f32) : FVec F S512x512 .f32 := k0_pay20 rowIota (decay I T)
/-- The recurrence started at zero within each group of eight rows. -/
def grpB (I : Ins F) (T : Vec F S8x512 .f32) : FVec F S512x512 .f32 := k0_pay22 (k0_pay21 rowIota (xcv I T) (igate I T) (decay I T))

/-- The loop over the groups: the carried row and the array of finished rows before group `k`. -/
def loopSt (A B : Vec F S512x512 .f32) (h : Vec F S1x512 .f32) : ℕ → Vec F S1x512 .f32 × Vec F S512x512 .f32
  | 0 => (h, B)
  | k + 1 =>
    if hk : k < k0_t1_loop.trips then
      (k0_pay25 (loopSt A B h k).1 (VecWindow.window A (k0_off1 ⟨k, hk⟩) S8x512.size (k0_off1_inb ⟨k, hk⟩))
          (VecWindow.window (loopSt A B h k).2 (k0_off1 ⟨k, hk⟩) S8x512.size (k0_off1_inb ⟨k, hk⟩)),
        VecWindow.put (loopSt A B h k).2 (k0_off1 ⟨k, hk⟩) S8x512.size
          (k0_pay24 (loopSt A B h k).1 (VecWindow.window A (k0_off1 ⟨k, hk⟩) S8x512.size (k0_off1_inb ⟨k, hk⟩))
            (VecWindow.window (loopSt A B h k).2 (k0_off1 ⟨k, hk⟩) S8x512.size (k0_off1_inb ⟨k, hk⟩))))
    else loopSt A B h k

theorem loopSt_succ (A B : Vec F S512x512 .f32) (h : Vec F S1x512 .f32) (k : Fin k0_t1_loop.trips) :
    loopSt A B h (k.val + 1) =
      (k0_pay25 (loopSt A B h k.val).1 (VecWindow.window A (k0_off1 k) S8x512.size (k0_off1_inb k))
          (VecWindow.window (loopSt A B h k.val).2 (k0_off1 k) S8x512.size (k0_off1_inb k)),
        VecWindow.put (loopSt A B h k.val).2 (k0_off1 k) S8x512.size
          (k0_pay24 (loopSt A B h k.val).1 (VecWindow.window A (k0_off1 k) S8x512.size (k0_off1_inb k))
            (VecWindow.window (loopSt A B h k.val).2 (k0_off1 k) S8x512.size (k0_off1_inb k)))) := by
  rw [loopSt, dif_pos k.isLt]

/-- The loop's result: the last row, and the rows of the tile. -/
def rows (I : Ins F) (T : Vec F S8x512 .f32) (h : Vec F S1x512 .f32) : Vec F S1x512 .f32 × Vec F S512x512 .f32 :=
  loopSt (grpA I T) (grpB I T) h k0_t1_loop.trips

/-- Whether the point is the first tile of its sequence. -/
abbrev first (i : grid0.Coords) : Prop := Scalar.cmpi .ne (Scalar.extui (Scalar.cmpi .eq (BitVec.ofNat 32 (i 1).val) 0#32) : BitVec 32) 0#32 = 1#1

/-- The rows before the tile that the point uses: zeros at the first tile of a sequence. -/
def tailIn (i : grid0.Coords) (T : Vec F S8x512 .f32) : Vec F S8x512 .f32 := if first i then k0_pay1 else T
/-- The recurrence's value before the tile that the point uses: zero at the first tile of a sequence. -/
def hIn (i : grid0.Coords) (h : Vec F S1x512 .f32) : Vec F S1x512 .f32 := if first i then k0_pay2 else h
/-- What the point leaves for the next tile's convolution. -/
def tailOut (I : Ins F) : Vec F S8x512 .f32 := k0_pay4 I.xr
/-- What the point leaves for the next tile's recurrence. -/
def hOut (i : grid0.Coords) (I : Ins F) (T : Vec F S8x512 .f32) (h : Vec F S1x512 .f32) : Vec F S1x512 .f32 :=
  k0_pay26 (rows I (tailIn i T) (hIn i h)).1
/-- The point's block of the result. -/
def outB (i : grid0.Coords) (I : Ins F) (T : Vec F S8x512 .f32) (h : Vec F S1x512 .f32) : Vec F S1x512x512 .bf16 :=
  k0_pay27 I.xg (rows I (tailIn i T) (hIn i h)).2

/-! ## The body's triple -/

/-- The loop's invariant: the decay products stay, the rows before group `k` are finished. -/
def inv (c : Dev nD) (arg14 arg15 : Memref sig .tc .vmem S512x512 .f32) (A B : Vec F S512x512 .f32) (h : Vec F S1x512 .f32)
    (k : ℕ) (acc : Vec F S1x512 .f32) : sProp 𝕄 :=
  iprop((∃ f, ⌜arg14.view.read (Elt F) f = A⌝ ∗ (arg14.view.loc (c : Thread nD τ) ↦[arg14.view.set]{fullShare} f))
    ∗ (∃ f, ⌜arg15.view.read (Elt F) f = (loopSt A B h k).2⌝ ∗ (arg15.view.loc (c : Thread nD τ) ↦[arg15.view.set]{fullShare} f))
    ∗ ⌜acc = (loopSt A B h k).1⌝)

/-- One trip of the loop keeps the invariant. -/
theorem trip (c : Dev nD) (E : Set ℕ) (i : grid0.Coords)
    (arg2 : Memref sig .tc .vmem S1x512x512 .bf16) (harg2 : arg2.IsWhole)
    (arg3 : Memref sig .tc .vmem S1x512x512 .bf16) (harg3 : arg3.IsWhole)
    (arg4 : Memref sig .tc .vmem S1x4x512 .f32) (harg4 : arg4.IsWhole)
    (arg5 : Memref sig .tc .vmem S1x1x512 .f32) (harg5 : arg5.IsWhole)
    (arg6 : Memref sig .tc .vmem S1x512x512 .bf16) (harg6 : arg6.IsWhole)
    (arg7 : Memref sig .tc .vmem S1x1x512 .f32) (harg7 : arg7.IsWhole)
    (arg8 : Memref sig .tc .vmem S1x512x512 .bf16) (harg8 : arg8.IsWhole)
    (arg9 : Memref sig .tc .vmem S1x1x512 .f32) (harg9 : arg9.IsWhole)
    (arg10 : Memref sig .tc .vmem S1x1x512 .f32) (harg10 : arg10.IsWhole)
    (arg11 : Memref sig .tc .vmem S1x512x512 .bf16) (harg11 : arg11.IsWhole)
    (arg12 : Memref sig .tc .vmem S8x512 .f32) (harg12 : arg12.IsWhole)
    (arg13 : Memref sig .tc .vmem S1x512 .f32) (harg13 : arg13.IsWhole)
    (arg14 : Memref sig .tc .vmem S512x512 .f32) (harg14 : arg14.IsWhole)
    (arg15 : Memref sig .tc .vmem S512x512 .f32) (harg15 : arg15.IsWhole)
    (A B : Vec F S512x512 .f32) (h : Vec F S1x512 .f32) (k : Fin k0_t1_loop.trips) (acc : Vec F S1x512 .f32) :
    inv c arg14 arg15 A B h k.val acc
      ⊢ wp frame (wpE (defs₀ (F := F)) Variants.none (c : Thread nD τ) none) E (k0_t1_body i arg2 harg2 arg3 harg3 arg4 harg4 arg5 harg5 arg6 harg6 arg7 harg7 arg8 harg8 arg9 harg9 arg10 harg10 arg11 harg11 arg12 harg12 arg13 harg13 arg14 harg14 arg15 harg15 k acc)
          (fun acc' => inv c arg14 arg15 A B h (k.val + 1) acc') := by
  have hk : k.val < 64 := Nat.lt_of_lt_of_le k.isLt k0_t1_abs.2.1
  unfold k0_t1_body inv
  iintro ⟨⟨%fa, %hfa, HA⟩, ⟨%fb, %hfb, HB⟩, %hacc⟩
  subst hacc
  have ea := View.readAt_unit (Val := Elt F) arg14.view fa (k0_off1_inb k) rfl (k0_off1_inb k)
  have eb := View.readAt_unit (Val := Elt F) arg15.view fb (k0_off1_inb k) rfl (k0_off1_inb k)
  rw [hfa] at ea
  rw [hfb] at eb
  sl_exec
  sl_step
  rw [loopSt_succ]
  isplitl [HA]
  · iexists fa; isplitr; · ipureintro; exact hfa
    iexact HA
  isplitl [HB]
  · iexists _; isplitr; swap; · iexact HB
    ipureintro
    refine (View.read_writes_cons_put arg15.view fb (k0_off1_inb k) _ [] rfl).trans ?_
    rw [View.writes_nil, hfb]
  ipureintro
  rfl

/-- The body's triple at one grid point: from the blocks it reads and the two carried arrays, it leaves its block of the
    result and the two carried arrays for the next point. -/
theorem sound_kernel (c : Dev nD) (E : Set ℕ) (i : grid0.Coords)
    (arg2 : Memref sig .tc .vmem S1x512x512 .bf16) (harg2 : arg2.IsWhole)
    (arg3 : Memref sig .tc .vmem S1x512x512 .bf16) (harg3 : arg3.IsWhole)
    (arg4 : Memref sig .tc .vmem S1x4x512 .f32) (harg4 : arg4.IsWhole)
    (arg5 : Memref sig .tc .vmem S1x1x512 .f32) (harg5 : arg5.IsWhole)
    (arg6 : Memref sig .tc .vmem S1x512x512 .bf16) (harg6 : arg6.IsWhole)
    (arg7 : Memref sig .tc .vmem S1x1x512 .f32) (harg7 : arg7.IsWhole)
    (arg8 : Memref sig .tc .vmem S1x512x512 .bf16) (harg8 : arg8.IsWhole)
    (arg9 : Memref sig .tc .vmem S1x1x512 .f32) (harg9 : arg9.IsWhole)
    (arg10 : Memref sig .tc .vmem S1x1x512 .f32) (harg10 : arg10.IsWhole)
    (arg11 : Memref sig .tc .vmem S1x512x512 .bf16) (harg11 : arg11.IsWhole)
    (arg12 : Memref sig .tc .vmem S8x512 .f32) (harg12 : arg12.IsWhole)
    (arg13 : Memref sig .tc .vmem S1x512 .f32) (harg13 : arg13.IsWhole)
    (arg14 : Memref sig .tc .vmem S512x512 .f32) (harg14 : arg14.IsWhole)
    (arg15 : Memref sig .tc .vmem S512x512 .f32) (harg15 : arg15.IsWhole)
    (I : Ins F) (T : Vec F S8x512 .f32) (h : Vec F S1x512 .f32) (K : PUnit → sProp 𝕄) :
    iprop(owns (c : Thread nD τ) arg2 fullShare I.xr ∗ owns (c : Thread nD τ) arg3 fullShare I.xg ∗ owns (c : Thread nD τ) arg4 fullShare I.cw ∗ owns (c : Thread nD τ) arg5 fullShare I.cb ∗ owns (c : Thread nD τ) arg6 fullShare I.wa ∗ owns (c : Thread nD τ) arg7 fullShare I.ba ∗ owns (c : Thread nD τ) arg8 fullShare I.wx ∗ owns (c : Thread nD τ) arg9 fullShare I.bx ∗ owns (c : Thread nD τ) arg10 fullShare I.lam
      ∗ (∃ d, owns (c : Thread nD τ) arg11 fullShare d)
      ∗ owns (c : Thread nD τ) arg12 fullShare T ∗ owns (c : Thread nD τ) arg13 fullShare h ∗ (∃ d, owns (c : Thread nD τ) arg14 fullShare d) ∗ (∃ d, owns (c : Thread nD τ) arg15 fullShare d)
      ∗ (iprop(owns (c : Thread nD τ) arg2 fullShare I.xr ∗ owns (c : Thread nD τ) arg3 fullShare I.xg ∗ owns (c : Thread nD τ) arg4 fullShare I.cw ∗ owns (c : Thread nD τ) arg5 fullShare I.cb ∗ owns (c : Thread nD τ) arg6 fullShare I.wa ∗ owns (c : Thread nD τ) arg7 fullShare I.ba ∗ owns (c : Thread nD τ) arg8 fullShare I.wx ∗ owns (c : Thread nD τ) arg9 fullShare I.bx ∗ owns (c : Thread nD τ) arg10 fullShare I.lam
      ∗ owns (c : Thread nD τ) arg11 fullShare (outB i I T h)
      ∗ owns (c : Thread nD τ) arg12 fullShare (tailOut I) ∗ owns (c : Thread nD τ) arg13 fullShare (hOut i I T h) ∗ (∃ d, owns (c : Thread nD τ) arg14 fullShare d) ∗ (∃ d, owns (c : Thread nD τ) arg15 fullShare d)) -∗ K ⟨⟩))
      ⊢ wp frame (wpE (defs₀ (F := F)) Variants.none (c : Thread nD τ) none) E (cc0_rglru i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_rglru_eq_skeleton]; unfold cc0_rglru_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%d14, %f14, -, H14⟩, ⟨%d15, %f15, -, H15⟩, Hk⟩
  have e2 := (View.readAt_full (Val := Elt F) arg2.view f2 inb_S1x512x512_S1x512x512_0_0_0).trans hf2
  have e3 := (View.readAt_full (Val := Elt F) arg3.view f3 inb_S1x512x512_S1x512x512_0_0_0).trans hf3
  have e5 := (View.readAt_full (Val := Elt F) arg5.view f5 inb_S1x1x512_S1x1x512_0_0_0).trans hf5
  have e6 := (View.readAt_full (Val := Elt F) arg6.view f6 inb_S1x512x512_S1x512x512_0_0_0).trans hf6
  have e7 := (View.readAt_full (Val := Elt F) arg7.view f7 inb_S1x1x512_S1x1x512_0_0_0).trans hf7
  have e8 := (View.readAt_full (Val := Elt F) arg8.view f8 inb_S1x512x512_S1x512x512_0_0_0).trans hf8
  have e9 := (View.readAt_full (Val := Elt F) arg9.view f9 inb_S1x1x512_S1x1x512_0_0_0).trans hf9
  have e10 := (View.readAt_full (Val := Elt F) arg10.view f10 inb_S1x1x512_S1x1x512_0_0_0).trans hf10
  have e40 : arg4.view.readAt (Elt F) (Rect.unit (s := S1x4x512) ![0, 0, 0] S1x1x512.size inb_S1x4x512_S1x1x512_0_0_0).toLoadRect f4 = tap0 I := by
    rw [View.readAt_eq_ld, hf4]; rfl
  have e41 : arg4.view.readAt (Elt F) (Rect.unit (s := S1x4x512) ![0, 1, 0] S1x1x512.size inb_S1x4x512_S1x1x512_0_1_0).toLoadRect f4 = tap1 I := by
    rw [View.readAt_eq_ld, hf4]; rfl
  have e42 : arg4.view.readAt (Elt F) (Rect.unit (s := S1x4x512) ![0, 2, 0] S1x1x512.size inb_S1x4x512_S1x1x512_0_2_0).toLoadRect f4 = tap2 I := by
    rw [View.readAt_eq_ld, hf4]; rfl
  have e43 : arg4.view.readAt (Elt F) (Rect.unit (s := S1x4x512) ![0, 3, 0] S1x1x512.size inb_S1x4x512_S1x1x512_0_3_0).toLoadRect f4 = tap3 I := by
    rw [View.readAt_eq_ld, hf4]; rfl
  have e12 : arg12.view.readAt (Elt F) (Rect.unit (s := S8x512) ![0, 0] S8x512.size inb_S8x512_S8x512_0_0).toLoadRect
      (if hc : first i then arg12.view.writes (Elt F) f12 [⟨Rect.unit ![0, 0] S8x512.size inb_S8x512_S8x512_0_0, k0_pay1⟩] else f12)
        = tailIn i T := by
    rw [View.readAt_full]; unfold tailIn
    split
    · exact View.read_writes_full ..
    · exact hf12
  have e13 : arg13.view.readAt (Elt F) (Rect.unit (s := S1x512) ![0, 0] S1x512.size inb_S1x512_S1x512_0_0).toLoadRect
      (if hc : first i then arg13.view.writes (Elt F) f13 [⟨Rect.unit ![0, 0] S1x512.size inb_S1x512_S1x512_0_0, k0_pay2⟩] else f13)
        = hIn i h := by
    rw [View.readAt_full]; unfold hIn
    split
    · exact View.read_writes_full ..
    · exact hf13
  sl_exec
  sl_for (inv c arg14 arg15 (grpA I (tailIn i T)) (grpB I (tailIn i T)) (hIn i h)) $$ [H14 H15]
  case region =>
    intro k acc
    exact trip c E i arg2 harg2 arg3 harg3 arg4 harg4 arg5 harg5 arg6 harg6 arg7 harg7 arg8 harg8 arg9 harg9 arg10 harg10 arg11 harg11 arg12 harg12 arg13 harg13 arg14 harg14 arg15 harg15 _ _ _ k acc
  · unfold inv
    isplitl [H14]
    · iexists _; isplitr; swap; · iexact H14
      ipureintro
      refine (View.read_writes_full arg14.view _ inb_S512x512_S512x512_0_0 _ []).trans ?_
      repeat (first | unfold sound_kernel.sl.H14_1 | unfold sound_kernel.sl.H15_1 | unfold sound_kernel.sl.r_10 | unfold sound_kernel.sl.r_9 | unfold sound_kernel.sl.v13 | unfold sound_kernel.sl.cst_31 | unfold sound_kernel.sl.r_5 | unfold sound_kernel.sl.r_7 | unfold sound_kernel.sl.r_8 | unfold sound_kernel.sl.r | unfold sound_kernel.sl.r_1 | unfold sound_kernel.sl.r_2 | unfold sound_kernel.sl.r_3 | unfold sound_kernel.sl.r_4 | unfold sound_kernel.sl.r_6 | unfold sound_kernel.sl.v7 | unfold sound_kernel.sl.v2 | unfold sound_kernel.sl.v1 | unfold sound_kernel.sl.v0)
      rw [e12]
      rfl
    isplitl [H15]
    · iexists _; isplitr; swap; · iexact H15
      ipureintro
      refine (View.read_writes_full arg15.view _ inb_S512x512_S512x512_0_0 _ []).trans ?_
      repeat (first | unfold sound_kernel.sl.H14_1 | unfold sound_kernel.sl.H15_1 | unfold sound_kernel.sl.r_10 | unfold sound_kernel.sl.r_9 | unfold sound_kernel.sl.v13 | unfold sound_kernel.sl.cst_31 | unfold sound_kernel.sl.r_5 | unfold sound_kernel.sl.r_7 | unfold sound_kernel.sl.r_8 | unfold sound_kernel.sl.r | unfold sound_kernel.sl.r_1 | unfold sound_kernel.sl.r_2 | unfold sound_kernel.sl.r_3 | unfold sound_kernel.sl.r_4 | unfold sound_kernel.sl.r_6 | unfold sound_kernel.sl.v7 | unfold sound_kernel.sl.v2 | unfold sound_kernel.sl.v1 | unfold sound_kernel.sl.v0)
      rw [e12]
      rfl
    ipureintro
    unfold sound_kernel.sl.v163
    repeat (first | unfold sound_kernel.sl.H14_1 | unfold sound_kernel.sl.H15_1 | unfold sound_kernel.sl.r_10 | unfold sound_kernel.sl.r_9 | unfold sound_kernel.sl.v13 | unfold sound_kernel.sl.cst_31 | unfold sound_kernel.sl.r_5 | unfold sound_kernel.sl.r_7 | unfold sound_kernel.sl.r_8 | unfold sound_kernel.sl.r | unfold sound_kernel.sl.r_1 | unfold sound_kernel.sl.r_2 | unfold sound_kernel.sl.r_3 | unfold sound_kernel.sl.r_4 | unfold sound_kernel.sl.r_6 | unfold sound_kernel.sl.v7 | unfold sound_kernel.sl.v2 | unfold sound_kernel.sl.v1 | unfold sound_kernel.sl.v0)
    exact e13
  iintro %acc HI
  unfold inv
  icases HI with ⟨⟨%fa, %hfa, H14⟩, ⟨%fb, %hfb, H15⟩, %hacc⟩
  have e15 := (View.readAt_full (Val := Elt F) arg15.view fb inb_S512x512_S512x512_0_0).trans hfb
  sl_exec
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists _; isplitr; swap; · iexact H11
    ipureintro
    refine (View.read_writes_full arg11.view _ inb_S1x512x512_S1x512x512_0_0_0 _ []).trans ?_
    rfl
  isplitl [H12]
  · iexists _; isplitr; swap; · iexact H12
    ipureintro
    refine (View.read_writes_full arg12.view _ inb_S8x512_S8x512_0_0 _ _).trans ?_
    rfl
  isplitl [H13]
  · iexists _; isplitr; swap; · iexact H13
    ipureintro
    refine (View.read_writes_full arg13.view _ inb_S1x512_S1x512_0_0 _ []).trans ?_
    rw [hacc]; rfl
  isplitl [H14]
  · iexists _, fa; isplitr; swap; · iexact H14
    ipureintro; rfl
  iexists _, fb; isplitr; swap; · iexact H15
  ipureintro; rfl

end Cert.Proof.Rg

end
-- ==== Proof.RgRun.lean ====
module

public import proofs.«01_k».proof.Proof.RgBody

@[expose] public section

set_option maxRecDepth 8192
set_option maxHeartbeats 4000000

noncomputable section

namespace Cert.Proof.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points carry -/

/-- What the point `t` reads of its windows. -/
def ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t⟩

/-- The last rows of the tile and the recurrence's value, before point `n` (before the first point: zeros, which it does not read). -/
def carry (c : Dev nD) : ℕ → Vec F S8x512 .f32 × Vec F S1x512 .f32
  | 0 => (k0_pay1, k0_pay2)
  | n + 1 =>
    if hn : n < cfg0.N then
      (tailOut (ins m c ⟨n, hn⟩), hOut (grid0.coords ⟨n, hn⟩) (ins m c ⟨n, hn⟩) (carry c n).1 (carry c n).2)
    else carry c n

theorem carry_succ (c : Dev nD) (t : Fin cfg0.N) :
    carry m c (t.val + 1) = (tailOut (ins m c t), hOut (grid0.coords t) (ins m c t) (carry m c t.val).1 (carry m c t.val).2) := by
  rw [carry, dif_pos t.isLt]

/-- The block of the result the point `t` leaves. -/
def outAt (c : Dev nD) (t : Fin cfg0.N) : Vec F S1x512x512 .bf16 :=
  outB (grid0.coords t) (ins m c t) (carry m c t.val).1 (carry m c t.val).2

/-- The first point is the first tile of a sequence. -/
theorem first_zero (t : Fin cfg0.N) (h : t.val = 0) : first (grid0.coords t) := by
  obtain ⟨t, ht⟩ := t
  obtain rfl : t = 0 := h
  have h0 : first (grid0.coords (⟨0, by decide⟩ : Fin grid0.N)) := by decide
  exact h0

/-- What the carried arrays hold before point `n`: at the first point anything, later what the points before left. -/
def carried (c : Dev nD) (n : ℕ) (T : Vec F S8x512 .f32) (h : Vec F S1x512 .f32) : Prop :=
  n ≠ 0 → T = (carry m c n).1 ∧ h = (carry m c n).2

theorem carried_in (c : Dev nD) (t : Fin cfg0.N) (T : Vec F S8x512 .f32) (h : Vec F S1x512 .f32) (hc : carried m c t.val T h) :
    tailIn (grid0.coords t) T = tailIn (grid0.coords t) (carry m c t.val).1 ∧ hIn (grid0.coords t) h = hIn (grid0.coords t) (carry m c t.val).2 := by
  by_cases h0 : t.val = 0
  · have hf := first_zero t h0
    unfold tailIn hIn
    rw [if_pos hf, if_pos hf, if_pos hf, if_pos hf]
    exact ⟨rfl, rfl⟩
  · obtain ⟨rfl, rfl⟩ := hc h0
    exact ⟨rfl, rfl⟩

/-- The region's invariant before point `n`: the four scratch arrays, the two carried ones at what they carry, and the generator register. -/
def Phi (c : Dev nD) (n : ℕ) : sProp 𝕄 :=
  iprop((∃ T h, ⌜carried m c n T h⌝ ∗ owns (c : Thread nD τ) (Memref.whole cc0_scratch0) fullShare T
      ∗ owns (c : Thread nD τ) (Memref.whole cc0_scratch1) fullShare h)
    ∗ (∃ d, owns (c : Thread nD τ) (Memref.whole cc0_scratch2) fullShare d)
    ∗ (∃ d, owns (c : Thread nD τ) (Memref.whole cc0_scratch3) fullShare d)
    ∗ ∃ r, prngReg c r)

/-- The proof data: the arrays as the region finds them; after a point each input's buffer at its block and the result's at the
    point's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = Phi m c (t.val + 1) from rfl, show (dats m 0 c).Φ t.castSucc = Phi m c t.val from rfl,
    show (dats m 0 c).owesAt () t.succ = (dats m 0 c).owesAt () t.castSucc from rfl,
    after0_0, after0_1, after0_2, after0_3, after0_4, after0_5, after0_6, after0_7, after0_8, after0_9]
  unfold Phi
  iintro ⟨⟨⟨%T, %h, %hc, HT, Hh⟩, Ha, Hb, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain ⟨hT, hh⟩ := carried_in m c t T h hc
  iapply (sound_kernel c Set.univ (grid0.coords t) _ _ _ _ _ _ _ _ _ _ _ _ _ _ _ _ _ _ _ _ _ _ _ _ _ _ _ _ (ins m c t) T h _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HT]; · iexact HT
  isplitl [Hh]; · iexact Hh
  isplitl [Ha]; · iexact Ha
  isplitl [Hb]; · iexact Hb
  iintro ⟨H0, H1, H2, H3, H4, H5, H6, H7, H8, H9, HT, Hh, Ha, Hb⟩
  isplitl [HT Hh Ha Hb Hr]
  · isplitl [HT Hh]
    · iexists _, _
      isplitr; swap
      · isplitl [HT]; · iexact HT
        iexact Hh
      ipureintro
      intro _
      rw [carry_succ]
      refine ⟨rfl, ?_⟩
      unfold hOut
      rw [hT, hh]
    isplitl [Ha]; · iexact Ha
    isplitl [Hb]; · iexact Hb
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [show outAt m c t = outB (grid0.coords t) (ins m c t) T h from by unfold outAt outB; rw [hT, hh]]
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : (Pipeline.ΦA spec0 c : sProp 𝕄) ⊢ (dats m 0 c).Φ 0 := by
  rw [show (dats m 0 c).Φ 0 = Phi m c 0 from rfl]
  unfold Pipeline.ΦA Phi
  rw [scopedRest0_eq]
  iintro ⟨⟨⟨%f0, H0⟩, ⟨%f1, H1⟩, ⟨%f2, H2⟩, ⟨%f3, H3⟩⟩, Hr⟩
  isplitl [H0 H1]
  · iexists f0, f1
    isplitr
    · ipureintro; exact fun h => absurd rfl h
    rw [owns_whole, owns_whole]
    isplitl [H0]; · iexact H0
    iexact H1
  isplitl [H2]
  · iexists f2; rw [owns_whole]; iexact H2
  isplitl [H3]
  · iexists f3; rw [owns_whole]; iexact H3
  iexact Hr

theorem hout (c : Dev nD) : (dats m 0 c).Φ (Fin.last cfg0.N) ⊢ (Pipeline.ΦA spec0 c : sProp 𝕄) := by
  rw [show (dats m 0 c).Φ (Fin.last cfg0.N) = Phi m c cfg0.N from rfl]
  unfold Pipeline.ΦA Phi
  rw [scopedRest0_eq]
  simp only [owns_whole]
  iintro ⟨⟨%T, %h, -, H0, H1⟩, ⟨%d2, H2⟩, ⟨%d3, H3⟩, Hr⟩
  isplitl [H0 H1 H2 H3]
  · isplitl [H0]; · iexists _; iexact H0
    isplitl [H1]; · iexists _; iexact H1
    isplitl [H2]; · iexists _; iexact H2
    iexists _; iexact H3
  iexact Hr

set_option backward.isDefEq.respectTransparency.types false in
/-- The run: every weakly fair execution terminates, with the arrays at what the proof data computes and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

/-- The result array ends at the blocks the points leave. -/
theorem run_value : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ (∀ c : Dev nD, r.2.mem ((c.tc : Thread nD τ).loc main_v34) = (dats m 0 c).arrAt 9 cfg0.N)) :=
  θ_run_and (frame_of m ρ (dats m) (A_eq m) (run_main m ρ)) ((θ_run defs _ _).mono (fun _ h c => (h c).1 9) (run_main m ρ))

end Cert.Proof.Rg

end
-- ==== Proof.RgSpec.lean ====
module

public import Idealize.ShloMosaic.Lib.Pointwise

@[expose] public section

noncomputable section

/-! The recurrent layer's mathematics over the extended reals, and the identities between the two ways of writing it. -/

namespace Cert.Proof.Rg.Spec

open Idealize.ShloMosaic

/-! ## Literals -/

theorem lit_half : Ideal.ofBits .f32 0x3F000000#32 = (((1 : ℝ) / 2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_neg_eight : Ideal.ofBits .f32 0xC1000000#32 = ((-8 : ℝ) : EReal) := by
  simp [Ideal.ofBits, Ideal.ieee, -EReal.coe_mul, -EReal.coe_neg]; norm_num

/-! ## The logistic function -/

theorem half_tanh (z : ℝ) : 1 / 2 + 1 / 2 * Real.tanh (1 / 2 * z) = (1 + Real.exp (-z))⁻¹ := by
  rw [Real.tanh_eq_sinh_div_cosh, Real.sinh_eq, Real.cosh_eq]
  have e1 : Real.exp (-z) = Real.exp (-(1 / 2 * z)) * Real.exp (-(1 / 2 * z)) := by
    rw [← Real.exp_add]; congr 1; ring
  have e2 : Real.exp (1 / 2 * z) * Real.exp (-(1 / 2 * z)) = 1 := by
    rw [← Real.exp_add]; simp
  rw [e1]
  have hp := Real.exp_pos (1 / 2 * z)
  have hq := Real.exp_pos (-(1 / 2 * z))
  set e := Real.exp (1 / 2 * z)
  set f := Real.exp (-(1 / 2 * z))
  have h1 : e + f ≠ 0 := by positivity
  have h2 : 1 + f * f ≠ 0 := by positivity
  field_simp
  nlinarith [e2]

/-- The logistic function by the hyperbolic tangent. -/
theorem gate_eq (z : EReal) :
    Ideal.ofBits .f32 0x3F000000#32 + Ideal.ofBits .f32 0x3F000000#32 * Ideal.tanh (Ideal.ofBits .f32 0x3F000000#32 * z)
      = Ideal.logistic z := by
  rw [lit_half]
  induction z with
  | bot =>
    rw [EReal.coe_mul_bot_of_pos (by norm_num), Ideal.tanh_bot, Ideal.logistic_bot]
    rw [show (-1 : EReal) = ((-1 : ℝ) : EReal) by simp, ← EReal.coe_mul, ← EReal.coe_add]; norm_num
  | top =>
    rw [EReal.coe_mul_top_of_pos (by norm_num), Ideal.tanh_top, Ideal.logistic_top]
    rw [show (1 : EReal) = ((1 : ℝ) : EReal) by simp, ← EReal.coe_mul, ← EReal.coe_add]; norm_num
  | coe z =>
    rw [← EReal.coe_mul, Ideal.tanh_coe, Ideal.logistic_coe, ← EReal.coe_mul, ← EReal.coe_add, half_tanh]

/-- A logistic value is a real number that is not negative. -/
theorem logistic_real (z : EReal) : ∃ r : ℝ, 0 ≤ r ∧ Ideal.logistic z = (r : EReal) := by
  induction z with
  | bot => exact ⟨0, le_refl _, by rw [Ideal.logistic_bot]; simp⟩
  | top => exact ⟨1, by norm_num, by rw [Ideal.logistic_top]; simp⟩
  | coe z => exact ⟨_, inv_nonneg.mpr (by positivity), Ideal.logistic_coe _⟩

/-! ## The decay -/

/-- The softplus of `-y`. -/
def splus (y : EReal) : EReal := max (-y) 0 + Ideal.log (1 + Ideal.exp (-(max y (-y))))

theorem log_one : Ideal.log 1 = 0 := by
  rw [show (1 : EReal) = ((1 : ℝ) : EReal) by simp, Ideal.log_coe, if_neg (by norm_num)]; simp

theorem splus_nonneg (y : EReal) : 0 ≤ splus y := by
  unfold splus
  refine add_nonneg (le_max_right _ _) ?_
  induction y with
  | bot => simp [log_one]
  | top => simp [log_one]
  | coe y =>
    have h : -(max (y : EReal) (-(y : EReal))) = ((-(max y (-y)) : ℝ) : EReal) := by
      rw [EReal.coe_neg, EReal.coe_strictMono.monotone.map_max, EReal.coe_neg]
    rw [h, Ideal.exp_coe, show (1 : EReal) = ((1 : ℝ) : EReal) by simp, ← EReal.coe_add, Ideal.log_coe]
    have hp := Real.exp_pos (-(max y (-y)))
    rw [if_neg (by linarith)]
    exact EReal.coe_nonneg.mpr (Real.log_nonneg (by linarith))

/-- The logarithm of the decay. -/
def logA (y r : EReal) : EReal := (Ideal.ofBits .f32 0xC1000000#32 * splus y) * Ideal.logistic r

theorem logA_nonpos (y r : EReal) : logA y r ≤ 0 := by
  unfold logA
  obtain ⟨l, hl, e⟩ := logistic_real r
  rw [e, lit_neg_eight]
  have hs := splus_nonneg y
  generalize splus y = s at hs
  induction s with
  | bot => exact absurd hs (by simp)
  | top =>
    rw [EReal.coe_mul_top_of_neg (by norm_num)]
    rcases hl.eq_or_lt with rfl | hl
    · simp
    · rw [EReal.bot_mul_coe_of_pos hl]; exact bot_le
  | coe s =>
    have hs' : 0 ≤ s := EReal.coe_nonneg.mp hs
    rw [← EReal.coe_mul, ← EReal.coe_mul]
    exact EReal.coe_nonpos.mpr (by nlinarith [mul_nonneg hs' hl])

/-- The decay. -/
def decA (y r : EReal) : EReal := Ideal.exp (logA y r)

theorem exp_nonneg (x : EReal) : 0 ≤ Ideal.exp x := by
  induction x with
  | bot => simp
  | top => simp
  | coe x => rw [Ideal.exp_coe]; exact EReal.coe_nonneg.mpr (Real.exp_pos x).le

theorem decA_nonneg (y r : EReal) : 0 ≤ decA y r := exp_nonneg _

theorem decA_ne_top (y r : EReal) : decA y r ≠ ⊤ := by
  unfold decA
  have h := logA_nonpos y r
  generalize logA y r = x at h
  induction x with
  | bot => simp
  | top => exact absurd h (by simp)
  | coe x => rw [Ideal.exp_coe]; exact EReal.coe_ne_top _

/-- The factor of the input: the root of one less the decay's square, by the reciprocal root or by the root. -/
theorem root_eq (x : EReal) (h : x ≤ 0) :
    Scalar.select (Ideal.cmp .ogt (Ideal.ofBits .f32 0x3F800000#32 - Ideal.exp x * Ideal.exp x) 0)
        ((Ideal.ofBits .f32 0x3F800000#32 - Ideal.exp x * Ideal.exp x) * Ideal.rsqrt (Ideal.ofBits .f32 0x3F800000#32 - Ideal.exp x * Ideal.exp x)) 0
      = Ideal.sqrt (-(Ideal.exp (Ideal.ofBits .f32 0x40000000#32 * x) - 1)) := by
  rw [lit_one, lit_two]
  induction x with
  | top => exact absurd h (by simp)
  | bot =>
    have e1 : (((1 : ℝ) : EReal) - 0 * 0) = ((1 : ℝ) : EReal) := by simp
    have e2 : (-((0 : EReal) - 1)) = ((1 : ℝ) : EReal) := by simp
    have e3 : Ideal.cmp .ogt ((1 : ℝ) : EReal) 0 = 1#1 := by simp [Ideal.cmp]
    rw [EReal.coe_mul_bot_of_pos (by norm_num), Ideal.exp_bot, e1, e2, e3, Ideal.rsqrt_coe, Ideal.sqrt_coe, if_neg (by norm_num),
      if_neg (by norm_num), if_neg (by norm_num), ← EReal.coe_mul]
    show (((1 : ℝ) * (Real.sqrt 1)⁻¹ : ℝ) : EReal) = _
    simp
  | coe x =>
    have hx : x ≤ 0 := EReal.coe_nonpos.mp h
    rw [← EReal.coe_mul, Ideal.exp_coe, Ideal.exp_coe, ← EReal.coe_mul, ← EReal.coe_sub,
      show (1 : EReal) = ((1 : ℝ) : EReal) by simp, ← EReal.coe_sub, ← EReal.coe_neg]
    have e : Real.exp x * Real.exp x = Real.exp (2 * x) := by rw [← Real.exp_add]; congr 1; ring
    rw [e, show -(Real.exp (2 * x) - 1) = 1 - Real.exp (2 * x) by ring]
    have hle : Real.exp (2 * x) ≤ 1 := by rw [Real.exp_le_one_iff]; linarith
    set v := 1 - Real.exp (2 * x) with hv
    have hv0 : 0 ≤ v := by linarith
    rw [Ideal.sqrt_coe, if_neg (not_lt.mpr hv0)]
    rcases hv0.eq_or_lt with h0 | h0
    · rw [← h0]; simp [Ideal.cmp, Scalar.select]
    · have hc : Ideal.cmp .ogt (v : EReal) 0 = 1#1 := by
        simp [Ideal.cmp, h0]
      rw [hc, Ideal.rsqrt_coe, if_neg (not_lt.mpr hv0), if_neg h0.ne', ← EReal.coe_mul]
      show ((v * (Real.sqrt v)⁻¹ : ℝ) : EReal) = _
      congr 1
      have := Real.mul_self_sqrt hv0
      have hs : Real.sqrt v ≠ 0 := (Real.sqrt_pos.mpr h0).ne'
      field_simp
      nlinarith [this]

/-! ## The recurrence -/

/-- The recurrence `h ↦ a n * h + b n` from `h0`, `n` steps. -/
def recur (a b : ℕ → EReal) (h0 : EReal) : ℕ → EReal
  | 0 => h0
  | n + 1 => a n * recur a b h0 n + b n

theorem recur_add (a b : ℕ → EReal) (h0 : EReal) (m n : ℕ) :
    recur a b h0 (m + n) = recur (fun i => a (m + i)) (fun i => b (m + i)) (recur a b h0 m) n := by
  induction n with
  | zero => rfl
  | succ n ih => rw [← Nat.add_assoc]; simp only [recur]; rw [ih]

theorem recur_congr {a b a' b' : ℕ → EReal} {h0 h0' : EReal} {n : ℕ} (ha : ∀ i < n, a i = a' i) (hb : ∀ i < n, b i = b' i)
    (hh : h0 = h0') : recur a b h0 n = recur a' b' h0' n := by
  induction n with
  | zero => exact hh
  | succ n ih =>
    simp only [recur]
    rw [ha n (Nat.lt_succ_self n), hb n (Nat.lt_succ_self n), ih (fun i hi => ha i (Nat.lt_succ_of_lt hi)) (fun i hi => hb i (Nat.lt_succ_of_lt hi))]

/-- Two affine steps in one. -/
theorem step_comp {p : EReal} (h0 : 0 ≤ p) (h1 : p ≠ ⊤) (q x y h : EReal) : (p * q) * h + (p * x + y) = p * (q * h + x) + y := by
  rw [EReal.left_distrib_of_nonneg_of_ne_top h0 h1, mul_assoc, add_assoc]

theorem mul_fin {p q : EReal} (hp : 0 ≤ p ∧ p ≠ ⊤) (hq : 0 ≤ q ∧ q ≠ ⊤) : 0 ≤ p * q ∧ p * q ≠ ⊤ := by
  obtain ⟨hp, hp'⟩ := hp
  obtain ⟨hq, hq'⟩ := hq
  refine ⟨mul_nonneg hp hq, ?_⟩
  lift p to ℝ using ⟨hp', fun e => by rw [e] at hp; exact absurd hp (by simp)⟩
  lift q to ℝ using ⟨hq', fun e => by rw [e] at hq; exact absurd hq (by simp)⟩
  rw [← EReal.coe_mul]; exact EReal.coe_ne_top _

/-- Doubling within a group: the products of the factors of the last one, two, four and eight rows. -/
def dA (a : ℕ → EReal) : ℕ → ℕ → EReal
  | 0, r => a r
  | k + 1, r => if 2 ^ k ≤ r then dA a k r * dA a k (r - 2 ^ k) else dA a k r
/-- The same for what is added. -/
def dB (a b : ℕ → EReal) : ℕ → ℕ → EReal
  | 0, r => b r
  | k + 1, r => if 2 ^ k ≤ r then dA a k r * dB a b k (r - 2 ^ k) + dB a b k r else dB a b k r

theorem dA_fin {a : ℕ → EReal} (ha : ∀ r, 0 ≤ a r ∧ a r ≠ ⊤) (k r : ℕ) : 0 ≤ dA a k r ∧ dA a k r ≠ ⊤ := by
  induction k generalizing r with
  | zero => exact ha r
  | succ k ih =>
    simp only [dA]
    split
    · exact mul_fin (ih _) (ih _)
    · exact ih _

/-- After `k` doublings row `r` is the last `2^k` steps in one, or all of them. -/
theorem doubling {a : ℕ → EReal} (b : ℕ → EReal) (ha : ∀ r, 0 ≤ a r ∧ a r ≠ ⊤) (k r : ℕ) (h : EReal) :
    dA a k r * h + dB a b k r
      = if 2 ^ k ≤ r then recur (fun i => a (r + 1 - 2 ^ k + i)) (fun i => b (r + 1 - 2 ^ k + i)) h (2 ^ k) else recur a b h (r + 1) := by
  induction k generalizing r h with
  | zero =>
    simp only [dA, dB, pow_zero]
    split
    · simp [recur]
    · obtain rfl : r = 0 := by omega
      simp [recur]
  | succ k ih =>
    have hpos : 0 < 2 ^ k := Nat.pos_of_ne_zero (by positivity)
    by_cases h1 : 2 ^ k ≤ r
    · simp only [dA, dB, if_pos h1]
      rw [step_comp (dA_fin ha k r).1 (dA_fin ha k r).2, ih, ih, if_pos h1]
      by_cases h2 : 2 ^ (k + 1) ≤ r
      · rw [pow_succ] at h2
        rw [if_pos (by omega), if_pos (by rw [pow_succ]; omega), show 2 ^ (k + 1) = 2 ^ k + 2 ^ k by rw [pow_succ]; omega, recur_add]
        refine recur_congr (fun i _ => ?_) (fun i _ => ?_) ?_
        · congr 1; omega
        · congr 1; omega
        · refine recur_congr (fun i _ => ?_) (fun i _ => ?_) rfl
          · congr 1; omega
          · congr 1; omega
      · rw [pow_succ] at h2
        rw [if_neg (show ¬ 2 ^ (k + 1) ≤ r by rw [pow_succ]; exact h2)]
        by_cases h3 : 2 ^ k ≤ r - 2 ^ k
        · exact absurd h3 (by omega)
        · rw [if_neg h3]
          conv_rhs => rw [show r + 1 = (r - 2 ^ k + 1) + 2 ^ k by omega, recur_add]
          refine recur_congr (fun i _ => ?_) (fun i _ => ?_) rfl
          · congr 1; omega
          · congr 1; omega
    · simp only [dA, dB, if_neg h1]
      rw [ih, if_neg h1, if_neg (by rw [pow_succ]; omega)]

/-- Three doublings on a group of eight rows are the recurrence. -/
theorem group_eq {a : ℕ → EReal} (b : ℕ → EReal) (ha : ∀ r, 0 ≤ a r ∧ a r ≠ ⊤) (r : ℕ) (hr : r < 8) (h : EReal) :
    dA a 3 r * h + dB a b 3 r = recur a b h (r + 1) := by
  rw [doubling b ha, if_neg (by omega)]

/-! ## The convolution -/

/-- The input `x` at time `s + j - 3`, zero before time zero. -/
def lag (x : ℕ → EReal) (j s : ℕ) : EReal := if 3 ≤ s + j then x (s + j - 3) else 0

/-- The causal convolution of width four at time `s`. -/
def conv (cb w0 w1 w2 w3 : EReal) (x : ℕ → EReal) (s : ℕ) : EReal :=
  cb + w0 * lag x 0 s + w1 * lag x 1 s + w2 * lag x 2 s + w3 * lag x 3 s

/-! ## The gate branch -/

/-- The tanh form of the gelu at `x`. -/
def gelu (x : EReal) : EReal :=
  x * (Ideal.ofBits .f32 0x3F000000#32 * (1 + Ideal.tanh (Ideal.ofBits .f32 0x3F4C422A#32
    * (x + Ideal.ofBits .f32 0x3D372713#32 * (x * x * x)))))

/-! ## The layer -/

/-- What the layer is given: the projections, and of its first weights the convolution's taps and bias, the two gates' block
    weights and biases and the decay parameter. -/
structure Args where
  x : Fin 4 → Fin 4096 → Fin 4608 → EReal
  cw : Fin 4 → Fin 512 → EReal
  cb : Fin 512 → EReal
  wa : Fin 8 → Fin 64 → Fin 64 → EReal
  ba : Fin 512 → EReal
  wx : Fin 8 → Fin 64 → Fin 64 → EReal
  bx : Fin 512 → EReal
  lam : Fin 512 → EReal

namespace Args

/-- The recurrent branch at time `n`, zero after the end. -/
def xr (P : Args) (b : Fin 4) (d : Fin 512) (n : ℕ) : EReal := if h : n < 4096 then P.x b ⟨n, h⟩ ⟨1536 + d.val, by omega⟩ else 0

/-- The convolved branch. -/
def xc (P : Args) (b : Fin 4) (n : ℕ) (d : Fin 512) : EReal :=
  conv (P.cb d) (P.cw 0 d) (P.cw 1 d) (P.cw 2 d) (P.cw 3 d) (P.xr b d) n

/-- A gate before its logistic function. -/
def gate (P : Args) (w : Fin 8 → Fin 64 → Fin 64 → EReal) (bias : Fin 512 → EReal) (b : Fin 4) (n : ℕ) (d : Fin 512) : EReal :=
  (∑ j : Fin 64, w ⟨d.val / 64, by omega⟩ j ⟨d.val % 64, by omega⟩ * P.xc b n ⟨d.val / 64 * 64 + j.val, by omega⟩) + bias d

/-- What time `n` adds, in the layer's own words. -/
def addend (y r i x : EReal) : EReal :=
  Ideal.sqrt (-(Ideal.exp (Ideal.ofBits .f32 0x40000000#32 * logA y r) - 1)) * (Ideal.logistic i * x)

/-- The recurrence's factor and addend at time `n`. -/
def fac (P : Args) (b : Fin 4) (d : Fin 512) (n : ℕ) : EReal := decA (P.lam d) (P.gate P.wa P.ba b n d)
def add (P : Args) (b : Fin 4) (d : Fin 512) (n : ℕ) : EReal :=
  addend (P.lam d) (P.gate P.wa P.ba b n d) (P.gate P.wx P.bx b n d) (P.xc b n d)

/-- The layer's result. -/
def out (P : Args) (b : Fin 4) (s : Fin 4096) (d : Fin 512) : EReal :=
  recur (P.fac b d) (P.add b d) 0 (s.val + 1) * gelu (P.x b s ⟨2048 + d.val, by omega⟩)

end Args

end Cert.Proof.Rg.Spec

end
-- ==== Proof.RgPay.lean ====
module

public import proofs.«01_k».proof.Proof.RgBody
public import proofs.«01_k».proof.Proof.RgSpec

@[expose] public section

set_option maxRecDepth 16384
set_option maxHeartbeats 4000000

noncomputable section

/-! One tile of the recurrent layer, read at an index over the extended reals. -/

namespace Cert.Proof.Rg

open Cert.KernelIdeal Cert.KernelIdeal.Gen
open Idealize.ShloMosaic

/-! ## Row masks -/

theorem mask1 (r : Fin 8) : IntOp.cmpi .sge (BitVec.ofNat 32 r.val) 1#32 = BitVec.ofBool (decide (1 ≤ r.val)) := by
  revert r; decide
theorem mask2 (r : Fin 8) : IntOp.cmpi .sge (BitVec.ofNat 32 r.val) 2#32 = BitVec.ofBool (decide (2 ≤ r.val)) := by
  revert r; decide
theorem mask3 (r : Fin 8) : IntOp.cmpi .sge (BitVec.ofNat 32 r.val) 3#32 = BitVec.ofBool (decide (3 ≤ r.val)) := by
  revert r; decide
theorem mask4 (r : Fin 8) : IntOp.cmpi .sge (BitVec.ofNat 32 r.val) 4#32 = BitVec.ofBool (decide (4 ≤ r.val)) := by
  revert r; decide

theorem select_mask {α : Type} (p : Prop) [Decidable p] (x y : α) :
    Scalar.select (BitVec.ofBool (decide p)) x y = if p then x else y := by
  by_cases h : p <;> simp [Scalar.select, h]

/-! ## Columns -/

/-- Column `d` of an array of 512 rows, zero after them. -/
def col (D : S512x512.Idx → EReal) (d : Fin 512) (n : ℕ) : EReal := if h : n < 512 then D (ix2 ⟨n, h⟩ d) else 0

theorem col_of {D : S512x512.Idx → EReal} {d s : Fin 512} : col D d s.val = D (ix2 s d) := by
  unfold col; rw [dif_pos s.isLt]

theorem col_eq {D : S512x512.Idx → EReal} {d : Fin 512} (n : ℕ) (h : n < 512) : col D d n = D (ix2 ⟨n, h⟩ d) := dif_pos h

/-- The group's part of column `d`. -/
abbrev grp (D : S512x512.Idx → EReal) (d : Fin 512) (g : ℕ) (i : ℕ) : EReal := col D d (g * 8 + i)

/-! ## Doubling within a group -/

theorem pay14_at (D : FVec Ideal S512x512 .f32) (g : Fin 64) (r : Fin 8) (d : Fin 512) :
    k0_pay14 D (ix3 g r d) = Spec.dA (grp D d g.val) 0 r.val := by
  have hlt : g.val * 8 + r.val < 512 := by omega
  show _ = col D d (g.val * 8 + r.val)
  rw [col_eq _ hlt]
  pointwise [k0_pay14]

theorem rowIota_at (g : Fin 64) (r : Fin 8) (d : Fin 512) : rowIota (ix3 g r d) = BitVec.ofNat 32 r.val := by
  pointwise [rowIota]

theorem pay15_at (g : Fin 64) (r : Fin 8) (d : Fin 512) : k0_pay15 rowIota (ix3 g r d) = BitVec.ofBool (decide (1 ≤ r.val)) := by
  pointwise [k0_pay15]
  rw [rowIota_at, mask1]
theorem pay17_at (g : Fin 64) (r : Fin 8) (d : Fin 512) : k0_pay17 rowIota (ix3 g r d) = BitVec.ofBool (decide (2 ≤ r.val)) := by
  pointwise [k0_pay17]
  rw [rowIota_at, mask2]
theorem pay19_at (g : Fin 64) (r : Fin 8) (d : Fin 512) : k0_pay19 rowIota (ix3 g r d) = BitVec.ofBool (decide (4 ≤ r.val)) := by
  pointwise [k0_pay19]
  rw [rowIota_at, mask4]

theorem pay16_at (D : FVec Ideal S512x512 .f32) (g : Fin 64) (r : Fin 8) (d : Fin 512) :
    k0_pay16 rowIota D (ix3 g r d) = Spec.dA (grp D d g.val) 1 r.val := by
  pointwise [k0_pay16]
  rw [pay15_at, select_mask, pay14_at, pay14_at]
  show _ = if 2 ^ 0 ≤ r.val then _ else _
  by_cases h : 1 ≤ r.val
  · rw [if_pos h, if_pos (by omega)]
    congr 2; simp only [Fin.val_mk]; omega
  · rw [if_neg h, if_neg (by omega)]

theorem pay18_at (D : FVec Ideal S512x512 .f32) (g : Fin 64) (r : Fin 8) (d : Fin 512) :
    k0_pay18 rowIota D (ix3 g r d) = Spec.dA (grp D d g.val) 2 r.val := by
  pointwise [k0_pay18]
  rw [pay17_at, select_mask, pay16_at, pay16_at]
  show _ = if 2 ^ 1 ≤ r.val then _ else _
  by_cases h : 2 ≤ r.val
  · rw [if_pos h, if_pos (by omega)]
    congr 2; simp only [Fin.val_mk]; omega
  · rw [if_neg h, if_neg (by omega)]

theorem pay20_at (D : FVec Ideal S512x512 .f32) (s d : Fin 512) :
    k0_pay20 rowIota D (ix2 s d) = Spec.dA (grp D d (s.val / 8)) 3 (s.val % 8) := by
  pointwise [k0_pay20]
  rw [pay19_at, select_mask, pay18_at, pay18_at]
  show _ = if 2 ^ 2 ≤ s.val % 8 then _ else _
  by_cases h : 4 ≤ s.val % 8
  · rw [if_pos h, if_pos (by omega)]
    congr 2; simp only [Fin.val_mk]; omega
  · rw [if_neg h, if_neg (by omega)]

/-- One doubling of what is added, by `m` rows. -/
def dbl (m : BitVec 32) (mask : IVec S64x8x512 1) (A B : FVec Ideal S64x8x512 .f32) : FVec Ideal S64x8x512 .f32 :=
  select mask (addf (mulf A (dynamicRotate 1 m none B rotates_S64x8x512_d1)) B) B

/-- What a row adds to the recurrence. -/
def addend (X G D : FVec Ideal S512x512 .f32) : FVec Ideal S512x512 .f32 :=
  mulf (select (cmpf .ogt (subf (broadcast S512x512 (Scalar.ofBits .f32 0x3F800000#32)) (mulf D D)) (broadcast S512x512 (Scalar.ofBits .f32 0x00000000#32)))
    (mulf (subf (broadcast S512x512 (Scalar.ofBits .f32 0x3F800000#32)) (mulf D D)) (rsqrt (subf (broadcast S512x512 (Scalar.ofBits .f32 0x3F800000#32)) (mulf D D))))
    (broadcast S512x512 (Scalar.ofBits .f32 0x00000000#32))) (mulf G X)

def dbl0 (X G D : FVec Ideal S512x512 .f32) : FVec Ideal S64x8x512 .f32 := shapeCast S64x8x512 (addend X G D) shapeCasts_S512x512_S64x8x512
def dbl1 (X G D : FVec Ideal S512x512 .f32) : FVec Ideal S64x8x512 .f32 := dbl 1#32 (k0_pay15 rowIota) (k0_pay14 D) (dbl0 X G D)
def dbl2 (X G D : FVec Ideal S512x512 .f32) : FVec Ideal S64x8x512 .f32 := dbl 2#32 (k0_pay17 rowIota) (k0_pay16 rowIota D) (dbl1 X G D)
def dbl3 (X G D : FVec Ideal S512x512 .f32) : FVec Ideal S64x8x512 .f32 := dbl 4#32 (k0_pay19 rowIota) (k0_pay18 rowIota D) (dbl2 X G D)

theorem pay21_eq (X G D : FVec Ideal S512x512 .f32) :
    k0_pay21 rowIota X G D = shapeCast S512x512 (dbl3 X G D) shapeCasts_S64x8x512_S512x512 := rfl

theorem select_pos (p u v : EReal) : (if 0 < p then u else v) = Scalar.select (Ideal.cmp .ogt p 0) u v := by
  by_cases h : 0 < p <;> simp [Scalar.select, Ideal.cmp, h]

theorem addend_at (X G D : FVec Ideal S512x512 .f32) (s d : Fin 512) (x : EReal) (hx : x ≤ 0) (hD : D (ix2 s d) = Ideal.exp x) :
    addend X G D (ix2 s d) = Ideal.sqrt (-(Ideal.exp (Ideal.ofBits .f32 0x40000000#32 * x) - 1)) * (G (ix2 s d) * X (ix2 s d)) := by
  pointwise [addend]
  rw [hD, ← Spec.root_eq x hx, Ideal.ofBits_one_f32, select_pos]

theorem dbl0_at (X G D : FVec Ideal S512x512 .f32) (g : Fin 64) (r : Fin 8) (d : Fin 512) :
    dbl0 X G D (ix3 g r d) = Spec.dB (grp D d g.val) (grp (addend X G D) d g.val) 0 r.val := by
  have hlt : g.val * 8 + r.val < 512 := by omega
  show _ = col (addend X G D) d (g.val * 8 + r.val)
  rw [col_eq _ hlt]
  pointwise [dbl0]

theorem dbl1_at (X G D : FVec Ideal S512x512 .f32) (g : Fin 64) (r : Fin 8) (d : Fin 512) :
    dbl1 X G D (ix3 g r d) = Spec.dB (grp D d g.val) (grp (addend X G D) d g.val) 1 r.val := by
  pointwise [dbl1, dbl]
  rw [pay15_at, select_mask, pay14_at, dbl0_at, dbl0_at]
  show _ = if 2 ^ 0 ≤ r.val then _ else _
  by_cases h : 1 ≤ r.val
  · rw [if_pos h, if_pos (by omega)]
    congr 3; simp only [Fin.val_mk]; omega
  · rw [if_neg h, if_neg (by omega)]

theorem dbl2_at (X G D : FVec Ideal S512x512 .f32) (g : Fin 64) (r : Fin 8) (d : Fin 512) :
    dbl2 X G D (ix3 g r d) = Spec.dB (grp D d g.val) (grp (addend X G D) d g.val) 2 r.val := by
  pointwise [dbl2, dbl]
  rw [pay17_at, select_mask, pay16_at, dbl1_at, dbl1_at]
  show _ = if 2 ^ 1 ≤ r.val then _ else _
  by_cases h : 2 ≤ r.val
  · rw [if_pos h, if_pos (by omega)]
    congr 3; simp only [Fin.val_mk]; omega
  · rw [if_neg h, if_neg (by omega)]

theorem dbl3_at (X G D : FVec Ideal S512x512 .f32) (g : Fin 64) (r : Fin 8) (d : Fin 512) :
    dbl3 X G D (ix3 g r d) = Spec.dB (grp D d g.val) (grp (addend X G D) d g.val) 3 r.val := by
  pointwise [dbl3, dbl]
  rw [pay19_at, select_mask, pay18_at, dbl2_at, dbl2_at]
  show _ = if 2 ^ 2 ≤ r.val then _ else _
  by_cases h : 4 ≤ r.val
  · rw [if_pos h, if_pos (by omega)]
    congr 3; simp only [Fin.val_mk]; omega
  · rw [if_neg h, if_neg (by omega)]

theorem pay22_at (X G D : FVec Ideal S512x512 .f32) (s d : Fin 512) :
    k0_pay22 (k0_pay21 rowIota X G D) (ix2 s d) = Spec.dB (grp D d (s.val / 8)) (grp (addend X G D) d (s.val / 8)) 3 (s.val % 8) := by
  rw [pay21_eq]
  pointwise [k0_pay22]
  rw [dbl3_at]

/-! ## The loop over the groups -/

theorem trips_eq : k0_t1_loop.trips = 64 := by decide +kernel

theorem window_at (X : S512x512.Idx → EReal) (k : Fin k0_t1_loop.trips) (r : Fin 8) (d : Fin 512) :
    VecWindow.window X (k0_off1 k) S8x512.size (k0_off1_inb k) (ix2 r d) = col X d (8 * k.val + r.val) := by
  have hk : k.val < 64 := Nat.lt_of_lt_of_le k.isLt k0_t1_abs.2.1
  rw [col_eq _ (by omega)]
  unfold VecWindow.window
  refine congrArg X (funext fun a => Fin.ext ?_)
  have e := congrFun (k0_off1_eq k) a
  show k0_off1 k a + 1 * _ = _
  rw [e]
  fin_cases a
  · show 8 * k.val + 1 * r.val = 8 * k.val + r.val; omega
  · show 0 + 1 * d.val = d.val; omega

theorem put_at (X : S512x512.Idx → EReal) (k : Fin k0_t1_loop.trips) (w : S8x512.Idx → EReal) (s d : Fin 512) :
    VecWindow.put X (k0_off1 k) S8x512.size w (ix2 s d)
      = if h : 8 * k.val ≤ s.val ∧ s.val < 8 * k.val + 8 then w (ix2 ⟨s.val - 8 * k.val, by omega⟩ d) else X (ix2 s d) := by
  unfold VecWindow.put
  have e0 : k0_off1 k (0 : Fin 2) = 8 * k.val := congrFun (k0_off1_eq k) (0 : Fin 2)
  have e1 : k0_off1 k (1 : Fin 2) = 0 := congrFun (k0_off1_eq k) (1 : Fin 2)
  by_cases h : 8 * k.val ≤ s.val ∧ s.val < 8 * k.val + 8
  · have hh : ∀ a, k0_off1 k a ≤ ((ix2 s d : S512x512.Idx) a).val ∧ ((ix2 s d : S512x512.Idx) a).val < k0_off1 k a + S8x512.size a := by
      intro a
      fin_cases a
      · show k0_off1 k (0 : Fin 2) ≤ s.val ∧ s.val < k0_off1 k (0 : Fin 2) + 8
        rw [e0]; exact h
      · show k0_off1 k (1 : Fin 2) ≤ d.val ∧ d.val < k0_off1 k (1 : Fin 2) + 512
        rw [e1]; omega
    rw [dif_pos hh, dif_pos h]
    refine congrArg w (funext fun a => Fin.ext ?_)
    fin_cases a
    · show s.val - k0_off1 k (0 : Fin 2) = s.val - 8 * k.val
      rw [e0]
    · show d.val - k0_off1 k (1 : Fin 2) = d.val
      rw [e1]; omega
  · rw [dif_neg h, dif_neg]
    intro hh
    apply h
    have := hh (0 : Fin 2)
    have t : k0_off1 k (0 : Fin 2) ≤ s.val ∧ s.val < k0_off1 k (0 : Fin 2) + 8 := this
    rw [e0] at t; exact t

theorem pay24_at (h : Vec Ideal S1x512 .f32) (a b : Vec Ideal S8x512 .f32) (r : Fin 8) (d : Fin 512) :
    k0_pay24 h a b (ix2 r d) = a (ix2 r d) * h (ix2 0 d) + b (ix2 r d) := by
  pointwise [k0_pay24, k0_pay23]

theorem pay25_at (h : Vec Ideal S1x512 .f32) (a b : Vec Ideal S8x512 .f32) (d : Fin 512) :
    k0_pay25 h a b (ix2 0 d) = a (ix2 7 d) * h (ix2 0 d) + b (ix2 7 d) := by
  pointwise [k0_pay25, k0_pay23]

theorem loop_at (X G D : FVec Ideal S512x512 .f32) (hD : ∀ s d, 0 ≤ D (ix2 s d) ∧ D (ix2 s d) ≠ ⊤) (h : Vec Ideal S1x512 .f32) (k : ℕ) (hk : k ≤ 64) :
    (∀ d, (loopSt (k0_pay20 rowIota D) (k0_pay22 (k0_pay21 rowIota X G D)) h k).1 (ix2 0 d)
        = Spec.recur (col D d) (col (addend X G D) d) (h (ix2 0 d)) (8 * k))
    ∧ ∀ s d, (loopSt (k0_pay20 rowIota D) (k0_pay22 (k0_pay21 rowIota X G D)) h k).2 (ix2 s d)
        = if s.val < 8 * k then Spec.recur (col D d) (col (addend X G D) d) (h (ix2 0 d)) (s.val + 1)
          else k0_pay22 (k0_pay21 rowIota X G D) (ix2 s d) := by
  induction k with
  | zero => exact ⟨fun d => rfl, fun s d => by rw [if_neg (by omega)]; rfl⟩
  | succ k ih =>
    obtain ⟨ih1, ih2⟩ := ih (by omega)
    have hkt : k < k0_t1_loop.trips := by rw [trips_eq]; omega
    have hcol : ∀ d g r, 0 ≤ grp D d g r ∧ grp D d g r ≠ ⊤ := by
      intro d g r
      show 0 ≤ col D d _ ∧ col D d _ ≠ ⊤
      unfold col
      split
      · exact hD _ _
      · exact ⟨le_refl _, EReal.zero_ne_top⟩
    have key : ∀ (r : Fin 8) d,
        VecWindow.window (k0_pay20 rowIota D) (k0_off1 ⟨k, hkt⟩) S8x512.size (k0_off1_inb ⟨k, hkt⟩) (ix2 r d)
            * (loopSt (k0_pay20 rowIota D) (k0_pay22 (k0_pay21 rowIota X G D)) h k).1 (ix2 0 d)
          + VecWindow.window (loopSt (k0_pay20 rowIota D) (k0_pay22 (k0_pay21 rowIota X G D)) h k).2 (k0_off1 ⟨k, hkt⟩) S8x512.size (k0_off1_inb ⟨k, hkt⟩) (ix2 r d)
        = Spec.recur (col D d) (col (addend X G D) d) (h (ix2 0 d)) (8 * k + r.val + 1) := by
      intro r d
      rw [window_at, window_at, col_eq _ (by simp only; omega), col_eq _ (by simp only; omega), ih1, ih2, if_neg (by simp only; omega), pay20_at, pay22_at]
      have e1 : (8 * k + r.val) / 8 = k := by omega
      have e2 : (8 * k + r.val) % 8 = r.val := by omega
      simp only [e1, e2]
      rw [Spec.group_eq _ (hcol d k) r.val r.isLt, Nat.add_assoc (8 * k), Spec.recur_add _ _ _ (8 * k)]
      refine Spec.recur_congr (fun i _ => ?_) (fun i _ => ?_) rfl
      · show col D d _ = col D d _
        rw [Nat.mul_comm]
      · show col _ d _ = col _ d _
        rw [Nat.mul_comm]
    rw [loopSt_succ _ _ _ (⟨k, hkt⟩ : Fin k0_t1_loop.trips)]
    refine ⟨fun d => ?_, fun s d => ?_⟩
    · refine (pay25_at _ _ _ d).trans ((key 7 d).trans ?_)
      rfl
    · refine (put_at _ (⟨k, hkt⟩ : Fin k0_t1_loop.trips) _ s d).trans ?_
      by_cases hs : 8 * k ≤ s.val ∧ s.val < 8 * k + 8
      · rw [dif_pos hs, if_pos (by omega), pay24_at, key]
        congr 1; simp only; omega
      · rw [dif_neg hs]
        refine (ih2 s d).trans ?_
        by_cases h1 : s.val < 8 * k
        · rw [if_pos h1, if_pos (by omega)]
        · rw [if_neg h1, if_neg (by omega)]

/-! ## The convolution -/

/-- Row `s - k` of the tile, or of the eight rows before it. -/
def pick (X : Vec Ideal S1x512x512 .bf16) (T : Vec Ideal S8x512 .f32) (d : Fin 512) (k s : ℕ) : EReal :=
  if k ≤ s then (if h : s - k < 512 then X (ix3 0 ⟨s - k, h⟩ d) else 0) else (if h : 8 + s - k < 8 then T (ix2 ⟨8 + s - k, h⟩ d) else 0)

theorem tap0_at (I : Ins Ideal) (d : Fin 512) : tap0 I (ix3 0 0 d) = I.cw (ix3 0 0 d) := by pointwise [tap0]
theorem tap1_at (I : Ins Ideal) (d : Fin 512) : tap1 I (ix3 0 0 d) = I.cw (ix3 0 1 d) := by pointwise [tap1]
theorem tap2_at (I : Ins Ideal) (d : Fin 512) : tap2 I (ix3 0 0 d) = I.cw (ix3 0 2 d) := by pointwise [tap2]
theorem tap3_at (I : Ins Ideal) (d : Fin 512) : tap3 I (ix3 0 0 d) = I.cw (ix3 0 3 d) := by pointwise [tap3]

theorem pick_eq (X : Vec Ideal S1x512x512 .bf16) (T : Vec Ideal S8x512 .f32) (s d : Fin 512) (k : ℕ) (hk : 1 ≤ k ∧ k ≤ 3)
    (h1 : s.val / 8 * 8 + (s.val % 8 + 8 - k) % 8 < 512) (h2 : (s.val % 8 + 8 - k) % 8 < 8) (h3 : (s.val / 8 - 1) * 8 + (s.val % 8 + 8 - k) % 8 < 512) :
    (if k ≤ s.val % 8 then X (ix3 0 ⟨s.val / 8 * 8 + (s.val % 8 + 8 - k) % 8, h1⟩ d)
      else (if h : s.val / 8 < 1 then T (ix2 ⟨(s.val % 8 + 8 - k) % 8, h2⟩ d) else X (ix3 0 ⟨(s.val / 8 - 1) * 8 + (s.val % 8 + 8 - k) % 8, h3⟩ d)))
      = pick X T d k s.val := by
  unfold pick
  by_cases c1 : k ≤ s.val % 8
  · rw [if_pos c1, if_pos (by omega), dif_pos (by omega)]
    congr 2; apply Fin.ext; simp only; omega
  · rw [if_neg c1]
    by_cases c2 : s.val / 8 < 1
    · rw [dif_pos c2, if_neg (by omega), dif_pos (by omega)]
      congr 2; apply Fin.ext; simp only; omega
    · rw [dif_neg c2, if_pos (by omega), dif_pos (by omega)]
      congr 2; apply Fin.ext; simp only; omega

theorem xcv_at (I : Ins Ideal) (T : Vec Ideal S8x512 .f32) (s d : Fin 512) :
    xcv I T (ix2 s d) = I.cb (ix3 0 0 d) + I.cw (ix3 0 0 d) * pick I.xr T d 3 s.val + I.cw (ix3 0 1 d) * pick I.xr T d 2 s.val
      + I.cw (ix3 0 2 d) * pick I.xr T d 1 s.val + I.cw (ix3 0 3 d) * I.xr (ix3 0 s d) := by
  pointwise [xcv, k0_pay3, k0_pay5, k0_pay6, k0_pay7, k0_pay8, k0_pay9]
  have m3 := mask3 ⟨s.val % 8, by omega⟩
  simp only at m3
  rw [rowIota_at, mask1, mask2, m3, select_mask, select_mask, select_mask, tap0_at, tap1_at, tap2_at, tap3_at]
  simp only
  rw [← pick_eq I.xr T s d 3 (by omega) (by omega) (by omega) (by omega), ← pick_eq I.xr T s d 2 (by omega) (by omega) (by omega) (by omega),
    ← pick_eq I.xr T s d 1 (by omega) (by omega) (by omega) (by omega)]

/-! ## The gates, the decay, the result -/

/-- A gate before its logistic function: the convolved tile's row through a weight, plus the bias. -/
def gsum (I : Ins Ideal) (T : Vec Ideal S8x512 .f32) (w : Vec Ideal S1x512x512 .bf16) (b : Vec Ideal S1x1x512 .f32) (s d : Fin 512) : EReal :=
  (∑ k : Fin 512, xcv I T (ix2 s k) * w (ix3 0 k d)) + b (ix3 0 0 d)

theorem rpre_at (I : Ins Ideal) (T : Vec Ideal S8x512 .f32) (s d : Fin 512) : rpre I T (ix2 s d) = gsum I T I.wa I.ba s d := by
  have e : rpre I T = k0_pay11 (k0_pay3 I.xr) T rowIota (k0_pay5 I.xr T I.cb (tap0 I)) (k0_pay6 I.xr) (k0_pay7 T) (k0_pay8 I.xr) (tap1 I) (tap2 I) (tap3 I) I.wa I.ba := rfl
  have e2 : rpre I T = addf (matmul dot_S512x512_S512x512_S512x512_1_0_0_1_n_n none (truncf .bf16 (xcv I T) bitsLt_bf16_f32 : FVec Ideal S512x512 .bf16) (shapeCast S512x512 I.wa shapeCasts_S1x512x512_S512x512) (constant S512x512 .f32 0x00000000#32))
      (broadcastTo S512x512 (shapeCast S1x512 I.ba shapeCasts_S1x1x512_S1x512) broadcasts_S1x512_S512x512) := rfl
  rw [e2]
  unfold gsum
  pointwise!

theorem igate_at (I : Ins Ideal) (T : Vec Ideal S8x512 .f32) (s d : Fin 512) : igate I T (ix2 s d) = Ideal.logistic (gsum I T I.wx I.bx s d) := by
  rw [← Spec.gate_eq]
  unfold gsum
  have e : xcb I T = truncf .bf16 (xcv I T) bitsLt_bf16_f32 := rfl
  unfold igate
  rw [e]
  pointwise! [k0_pay12]

theorem decay_at (I : Ins Ideal) (T : Vec Ideal S8x512 .f32) (s d : Fin 512) :
    decay I T (ix2 s d) = Spec.decA (I.lam (ix3 0 0 d)) (gsum I T I.wa I.ba s d) := by
  unfold decay
  pointwise [k0_pay13]
  rw [rpre_at, Spec.gate_eq, zero_sub, zero_sub]
  rfl

theorem addend_eq (I : Ins Ideal) (T : Vec Ideal S8x512 .f32) (s d : Fin 512) :
    addend (xcv I T) (igate I T) (decay I T) (ix2 s d)
      = Spec.Args.addend (I.lam (ix3 0 0 d)) (gsum I T I.wa I.ba s d) (gsum I T I.wx I.bx s d) (xcv I T (ix2 s d)) := by
  rw [addend_at _ _ _ s d _ (Spec.logA_nonpos (I.lam (ix3 0 0 d)) (gsum I T I.wa I.ba s d)) (decay_at I T s d), igate_at]
  rfl

/-- The tile's decays and addends by row number. -/
def tA (I : Ins Ideal) (T : Vec Ideal S8x512 .f32) (d : Fin 512) : ℕ → EReal := col (decay I T) d
def tB (I : Ins Ideal) (T : Vec Ideal S8x512 .f32) (d : Fin 512) : ℕ → EReal := col (addend (xcv I T) (igate I T) (decay I T)) d

theorem rows_at (I : Ins Ideal) (T : Vec Ideal S8x512 .f32) (h : Vec Ideal S1x512 .f32) :
    (∀ d, (rows I T h).1 (ix2 0 d) = Spec.recur (tA I T d) (tB I T d) (h (ix2 0 d)) 512)
    ∧ ∀ s d, (rows I T h).2 (ix2 s d) = Spec.recur (tA I T d) (tB I T d) (h (ix2 0 d)) (s.val + 1) := by
  have hD : ∀ s d, 0 ≤ decay I T (ix2 s d) ∧ decay I T (ix2 s d) ≠ ⊤ := fun s d => by
    rw [decay_at]; exact ⟨Spec.decA_nonneg _ _, Spec.decA_ne_top _ _⟩
  have H := loop_at (xcv I T) (igate I T) (decay I T) hD h 64 (le_refl _)
  rw [← trips_eq] at H
  refine ⟨fun d => (H.1 d).trans ?_, fun s d => (H.2 s d).trans ?_⟩
  · rw [trips_eq]; rfl
  · rw [if_pos (by rw [trips_eq]; omega)]; rfl

theorem outB_at (i : grid0.Coords) (I : Ins Ideal) (T : Vec Ideal S8x512 .f32) (h : Vec Ideal S1x512 .f32) (s d : Fin 512) :
    outB i I T h (ix3 0 s d)
      = Spec.recur (tA I (tailIn i T) d) (tB I (tailIn i T) d) (hIn i h (ix2 0 d)) (s.val + 1) * Spec.gelu (I.xg (ix3 0 s d)) := by
  rw [← (rows_at I (tailIn i T) (hIn i h)).2 s d]
  unfold outB
  pointwise [k0_pay27]
  unfold Spec.gelu
  rw [mul_comm (Ideal.ofBits .f32 0x3F000000#32) (I.xg _), mul_assoc (I.xg (ix3 0 s d)) (Ideal.ofBits .f32 0x3F000000#32)]

theorem hOut_at (i : grid0.Coords) (I : Ins Ideal) (T : Vec Ideal S8x512 .f32) (h : Vec Ideal S1x512 .f32) (d : Fin 512) :
    hOut i I T h (ix2 0 d) = Spec.recur (tA I (tailIn i T) d) (tB I (tailIn i T) d) (hIn i h (ix2 0 d)) 512 := by
  rw [← (rows_at I (tailIn i T) (hIn i h)).1 d]
  unfold hOut
  pointwise [k0_pay26]

theorem tailOut_at (I : Ins Ideal) (q : Fin 8) (d : Fin 512) : tailOut I (ix2 q d) = I.xr (ix3 0 ⟨504 + q.val, by omega⟩ d) := by
  unfold tailOut
  pointwise [k0_pay4, k0_pay3]

theorem pay1_at (q : Fin 8) (d : Fin 512) : k0_pay1 (F := Ideal) (ix2 q d) = 0 := by pointwise [k0_pay1]
theorem pay2_at (d : Fin 512) : k0_pay2 (F := Ideal) (ix2 0 d) = 0 := by pointwise [k0_pay2]

end Cert.Proof.Rg

end
-- ==== Proof.RgHost.lean ====
module

public import proofs.«01_k».proof.Proof.RgRun
public import proofs.«01_k».proof.Proof.RgPay
public import Idealize.ShloMosaic.Lib.Pipeline.Value
public import Idealize.ShloMosaic.Lib.StableHlo.ReadAt

@[expose] public section

set_option maxRecDepth 16384
set_option maxHeartbeats 4000000

noncomputable section

/-! What one grid point reads, in terms of the program's arguments. -/

namespace Cert.Proof.Rg

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ)

/-! ## The arguments -/

abbrev a0 (c : Dev nD) : S4x4096x4608.Idx → EReal := m ((c : Thread nD τ).loc main_arg0)
abbrev a1 (c : Dev nD) : S4x4x512.Idx → EReal := m ((c : Thread nD τ).loc main_arg1)
abbrev a2 (c : Dev nD) : S4x512.Idx → EReal := m ((c : Thread nD τ).loc main_arg2)
abbrev a3 (c : Dev nD) : S4x8x64x64.Idx → EReal := m ((c : Thread nD τ).loc main_arg3)
abbrev a4 (c : Dev nD) : S4x512.Idx → EReal := m ((c : Thread nD τ).loc main_arg4)
abbrev a5 (c : Dev nD) : S4x8x64x64.Idx → EReal := m ((c : Thread nD τ).loc main_arg5)
abbrev a6 (c : Dev nD) : S4x512.Idx → EReal := m ((c : Thread nD τ).loc main_arg6)
abbrev a7 (c : Dev nD) : S4x512.Idx → EReal := m ((c : Thread nD τ).loc main_arg7)

/-! ## The host's arrays -/

theorem v29_at (c : Dev nD) (b : Fin 4) (s : Fin 4096) (e : Fin 4608) (k : Fin 4608) (h1 : 2048 ≤ e.val) (h2 : k.val = e.val - 2048) :
    (V m c main_v29 : S4x4096x4608.Idx → EReal) (ix3 b s e) = a0 m c (ix3 b s k) := by
  obtain ⟨k, hk⟩ := k
  obtain rfl : k = e.val - 2048 := h2
  unfold V
  after_reads_at
  rw [dif_neg (by omega)]
  after_reads_at

/-- Whether `i` and `j` lie in one group of 64, as the number one or zero. -/
def eyeAt (i j : Fin 512) : EReal := FloatOps.uitofp (F := Ideal) FTy.f32
        (IntOp.cmpi CmpIPredicate.eq (IntOp.addi (BitVec.ofNat 32 (i.val / 64)) 0#32) (BitVec.ofNat 32 (j.val / 64)))

theorem eyeAt_eq (i j : Fin 512) : eyeAt i j = if i.val / 64 = j.val / 64 then 1 else 0 := by
  have key : ∀ p q : Fin 8, IntOp.cmpi CmpIPredicate.eq (IntOp.addi (BitVec.ofNat 32 p.val) 0#32) (BitVec.ofNat 32 q.val) = BitVec.ofBool (decide (p.val = q.val)) := by decide
  have k := key ⟨i.val / 64, by omega⟩ ⟨j.val / 64, by omega⟩
  unfold eyeAt
  simp only at k
  rw [k]
  by_cases h : i.val / 64 = j.val / 64
  · rw [if_pos h]
    simp [h, FloatOps.uitofp]
  · rw [if_neg h]
    simp [h, FloatOps.uitofp]

theorem v12_at (c : Dev nD) (l : Fin 4) (i j : Fin 512) :
    (V m c main_v12 : S4x512x512.Idx → EReal) (ix3 l i j)
      = eyeAt i j * a3 m c (ix4 l ⟨i.val / 64, by omega⟩ ⟨i.val % 64, by omega⟩ ⟨j.val % 64, by omega⟩) := by
  unfold V
  after_reads_at
  rfl

theorem v25_at (c : Dev nD) (l : Fin 4) (i j : Fin 512) :
    (V m c main_v25 : S4x512x512.Idx → EReal) (ix3 l i j)
      = eyeAt i j * a5 m c (ix4 l ⟨i.val / 64, by omega⟩ ⟨i.val % 64, by omega⟩ ⟨j.val % 64, by omega⟩) := by
  unfold V
  after_reads_at
  rfl

theorem v30_at (c : Dev nD) (l : Fin 4) (d : Fin 512) : (V m c main_v30 : S4x1x512.Idx → EReal) (ix3 l 0 d) = a2 m c (ix2 l d) := by
  unfold V
  after_reads_at
theorem v31_at (c : Dev nD) (l : Fin 4) (d : Fin 512) : (V m c main_v31 : S4x1x512.Idx → EReal) (ix3 l 0 d) = a4 m c (ix2 l d) := by
  unfold V
  after_reads_at
theorem v32_at (c : Dev nD) (l : Fin 4) (d : Fin 512) : (V m c main_v32 : S4x1x512.Idx → EReal) (ix3 l 0 d) = a6 m c (ix2 l d) := by
  unfold V
  after_reads_at
theorem v33_at (c : Dev nD) (l : Fin 4) (d : Fin 512) : (V m c main_v33 : S4x1x512.Idx → EReal) (ix3 l 0 d) = a7 m c (ix2 l d) := by
  unfold V
  after_reads_at

/-! ## The windows -/

theorem idx_facts : ∀ t : Fin grid0.N,
    (win0_0.index t = ![t.val / 8, t.val % 8, 7] ∧ win0_1.index t = ![t.val / 8, t.val % 8, 8] ∧ win0_2.index t = ![0, 0, 0])
    ∧ (win0_3.index t = ![0, 0, 0] ∧ win0_4.index t = ![0, 0, 0] ∧ win0_5.index t = ![0, 0, 0])
    ∧ (win0_6.index t = ![0, 0, 0] ∧ win0_7.index t = ![0, 0, 0] ∧ win0_8.index t = ![0, 0, 0] ∧ win0_9.index t = ![t.val / 8, t.val % 8, 0])
    ∧ (first (grid0.coords t) ↔ t.val % 8 = 0) := by decide +kernel

theorem xr_at (c : Dev nD) (t : Fin cfg0.N) (s d : Fin 512) (hb : t.val / 8 < 4) (hs : t.val % 8 * 512 + s.val < 4096) :
    (ins m c t).xr (ix3 0 s d) = a0 m c (ix3 ⟨t.val / 8, hb⟩ ⟨t.val % 8 * 512 + s.val, hs⟩ ⟨1536 + d.val, by omega⟩) := by
  rw [← v29_at m c ⟨t.val / 8, hb⟩ ⟨t.val % 8 * 512 + s.val, hs⟩ ⟨3584 + d.val, by omega⟩ ⟨1536 + d.val, by omega⟩ (by simp only; omega) (by simp only; omega)]
  have e := (idx_facts t).1.1
  refine congrArg (V m c main_v29 : S4x4096x4608.Idx → EReal) (funext fun a => Fin.ext ?_)
  refine (win0_0.rect_emb_val t (ix3 0 s d) a).trans ?_
  rw [e]
  fin_cases a
  · show t.val / 8 * 1 + 0 = t.val / 8; omega
  · rfl
  · show 7 * 512 + d.val = 3584 + d.val; omega

theorem xg_at (c : Dev nD) (t : Fin cfg0.N) (s d : Fin 512) (hb : t.val / 8 < 4) (hs : t.val % 8 * 512 + s.val < 4096) :
    (ins m c t).xg (ix3 0 s d) = a0 m c (ix3 ⟨t.val / 8, hb⟩ ⟨t.val % 8 * 512 + s.val, hs⟩ ⟨2048 + d.val, by omega⟩) := by
  rw [← v29_at m c ⟨t.val / 8, hb⟩ ⟨t.val % 8 * 512 + s.val, hs⟩ ⟨4096 + d.val, by omega⟩ ⟨2048 + d.val, by omega⟩ (by simp only; omega) (by simp only; omega)]
  have e := (idx_facts t).1.2.1
  refine congrArg (V m c main_v29 : S4x4096x4608.Idx → EReal) (funext fun a => Fin.ext ?_)
  refine (win0_1.rect_emb_val t (ix3 0 s d) a).trans ?_
  rw [e]
  fin_cases a
  · show t.val / 8 * 1 + 0 = t.val / 8; omega
  · rfl
  · show 8 * 512 + d.val = 4096 + d.val; omega

theorem cw_at (c : Dev nD) (t : Fin cfg0.N) (j : Fin 4) (d : Fin 512) : (ins m c t).cw (ix3 0 j d) = a1 m c (ix3 0 j d) := by
  have e := (idx_facts t).1.2.2
  refine Eq.trans ?_ (congrFun (V_main_arg1 m c) (ix3 0 j d))
  refine congrArg (V m c main_arg1 : S4x4x512.Idx → EReal) (funext fun a => Fin.ext ?_)
  refine (win0_2.rect_emb_val t (ix3 0 j d) a).trans ?_
  rw [e]
  fin_cases a
  · rfl
  · show 0 * 4 + j.val = j.val; omega
  · show 0 * 512 + d.val = d.val; omega

theorem cb_at (c : Dev nD) (t : Fin cfg0.N) (d : Fin 512) : (ins m c t).cb (ix3 0 0 d) = a2 m c (ix2 0 d) := by
  have e := (idx_facts t).2.1.1
  rw [← v30_at]
  refine congrArg (V m c main_v30 : S4x1x512.Idx → EReal) (funext fun a => Fin.ext ?_)
  refine (win0_3.rect_emb_val t (ix3 0 0 d) a).trans ?_
  rw [e]
  fin_cases a
  · rfl
  · rfl
  · show 0 * 512 + d.val = d.val; omega

theorem ba_at (c : Dev nD) (t : Fin cfg0.N) (d : Fin 512) : (ins m c t).ba (ix3 0 0 d) = a4 m c (ix2 0 d) := by
  have e := (idx_facts t).2.1.2.2
  rw [← v31_at]
  refine congrArg (V m c main_v31 : S4x1x512.Idx → EReal) (funext fun a => Fin.ext ?_)
  refine (win0_5.rect_emb_val t (ix3 0 0 d) a).trans ?_
  rw [e]
  fin_cases a
  · rfl
  · rfl
  · show 0 * 512 + d.val = d.val; omega

theorem bx_at (c : Dev nD) (t : Fin cfg0.N) (d : Fin 512) : (ins m c t).bx (ix3 0 0 d) = a6 m c (ix2 0 d) := by
  have e := (idx_facts t).2.2.1.2.1
  rw [← v32_at]
  refine congrArg (V m c main_v32 : S4x1x512.Idx → EReal) (funext fun a => Fin.ext ?_)
  refine (win0_7.rect_emb_val t (ix3 0 0 d) a).trans ?_
  rw [e]
  fin_cases a
  · rfl
  · rfl
  · show 0 * 512 + d.val = d.val; omega

theorem lam_at (c : Dev nD) (t : Fin cfg0.N) (d : Fin 512) : (ins m c t).lam (ix3 0 0 d) = a7 m c (ix2 0 d) := by
  have e := (idx_facts t).2.2.1.2.2.1
  rw [← v33_at]
  refine congrArg (V m c main_v33 : S4x1x512.Idx → EReal) (funext fun a => Fin.ext ?_)
  refine (win0_8.rect_emb_val t (ix3 0 0 d) a).trans ?_
  rw [e]
  fin_cases a
  · rfl
  · rfl
  · show 0 * 512 + d.val = d.val; omega

theorem wa_at (c : Dev nD) (t : Fin cfg0.N) (i j : Fin 512) :
    (ins m c t).wa (ix3 0 i j) = eyeAt i j * a3 m c (ix4 0 ⟨i.val / 64, by omega⟩ ⟨i.val % 64, by omega⟩ ⟨j.val % 64, by omega⟩) := by
  have e := (idx_facts t).2.1.2.1
  rw [← v12_at]
  refine congrArg (V m c main_v12 : S4x512x512.Idx → EReal) (funext fun a => Fin.ext ?_)
  refine (win0_4.rect_emb_val t (ix3 0 i j) a).trans ?_
  rw [e]
  fin_cases a
  · rfl
  · show 0 * 512 + i.val = i.val; omega
  · show 0 * 512 + j.val = j.val; omega

theorem wx_at (c : Dev nD) (t : Fin cfg0.N) (i j : Fin 512) :
    (ins m c t).wx (ix3 0 i j) = eyeAt i j * a5 m c (ix4 0 ⟨i.val / 64, by omega⟩ ⟨i.val % 64, by omega⟩ ⟨j.val % 64, by omega⟩) := by
  have e := (idx_facts t).2.2.1.1
  rw [← v25_at]
  refine congrArg (V m c main_v25 : S4x512x512.Idx → EReal) (funext fun a => Fin.ext ?_)
  refine (win0_6.rect_emb_val t (ix3 0 i j) a).trans ?_
  rw [e]
  fin_cases a
  · rfl
  · show 0 * 512 + i.val = i.val; omega
  · show 0 * 512 + j.val = j.val; omega

/-! ## A sum against a block-diagonal weight -/

theorem block_sum (x : Fin 512 → EReal) (w : Fin 64 → EReal) (d : Fin 512) :
    (∑ k : Fin 512, x k * (eyeAt k d * w ⟨k.val % 64, by omega⟩)) = ∑ j : Fin 64, w j * x ⟨d.val / 64 * 64 + j.val, by omega⟩ := by
  have e1 : ∀ k : Fin 512, x k * (eyeAt k d * w ⟨k.val % 64, by omega⟩) = if k.val / 64 = d.val / 64 then x k * w ⟨k.val % 64, by omega⟩ else 0 := by
    intro k
    rw [eyeAt_eq]
    by_cases h : k.val / 64 = d.val / 64
    · rw [if_pos h, if_pos h, one_mul]
    · rw [if_neg h, if_neg h, zero_mul, mul_zero]
  rw [Finset.sum_congr rfl (fun k _ => e1 k), ← Finset.sum_filter]
  symm
  refine Finset.sum_bij (fun (j : Fin 64) _ => (⟨d.val / 64 * 64 + j.val, by omega⟩ : Fin 512)) ?_ ?_ ?_ ?_
  · intro j _
    simp only [Finset.mem_filter, Finset.mem_univ, true_and]
    omega
  · intro j _ j' _ h
    have := congrArg Fin.val h
    simp only at this
    exact Fin.ext (by omega)
  · intro k hk
    simp only [Finset.mem_filter, Finset.mem_univ, true_and] at hk
    exact ⟨⟨k.val % 64, by omega⟩, Finset.mem_univ _, Fin.ext (by simp only; omega)⟩
  · intro j _
    rw [mul_comm]
    congr 2
    exact Fin.ext (by simp only; omega)

end Cert.Proof.Rg

end
-- ==== Proof.RgTile.lean ====
module

public import proofs.«01_k».proof.Proof.RgHost

@[expose] public section

set_option maxRecDepth 16384
set_option maxHeartbeats 4000000

noncomputable section

/-! The kernel's result array: the points' carried rows by induction, and the blocks put together. -/

namespace Cert.Proof.Rg

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ)

/-- The layer's arguments as the program holds them. -/
def args (c : Dev nD) : Spec.Args where
  x b s e := a0 m c (ix3 b s e)
  cw j d := a1 m c (ix3 0 j d)
  cb d := a2 m c (ix2 0 d)
  wa g i j := a3 m c (ix4 0 g i j)
  ba d := a4 m c (ix2 0 d)
  wx g i j := a5 m c (ix4 0 g i j)
  bx d := a6 m c (ix2 0 d)
  lam d := a7 m c (ix2 0 d)

theorem point_lt (t : Fin cfg0.N) : t.val < 32 := by
  have h : cfg0.N = 32 := N_0
  have := t.isLt
  omega

/-- The point's sequence. -/
def seq (t : Fin cfg0.N) : Fin 4 := ⟨t.val / 8, by have := point_lt t; omega⟩

/-- The carried rows before the point `t`, as the point uses them: the eight rows of the branch before its tile, and the recurrence's value there. -/
def Before (c : Dev nD) (t : Fin cfg0.N) : Prop :=
  (∀ (q : Fin 8) (d : Fin 512), tailIn (grid0.coords t) (carry m c t.val).1 (ix2 q d)
      = if t.val % 8 = 0 then 0 else (args m c).xr (seq t) d (t.val % 8 * 512 - 8 + q.val))
  ∧ ∀ d : Fin 512, hIn (grid0.coords t) (carry m c t.val).2 (ix2 0 d)
      = Spec.recur ((args m c).fac (seq t) d) ((args m c).add (seq t) d) 0 (t.val % 8 * 512)

theorem xr_row (c : Dev nD) (t : Fin cfg0.N) (s d : Fin 512) : (ins m c t).xr (ix3 0 s d) = (args m c).xr (seq t) d (t.val % 8 * 512 + s.val) := by
  have hs : t.val % 8 * 512 + s.val < 4096 := by omega
  rw [xr_at m c t s d (seq t).isLt hs]
  unfold Spec.Args.xr
  rw [dif_pos hs]
  rfl

section point

variable {m} {c : Dev nD} {t : Fin cfg0.N} (H : Before m c t)

include H

theorem pick_row (k : ℕ) (hk : 1 ≤ k ∧ k ≤ 3) (s d : Fin 512) :
    pick (ins m c t).xr (tailIn (grid0.coords t) (carry m c t.val).1) d k s.val
      = Spec.lag ((args m c).xr (seq t) d) (3 - k) (t.val % 8 * 512 + s.val) := by
  unfold pick Spec.lag
  by_cases h1 : k ≤ s.val
  · rw [if_pos h1, dif_pos (by omega), xr_row, if_pos (by omega)]
    congr 1; simp only; omega
  · rw [if_neg h1, dif_pos (by omega), H.1]
    by_cases h2 : t.val % 8 = 0
    · rw [if_pos h2, if_neg (by omega)]
    · rw [if_neg h2, if_pos (by omega)]
      congr 1; simp only; omega

theorem xcv_row (s d : Fin 512) :
    xcv (ins m c t) (tailIn (grid0.coords t) (carry m c t.val).1) (ix2 s d) = (args m c).xc (seq t) (t.val % 8 * 512 + s.val) d := by
  rw [xcv_at, pick_row H 3 (by omega), pick_row H 2 (by omega), pick_row H 1 (by omega), xr_row, cb_at, cw_at, cw_at, cw_at, cw_at]
  unfold Spec.Args.xc Spec.conv
  have e : Spec.lag ((args m c).xr (seq t) d) 3 (t.val % 8 * 512 + s.val) = (args m c).xr (seq t) d (t.val % 8 * 512 + s.val) := by
    unfold Spec.lag
    rw [if_pos (by omega)]; rfl
  rw [e]
  rfl

theorem gsum_a (s d : Fin 512) :
    gsum (ins m c t) (tailIn (grid0.coords t) (carry m c t.val).1) (ins m c t).wa (ins m c t).ba s d
      = (args m c).gate (args m c).wa (args m c).ba (seq t) (t.val % 8 * 512 + s.val) d := by
  unfold gsum Spec.Args.gate
  rw [ba_at]
  refine congrArg (· + a4 m c (ix2 0 d)) ?_
  refine (Finset.sum_congr rfl fun k _ => ?_).trans (block_sum (fun k => (args m c).xc (seq t) (t.val % 8 * 512 + s.val) k)
    (fun j => (args m c).wa ⟨d.val / 64, by omega⟩ j ⟨d.val % 64, by omega⟩) d)
  rw [xcv_row H, wa_at, eyeAt_eq]
  by_cases h : k.val / 64 = d.val / 64
  · rw [if_pos h]
    simp only [h]
    rfl
  · rw [if_neg h, zero_mul, zero_mul]

theorem gsum_x (s d : Fin 512) :
    gsum (ins m c t) (tailIn (grid0.coords t) (carry m c t.val).1) (ins m c t).wx (ins m c t).bx s d
      = (args m c).gate (args m c).wx (args m c).bx (seq t) (t.val % 8 * 512 + s.val) d := by
  unfold gsum Spec.Args.gate
  rw [bx_at]
  refine congrArg (· + a6 m c (ix2 0 d)) ?_
  refine (Finset.sum_congr rfl fun k _ => ?_).trans (block_sum (fun k => (args m c).xc (seq t) (t.val % 8 * 512 + s.val) k)
    (fun j => (args m c).wx ⟨d.val / 64, by omega⟩ j ⟨d.val % 64, by omega⟩) d)
  rw [xcv_row H, wx_at, eyeAt_eq]
  by_cases h : k.val / 64 = d.val / 64
  · rw [if_pos h]
    simp only [h]
    rfl
  · rw [if_neg h, zero_mul, zero_mul]

theorem tA_row (d : Fin 512) (s : ℕ) (hs : s < 512) :
    tA (ins m c t) (tailIn (grid0.coords t) (carry m c t.val).1) d s = (args m c).fac (seq t) d (t.val % 8 * 512 + s) := by
  unfold tA
  rw [col_eq s hs, decay_at, lam_at, gsum_a H]
  rfl

theorem tB_row (d : Fin 512) (s : ℕ) (hs : s < 512) :
    tB (ins m c t) (tailIn (grid0.coords t) (carry m c t.val).1) d s = (args m c).add (seq t) d (t.val % 8 * 512 + s) := by
  unfold tB
  rw [col_eq s hs, addend_eq, lam_at, gsum_a H, gsum_x H, xcv_row H]
  rfl

theorem recur_row (d : Fin 512) (n : ℕ) (hn : n ≤ 512) :
    Spec.recur (tA (ins m c t) (tailIn (grid0.coords t) (carry m c t.val).1) d) (tB (ins m c t) (tailIn (grid0.coords t) (carry m c t.val).1) d)
        (hIn (grid0.coords t) (carry m c t.val).2 (ix2 0 d)) n
      = Spec.recur ((args m c).fac (seq t) d) ((args m c).add (seq t) d) 0 (t.val % 8 * 512 + n) := by
  rw [Spec.recur_add, ← H.2 d]
  exact Spec.recur_congr (fun i hi => tA_row H d i (by omega)) (fun i hi => tB_row H d i (by omega)) rfl

theorem outAt_row (s d : Fin 512) :
    outAt m c t (ix3 0 s d) = (args m c).out (seq t) ⟨t.val % 8 * 512 + s.val, by omega⟩ d := by
  unfold outAt
  rw [outB_at, recur_row H d _ (by omega), xg_at m c t s d (seq t).isLt (by omega)]
  rfl

end point

theorem before (c : Dev nD) : ∀ (n : ℕ) (hn : n < cfg0.N), Before m c ⟨n, hn⟩
  | 0, hn => by
    have hf := first_zero ⟨0, hn⟩ rfl
    refine ⟨fun q d => ?_, fun d => ?_⟩
    · unfold tailIn
      rw [if_pos hf, if_pos (by rfl)]
      exact pay1_at q d
    · unfold hIn
      rw [if_pos hf]
      exact pay2_at d
  | n + 1, hn => by
    have hN : cfg0.N = 32 := N_0
    have H := before c n (by omega)
    have hc := carry_succ m c ⟨n, by omega⟩
    by_cases h8 : (n + 1) % 8 = 0
    · have hf : first (grid0.coords (⟨n + 1, hn⟩ : Fin cfg0.N)) := (idx_facts ⟨n + 1, hn⟩).2.2.2.mpr h8
      refine ⟨fun q d => ?_, fun d => ?_⟩
      · unfold tailIn
        rw [if_pos hf, if_pos h8]
        exact pay1_at q d
      · unfold hIn
        rw [if_pos hf]
        show _ = Spec.recur _ _ 0 ((n + 1) % 8 * 512)
        rw [h8]
        exact pay2_at d
    · have hf : ¬ first (grid0.coords (⟨n + 1, hn⟩ : Fin cfg0.N)) := fun h => h8 ((idx_facts ⟨n + 1, hn⟩).2.2.2.mp h)
      have es : seq (⟨n + 1, hn⟩ : Fin cfg0.N) = seq ⟨n, by omega⟩ := Fin.ext (by show (n + 1) / 8 = n / 8; omega)
      refine ⟨fun q d => ?_, fun d => ?_⟩
      · unfold tailIn
        rw [if_neg hf, if_neg h8, es]
        show (carry m c (n + 1)).1 (ix2 q d) = _
        rw [hc]
        show tailOut _ _ = _
        rw [tailOut_at, xr_row]
        congr 1; simp only; omega
      · unfold hIn
        rw [if_neg hf, es]
        show (carry m c (n + 1)).2 (ix2 0 d) = Spec.recur _ _ 0 ((n + 1) % 8 * 512)
        rw [hc]
        show hOut _ _ _ _ _ = _
        rw [hOut_at, recur_row H d 512 (by omega)]
        congr 1; simp only; omega

/-! ## The result array -/

/-- The layer's result as an array. -/
def outArr (P : Spec.Args) : S4x4096x512.Idx → EReal := fun i => P.out (i 0) (i 1) (i 2)

theorem flushed_eq (c : Dev nD) (t : Fin cfg0.N) :
    (dats m 0 c).flushed 9 t = ((cfg0.win 9).blk t).view.read (Elt Ideal) (outArr (args m c)) := by
  show (cfg0.win 9).cut (grid0.coords t) ((dats m 0 c).after 9 t) = _
  rw [after0_9]
  funext y
  have e := (idx_facts t).2.2.1.2.2.2
  have hy0 : (y 0).val = 0 := by have : (y 0).val < 1 := (y 0).isLt; omega
  have hy1 : (y 1).val < 512 := (y 1).isLt
  have hy2 : (y 2).val < 512 := (y 2).isLt
  have ey : y = (ix3 0 ⟨(y 1).val, hy1⟩ ⟨(y 2).val, hy2⟩ : S1x512x512.Idx) := by
    funext a
    fin_cases a
    · exact Fin.ext hy0
    · rfl
    · rfl
  show outAt m c t y = outArr (args m c) ((win0_9.rect t).emb y)
  have r : (win0_9.rect t).emb y = (ix3 (seq t) ⟨t.val % 8 * 512 + (y 1).val, by omega⟩ ⟨(y 2).val, hy2⟩ : S4x4096x512.Idx) := by
    funext a
    refine Fin.ext ((win0_9.rect_emb_val t y a).trans ?_)
    rw [e]
    fin_cases a
    · show t.val / 8 * 1 + (y 0).val = t.val / 8; omega
    · rfl
    · show 0 * 512 + (y 2).val = (y 2).val; omega
  rw [r]
  refine (congrArg (outAt m c t) ey).trans ?_
  exact outAt_row (before m c t.val t.isLt) ⟨(y 1).val, hy1⟩ ⟨(y 2).val, hy2⟩

theorem mem_blk (t : Fin cfg0.N) (i : S4x4096x512.Idx) :
    i ∈ ((cfg0.win 9).blk t).view.set ↔ ∀ a, win0_9.index t a * win0_9.size a ≤ (i a : ℕ) ∧ (i a : ℕ) < win0_9.index t a * win0_9.size a + win0_9.xsize (grid0.coords t) a := by
  show i ∈ ((View.whole main_v34).slice (win0_9.rect t)).set ↔ _
  rw [View.set_slice_whole, Rect.mem_set_unit]

theorem flush_all : ∀ t : Fin cfg0.N, (cfg0.win 9).flush t = true := (by decide +kernel : ∀ t : Fin grid0.N, (cfg0.win 9).flush t = true)

theorem cover (i : S4x4096x512.Idx) : ∃ t : Fin cfg0.N, (cfg0.win 9).flush t = true ∧ i ∈ ((cfg0.win 9).blk t).view.set := by
  have h0 : (i 0).val < 4 := (i 0).isLt
  have h1 : (i 1).val < 4096 := (i 1).isLt
  have h2 : (i 2).val < 512 := (i 2).isLt
  have hN : cfg0.N = 32 := N_0
  have ht : (i 0).val * 8 + (i 1).val / 512 < cfg0.N := by omega
  refine ⟨⟨(i 0).val * 8 + (i 1).val / 512, ht⟩, flush_all _, ?_⟩
  rw [mem_blk]
  have e := (idx_facts (⟨(i 0).val * 8 + (i 1).val / 512, ht⟩ : Fin grid0.N)).2.2.1.2.2.2
  rw [e]
  intro a
  match a with
  | ⟨0, _⟩ =>
    show ((i 0).val * 8 + (i 1).val / 512) / 8 * 1 ≤ (i 0).val ∧ (i 0).val < ((i 0).val * 8 + (i 1).val / 512) / 8 * 1 + 1
    omega
  | ⟨1, _⟩ =>
    show ((i 0).val * 8 + (i 1).val / 512) % 8 * 512 ≤ (i 1).val ∧ (i 1).val < ((i 0).val * 8 + (i 1).val / 512) % 8 * 512 + 512
    omega
  | ⟨2, _⟩ =>
    show 0 * 512 ≤ (i 2).val ∧ (i 2).val < 0 * 512 + 512
    omega

/-- The result array ends at the layer's result. -/
theorem arr_eq (c : Dev nD) : (dats m 0 c).arrAt 9 cfg0.N = outArr (args m c) :=
  (dats m 0 c).arrAt_eq_of_cover 9 (outArr (args m c)) (fun t _ => flushed_eq m c t) cover

end Cert.Proof.Rg

end
-- ==== Proof.RgRefRun.lean ====
module

public import proofs.«01_k».proof.Proof.Gen.ReferenceIdeal.Run
public import proofs.«01_k».proof.Proof.Gen.ReferenceIdeal.Step

@[expose] public section

/-! The reference's loop as a recurrence.

One trip of the loop takes row `n` of the two precomputed arrays, forms the next hidden state from them and writes it into
row `n` of the array of states.  The contents of the carried arrays before trip `n` are those of a sequence that starts at
the reference's entry and goes on by this rule. -/

set_option maxRecDepth 16384
set_option maxHeartbeats 1000000

noncomputable section

namespace Cert.Proof.RgRef

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- The three start coordinates of the row that trip `n` reads and writes. -/
def starts (F : FTy → Type) [FloatOps F] (n : ℕ) : Fin 3 → ℤ := fun k =>
  (((![constantI S_ 32 (BitVec.ofNat 32 n), constantI S_ 32 0#32, constantI S_ 32 0#32] :
    Fin 3 → (⟨S_, .i32⟩ : BufTy).Contents (Elt F))) k (Shape.Idx.first h_S_)).toInt

/-- Row `n` of an array of 4096 rows. -/
def rowOf (a : (⟨S4096x4x512, .f32⟩ : BufTy).Contents (Elt F)) (n : ℕ) : (⟨S4x512, .f32⟩ : BufTy).Contents (Elt F) :=
  shapeCast S4x512 (Host.dynamicSlice S1x4x512 a (starts F n) sliceFits_S4096x4x512_S1x4x512) shapeCasts_S1x4x512_S4x512

/-- The hidden state after trip `n`. -/
def nextH (a b : (⟨S4096x4x512, .f32⟩ : BufTy).Contents (Elt F)) (n : ℕ) (h : (⟨S4x512, .f32⟩ : BufTy).Contents (Elt F)) :
    (⟨S4x512, .f32⟩ : BufTy).Contents (Elt F) :=
  addf (mulf (rowOf a n) h) (rowOf b n)

/-- The array of states after trip `n` has put the state `h` into row `n`. -/
def putRow (n : ℕ) (o : (⟨S4096x4x512, .f32⟩ : BufTy).Contents (Elt F)) (h : (⟨S4x512, .f32⟩ : BufTy).Contents (Elt F)) :
    (⟨S4096x4x512, .f32⟩ : BufTy).Contents (Elt F) :=
  Host.dynamicUpdateSlice o (broadcastInDim S1x4x512 ![1, 2] bcast_S4x512_S1x4x512_1_2 h) (starts F n) updateFits_S4096x4x512_S1x4x512

/-- What the carried arrays are before trip `n`. -/
structure Before (V : Valuation τ sig (Elt F)) (a b : (⟨S4096x4x512, .f32⟩ : BufTy).Contents (Elt F))
    (h : (⟨S4x512, .f32⟩ : BufTy).Contents (Elt F)) (o : (⟨S4096x4x512, .f32⟩ : BufTy).Contents (Elt F)) (n : ℕ) : Prop where
  fac : V (Proc.devRef .tc main_v90_0) = a
  add : V (Proc.devRef .tc main_v90_1) = b
  trip : V (Proc.devRef .tc main_v90_2) = constantI S_ 32 (BitVec.ofNat 32 n)
  hid : V (Proc.devRef .tc main_v90_3) = h
  out : V (Proc.devRef .tc main_v90_4) = o

section

variable {V : Valuation τ sig (Elt F)} {a b : (⟨S4096x4x512, .f32⟩ : BufTy).Contents (Elt F)}
  {h : (⟨S4x512, .f32⟩ : BufTy).Contents (Elt F)} {o : (⟨S4096x4x512, .f32⟩ : BufTy).Contents (Elt F)} {n : ℕ}

theorem hid_of (H : Before V a b h o n) : res_main_while0b_v111 V = nextH a b n h := by
  unfold res_main_while0b_v111
  rw [H.fac, H.add, H.trip, H.hid]
  rfl

theorem out_of (H : Before V a b h o n) : step_main_v90_4 V = putRow n o (nextH a b n h) := by
  unfold step_main_v90_4
  rw [hid_of H, H.trip, H.out]
  rfl

theorem trip_of (H : Before V a b h o n) : step_main_v90_2 V = constantI S_ 32 (BitVec.ofNat 32 (n + 1)) := by
  unfold step_main_v90_2
  rw [H.trip]
  funext i
  exact (BitVec.ofNat_add n 1).symm

/-- One trip leads from the contents before it to the contents before the next one. -/
theorem Before.next (H : Before V a b h o n) :
    Before (STEP V) a b (nextH a b n h) (putRow n o (nextH a b n h)) (n + 1) where
  fac := (STEP_main_v90_0 V).trans H.fac
  add := (STEP_main_v90_1 V).trans H.add
  trip := (STEP_main_v90_2 V).trans (trip_of H)
  hid := (STEP_main_v90_3 V).trans (hid_of H)
  out := (STEP_main_v90_4 V).trans (out_of H)

end

variable (m : (ℓ : Loc nD τ sig) → Buf (Elt F) ℓ) (c : Dev nD)

/-- The state a device's loop starts from. -/
abbrev start : Cert.ReferenceIdeal.Step.State F :=
  Cert.ReferenceIdeal.Step.init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

set_option maxRecDepth 65536 in
theorem entry : Before (entryContents preI m c) (start m c).main_v90_0 (start m c).main_v90_1 (start m c).main_v90_3
    (start m c).main_v90_4 0 := by
  constructor <;> (simp only [entryContents, afterL_cons, afterL_nil]; after_reads_simp) <;> rfl

/-- The hidden state before trip `n`. -/
def hidAt : ℕ → (⟨S4x512, .f32⟩ : BufTy).Contents (Elt F)
  | 0 => (start m c).main_v90_3
  | n + 1 => nextH (start m c).main_v90_0 (start m c).main_v90_1 n (hidAt n)

/-- The array of states before trip `n`. -/
def outsAt : ℕ → (⟨S4096x4x512, .f32⟩ : BufTy).Contents (Elt F)
  | 0 => (start m c).main_v90_4
  | n + 1 => putRow n (outsAt n) (hidAt m c (n + 1))

theorem before_at : ∀ n, Before (STEP^[n] (entryContents preI m c)) (start m c).main_v90_0 (start m c).main_v90_1
    (hidAt m c n) (outsAt m c n) n
  | 0 => entry m c
  | n + 1 => by
    rw [Function.iterate_succ_apply']
    exact (before_at n).next

/-- The result of the run: what follows the loop, of the array of states after the last trip. -/
theorem out_eq : out_main_v107 (STEP^[4096] (entryContents preI m c)) =
    Cert.ReferenceIdeal.Step.R_main_v107 { start m c with main_v90_4 := outsAt m c 4096 } (m ((c.tc : Thread nD τ).loc main_arg0)) := by
  unfold out_main_v107 Cert.ReferenceIdeal.Step.R_main_v107
  rw [(before_at m c 4096).out, iter_main_arg0 m c 4096]

end Cert.Proof.RgRef

end
-- ==== Proof.RgRef.lean ====
module

public import proofs.«01_k».proof.Proof.RgSpec
public import proofs.«01_k».proof.Proof.RgRefRun
public import Idealize.ShloMosaic.Lib.Pointwise
public import Idealize.ShloMosaic.Lib.WordCmp

@[expose] public section

/-! The reference's result over the extended reals: its arrays at an index, its loop as the recurrence of `RgSpec`. -/

set_option maxRecDepth 16384
set_option maxHeartbeats 4000000

noncomputable section

namespace Cert.Proof.RgRef

open Cert.ReferenceIdeal Cert.ReferenceIdeal.Step Cert.ReferenceIdeal.Gen
open Idealize.ShloMosaic Idealize.ShloMosaic.TcCoe
open Cert.Proof.Rg

section

variable (x0 : (⟨S4x4096x4608, .f32⟩ : BufTy).Contents (Elt Ideal)) (x1 : (⟨S4x4x512, .f32⟩ : BufTy).Contents (Elt Ideal)) (x2 : (⟨S4x512, .f32⟩ : BufTy).Contents (Elt Ideal))
  (x3 : (⟨S4x8x64x64, .f32⟩ : BufTy).Contents (Elt Ideal)) (x4 : (⟨S4x512, .f32⟩ : BufTy).Contents (Elt Ideal)) (x5 : (⟨S4x8x64x64, .f32⟩ : BufTy).Contents (Elt Ideal))
  (x6 : (⟨S4x512, .f32⟩ : BufTy).Contents (Elt Ideal)) (x7 : (⟨S4x512, .f32⟩ : BufTy).Contents (Elt Ideal))

/-- The layer's arguments. -/
def given : Spec.Args where
  x b s e := x0 (ix3 b s e)
  cw j d := x1 (ix3 0 j d)
  cb d := x2 (ix2 0 d)
  wa g i j := x3 (ix4 0 g i j)
  ba d := x4 (ix2 0 d)
  wx g i j := x5 (ix4 0 g i j)
  bx d := x6 (ix2 0 d)
  lam d := x7 (ix2 0 d)

/-! ## The convolution -/

theorem pad_zero (i : S_.Idx) : K_main_call0_v0 (F := Ideal) i = 0 := by
  show (((0#32 : BitVec 32).toInt : ℝ) : EReal) = 0
  simp

/-- The padded branch at row `s + k` is the branch `3 - k` steps earlier. -/
theorem lag_of (b : Fin 4) (s : Fin 4096) (d : Fin 512) (k : ℕ) (hk : k ≤ 3) (z : EReal) (hz : z = 0) :
    (if h : 3 ≤ k + s.val ∧ k + s.val - 3 < 4096 then x0 (ix3 b ⟨k + s.val - 3, h.2⟩ ⟨1536 + d.val, by omega⟩) else z)
      = Spec.lag ((given x0 x1 x2 x3 x4 x5 x6 x7).xr b d) k s.val := by
  unfold Spec.lag
  rw [Nat.add_comm k s.val]
  by_cases h : 3 ≤ s.val + k
  · have h' : s.val + k - 3 < 4096 := by omega
    rw [dif_pos ⟨h, h'⟩, if_pos h]
    unfold Spec.Args.xr
    rw [dif_pos h']
    rfl
  · rw [dif_neg (fun e => h e.1), if_neg h, hz]

theorem v18_at (b : Fin 4) (s : Fin 4096) (d : Fin 512) : (A_main_v18 x0 x1 x2 x3 x4 x5 x6 x7 : S4x4096x512.Idx → EReal) (ix3 b s d)
    = Spec.lag ((given x0 x1 x2 x3 x4 x5 x6 x7).xr b d) 0 s.val := by
  refine Eq.trans ?_ (lag_of x0 x1 x2 x3 x4 x5 x6 x7 b s d 0 (by omega) _ (pad_zero (Shape.Idx.first h_S_)))
  generalize hz : K_main_call0_v0 (F := Ideal) (Shape.Idx.first h_S_) = z
  pointwise [A_main_v18, A_main_v15, A_main_v0]
  try rw [hz]
theorem v27_at (b : Fin 4) (s : Fin 4096) (d : Fin 512) : (A_main_v27 x0 x1 x2 x3 x4 x5 x6 x7 : S4x4096x512.Idx → EReal) (ix3 b s d)
    = Spec.lag ((given x0 x1 x2 x3 x4 x5 x6 x7).xr b d) 1 s.val := by
  refine Eq.trans ?_ (lag_of x0 x1 x2 x3 x4 x5 x6 x7 b s d 1 (by omega) _ (pad_zero (Shape.Idx.first h_S_)))
  generalize hz : K_main_call0_v0 (F := Ideal) (Shape.Idx.first h_S_) = z
  pointwise [A_main_v27, A_main_v15, A_main_v0]
  try rw [hz]
theorem v34_at (b : Fin 4) (s : Fin 4096) (d : Fin 512) : (A_main_v34 x0 x1 x2 x3 x4 x5 x6 x7 : S4x4096x512.Idx → EReal) (ix3 b s d)
    = Spec.lag ((given x0 x1 x2 x3 x4 x5 x6 x7).xr b d) 2 s.val := by
  refine Eq.trans ?_ (lag_of x0 x1 x2 x3 x4 x5 x6 x7 b s d 2 (by omega) _ (pad_zero (Shape.Idx.first h_S_)))
  generalize hz : K_main_call0_v0 (F := Ideal) (Shape.Idx.first h_S_) = z
  pointwise [A_main_v34, A_main_v15, A_main_v0]
  try rw [hz]
theorem v41_at (b : Fin 4) (s : Fin 4096) (d : Fin 512) : (A_main_v41 x0 x1 x2 x3 x4 x5 x6 x7 : S4x4096x512.Idx → EReal) (ix3 b s d)
    = Spec.lag ((given x0 x1 x2 x3 x4 x5 x6 x7).xr b d) 3 s.val := by
  have e : Spec.lag ((given x0 x1 x2 x3 x4 x5 x6 x7).xr b d) 3 s.val = x0 (ix3 b s ⟨1536 + d.val, by omega⟩) := by
    unfold Spec.lag Spec.Args.xr
    rw [if_pos (by omega), dif_pos (show s.val + 3 - 3 < 4096 by omega)]
    rfl
  rw [e]
  pointwise [A_main_v41, A_main_v15, A_main_v0]

theorem conv_at (b : Fin 4) (s : Fin 4096) (d : Fin 512) : (A_main_v45 x0 x1 x2 x3 x4 x5 x6 x7 : S4x4096x512.Idx → EReal) (ix3 b s d)
    = (given x0 x1 x2 x3 x4 x5 x6 x7).xc b s.val d := by
  have e : (A_main_v45 x0 x1 x2 x3 x4 x5 x6 x7 : S4x4096x512.Idx → EReal) (ix3 b s d) = x2 (ix2 0 d)
      + x1 (ix3 0 0 d) * A_main_v18 x0 x1 x2 x3 x4 x5 x6 x7 (ix3 b s d) + x1 (ix3 0 1 d) * A_main_v27 x0 x1 x2 x3 x4 x5 x6 x7 (ix3 b s d)
      + x1 (ix3 0 2 d) * A_main_v34 x0 x1 x2 x3 x4 x5 x6 x7 (ix3 b s d) + x1 (ix3 0 3 d) * A_main_v41 x0 x1 x2 x3 x4 x5 x6 x7 (ix3 b s d) := by
    pointwise [A_main_v45, A_main_v44, A_main_v43, A_main_v42, A_main_v40, A_main_v39, A_main_v38, A_main_v37, A_main_v36, A_main_v35, A_main_v33,
      A_main_v32, A_main_v31, A_main_v30, A_main_v29, A_main_v28, A_main_v26, A_main_v25, A_main_v16, A_main_v17, A_main_v19, A_main_v20, A_main_v21,
      A_main_v22, A_main_v23, A_main_v24, A_main_v1, A_main_v2, A_main_v3, A_main_v4]
  rw [e, v18_at, v27_at, v34_at, v41_at]
  rfl

/-! ## The gates -/

theorem gateA_at (b : Fin 4) (s : Fin 4096) (d : Fin 512) : (A_main_v52 x0 x1 x2 x3 x4 x5 x6 x7 : S4x4096x512.Idx → EReal) (ix3 b s d)
    = (given x0 x1 x2 x3 x4 x5 x6 x7).gate (given x0 x1 x2 x3 x4 x5 x6 x7).wa (given x0 x1 x2 x3 x4 x5 x6 x7).ba b s.val d := by
  unfold Spec.Args.gate
  simp only [← conv_at x0 x1 x2 x3 x4 x5 x6 x7]
  pointwise [A_main_v52, A_main_v51, A_main_v50, A_main_v49, A_main_v48, A_main_v47, A_main_v46, A_main_v7, A_main_v8, A_main_v9, A_main_v10]
  try rfl

theorem gateX_at (b : Fin 4) (s : Fin 4096) (d : Fin 512) : (A_main_v64 x0 x1 x2 x3 x4 x5 x6 x7 : S4x4096x512.Idx → EReal) (ix3 b s d)
    = (given x0 x1 x2 x3 x4 x5 x6 x7).gate (given x0 x1 x2 x3 x4 x5 x6 x7).wx (given x0 x1 x2 x3 x4 x5 x6 x7).bx b s.val d := by
  unfold Spec.Args.gate
  simp only [← conv_at x0 x1 x2 x3 x4 x5 x6 x7]
  pointwise [A_main_v64, A_main_v63, A_main_v62, A_main_v61, A_main_v60, A_main_v59, A_main_v46, A_main_v11, A_main_v12, A_main_v13, A_main_v14]
  try rfl

theorem logisticA_at (b : Fin 4) (s : Fin 4096) (d : Fin 512) : (A_main_v58 x0 x1 x2 x3 x4 x5 x6 x7 : S4x4096x512.Idx → EReal) (ix3 b s d)
    = Ideal.logistic ((A_main_v52 x0 x1 x2 x3 x4 x5 x6 x7 : S4x4096x512.Idx → EReal) (ix3 b s d)) := by
  pointwise [A_main_v58, A_main_v56, A_main_v54, A_main_v53, K_main_v57, K_main_cst_0, K_main_v55, K_main_cst]
  try rfl
theorem logisticX_at (b : Fin 4) (s : Fin 4096) (d : Fin 512) : (A_main_v70 x0 x1 x2 x3 x4 x5 x6 x7 : S4x4096x512.Idx → EReal) (ix3 b s d)
    = Ideal.logistic ((A_main_v64 x0 x1 x2 x3 x4 x5 x6 x7 : S4x4096x512.Idx → EReal) (ix3 b s d)) := by
  pointwise [A_main_v70, A_main_v68, A_main_v66, A_main_v65, K_main_v69, K_main_cst_2, K_main_v67, K_main_cst_1]
  try rfl

/-! ## The decay -/

theorem splus_at (d : Fin 512) : (A_main_v72 x0 x1 x2 x3 x4 x5 x6 x7 : S512.Idx → EReal) (ix1 d) = Spec.splus (x7 (ix2 0 d)) := by
  unfold Spec.splus
  pointwise [A_main_v72, A_main_call1_v11, A_main_call1_v10, A_main_call1_v9, A_main_call1_v8, A_main_call1_v7, A_main_call1_v6, A_main_call1_v4,
    A_main_call1_v3, A_main_call1_v1, A_main_v71, A_main_v6, A_main_v5, K_main_call1_v0, K_main_call1_v2, K_main_call1_v5, K_main_call1_cst]
  rw [if_neg (by simp)]
  show _ = max (-x7 (ix2 0 d)) 0 + Ideal.log (1 + Ideal.exp (-max (x7 (ix2 0 d)) (-x7 (ix2 0 d))))
  have e : ∀ y : EReal, max (-y) 0 + Ideal.log (1 + Ideal.exp (-max (-y) (- -y))) = max (-y) 0 + Ideal.log (1 + Ideal.exp (-max y (-y))) :=
    fun y => by rw [neg_neg, max_comm y (-y)]
  exact e _

theorem logA_at (b : Fin 4) (s : Fin 4096) (d : Fin 512) : (A_main_v77 x0 x1 x2 x3 x4 x5 x6 x7 : S4x4096x512.Idx → EReal) (ix3 b s d)
    = Spec.logA (x7 (ix2 0 d)) ((A_main_v52 x0 x1 x2 x3 x4 x5 x6 x7 : S4x4096x512.Idx → EReal) (ix3 b s d)) := by
  unfold Spec.logA
  rw [← splus_at x0 x1 x2 x3 x4 x5 x6 x7, ← logisticA_at]
  pointwise [A_main_v77, A_main_v76, A_main_v75, A_main_v74, K_main_v73, K_main_cst_3]
  try rfl

theorem fac_at (b : Fin 4) (s : Fin 4096) (d : Fin 512) : (A_main_v87 x0 x1 x2 x3 x4 x5 x6 x7 : S4096x4x512.Idx → EReal) (ix3 s b d)
    = (given x0 x1 x2 x3 x4 x5 x6 x7).fac b d s.val := by
  unfold Spec.Args.fac Spec.decA
  rw [← gateA_at, show (given x0 x1 x2 x3 x4 x5 x6 x7).lam d = x7 (ix2 0 d) from rfl, ← logA_at]
  pointwise [A_main_v87, A_main_v78]
  try rfl

theorem add_at (b : Fin 4) (s : Fin 4096) (d : Fin 512) : (A_main_v88 x0 x1 x2 x3 x4 x5 x6 x7 : S4096x4x512.Idx → EReal) (ix3 s b d)
    = (given x0 x1 x2 x3 x4 x5 x6 x7).add b d s.val := by
  unfold Spec.Args.add Spec.Args.addend
  rw [← gateA_at, ← gateX_at, ← conv_at, show (given x0 x1 x2 x3 x4 x5 x6 x7).lam d = x7 (ix2 0 d) from rfl, ← logA_at, ← logisticX_at]
  pointwise [A_main_v88, A_main_v85, A_main_v84, A_main_v83, A_main_v82, A_main_v81, A_main_v80, K_main_v79, K_main_cst_4]
  try rfl

end

/-! ## The loop -/

theorem starts_eq (n : ℕ) (hn : n < 4096) (a : Fin 3) : starts Ideal n a = ((![n, 0, 0] : Fin 3 → ℕ) a : ℤ) := by
  have e : (BitVec.ofNat 32 n).toInt = n := by
    rw [BitVec.toInt_eq_toNat_of_lt (by rw [BitVec.toNat_ofNat]; omega), BitVec.toNat_ofNat]
    congr 1; omega
  fin_cases a
  · exact e
  · rfl
  · rfl

theorem row_fits (n : ℕ) (hn : n < 4096) : S4096x4x512.Slices ![n, 0, 0] S1x4x512 := by
  refine ⟨rfl, fun a => ?_⟩
  fin_cases a
  · show n + 1 ≤ 4096; omega
  · show 0 + 4 ≤ 4; omega
  · show 0 + 512 ≤ 512; omega

theorem rowOf_at (a : S4096x4x512.Idx → EReal) (n : ℕ) (hn : n < 4096) (b : Fin 4) (d : Fin 512) :
    (rowOf (F := Ideal) a n : S4x512.Idx → EReal) (ix2 b d) = a (ix3 ⟨n, hn⟩ b d) := by
  unfold rowOf
  rw [WordCmp.dynamicSlice_eq_extract _ _ _ _ ![n, 0, 0] (row_fits n hn) (starts_eq n hn)]
  pointwise []

theorem putRow_at (o : S4096x4x512.Idx → EReal) (h : S4x512.Idx → EReal) (n : ℕ) (hn : n < 4096) (k : Fin 4096) (b : Fin 4) (d : Fin 512) :
    (putRow (F := Ideal) n o h : S4096x4x512.Idx → EReal) (ix3 k b d) = if k.val = n then h (ix2 b d) else o (ix3 k b d) := by
  unfold putRow
  rw [WordCmp.dynamicUpdateSlice_eq_update _ _ _ _ ![n, 0, 0] (row_fits n hn) (starts_eq n hn)]
  unfold updateSlice
  by_cases e : k.val = n
  · rw [if_pos e, dif_pos]
    · unfold broadcastInDim
      congr 1
      funext a
      apply Fin.ext
      fin_cases a <;> rfl
    · intro a
      fin_cases a
      · exact ⟨e.ge, by show k.val < n + 1; omega⟩
      · exact ⟨Nat.zero_le _, by show b.val < 0 + 4; omega⟩
      · exact ⟨Nat.zero_le _, by show d.val < 0 + 512; omega⟩
  · rw [if_neg e, dif_neg]
    intro h
    obtain ⟨h1, h2⟩ := h 0
    have h1' : n ≤ k.val := h1
    have h2' : k.val < n + 1 := h2
    omega

variable (m : (ℓ : Loc nD τ sig) → Buf (Elt Ideal) ℓ) (c : Dev nD)

/-- The layer's arguments as the program holds them. -/
def args : Spec.Args := given (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

theorem hid_at (n : ℕ) (hn : n ≤ 4096) (b : Fin 4) (d : Fin 512) : (hidAt m c n : S4x512.Idx → EReal) (ix2 b d)
    = Spec.recur ((args m c).fac b d) ((args m c).add b d) 0 n := by
  induction n with
  | zero =>
    show (K_main_v86 (F := Ideal) : S4x512.Idx → EReal) (ix2 b d) = 0
    pointwise [K_main_v86, K_main_cst_5]
  | succ n ih =>
    have e : (hidAt m c (n + 1) : S4x512.Idx → EReal) (ix2 b d) = (rowOf (start m c).main_v90_0 n : S4x512.Idx → EReal) (ix2 b d) * (hidAt m c n : S4x512.Idx → EReal) (ix2 b d)
        + (rowOf (start m c).main_v90_1 n : S4x512.Idx → EReal) (ix2 b d) := rfl
    rw [e, ih (by omega), rowOf_at _ n (by omega), rowOf_at _ n (by omega)]
    show A_main_v87 _ _ _ _ _ _ _ _ _ * _ + A_main_v88 _ _ _ _ _ _ _ _ _ = _
    rw [fac_at, add_at]
    rfl

theorem outs_at (n : ℕ) (hn : n ≤ 4096) (k : Fin 4096) (hk : k.val < n) (b : Fin 4) (d : Fin 512) : (outsAt m c n : S4096x4x512.Idx → EReal) (ix3 k b d)
    = Spec.recur ((args m c).fac b d) ((args m c).add b d) 0 (k.val + 1) := by
  induction n with
  | zero => omega
  | succ n ih =>
    show (putRow n (outsAt m c n) (hidAt m c (n + 1)) : S4096x4x512.Idx → EReal) (ix3 k b d) = _
    rw [putRow_at _ _ n (by omega)]
    split
    · rename_i e
      rw [hid_at m c (n + 1) hn, e]
    · exact ih (by omega) (by omega)

/-- The layer's result, as an array. -/
def outArr (P : Spec.Args) : S4x4096x512.Idx → EReal := fun i => P.out (i 0) (i 1) (i 2)

theorem result_at (b : Fin 4) (s : Fin 4096) (d : Fin 512) :
    (R_main_v107 { start m c with main_v90_4 := outsAt m c 4096 } (m ((c.tc : Thread nD τ).loc main_arg0)) : S4x4096x512.Idx → EReal) (ix3 b s d)
      = (args m c).out b s d := by
  unfold Spec.Args.out Spec.gelu
  rw [← outs_at m c 4096 (le_refl _) s s.isLt b d]
  pointwise [R_main_v107]
  try rfl

theorem result_eq : (Cert.ReferenceIdeal.Value.out_main_v107 (Cert.ReferenceIdeal.Value.STEP^[4096] (StableHlo.entryContents Cert.ReferenceIdeal.Value.preI m c)) : S4x4096x512.Idx → EReal)
    = outArr (args m c) := by
  rw [out_eq]
  funext i
  obtain ⟨b, s, d, rfl⟩ : ∃ b s d, i = ix3 b s d := ⟨i 0, i 1, i 2, by funext a; fin_cases a <;> rfl⟩
  exact result_at m c b s d

end Cert.Proof.RgRef

end
-- ==== Proof.RgClaim.lean ====
module

public import proofs.«01_k».proof.Defs
public import proofs.«01_k».proof.Proof.RgTile
public import proofs.«01_k».proof.Proof.RgRef
public import proofs.«01_k».proof.Proof.Gen.Kernel
public import proofs.«01_k».proof.Proof.Gen.KernelIdeal
public import proofs.«01_k».proof.Proof.Gen.ReferenceIdeal
public import Idealize.ShloMosaic.Lib.Quiescent

@[expose] public section

/-! The claims about the recurrent layer, put together from the kernel's run and the reference's run. -/

set_option maxHeartbeats 1000000
set_option maxRecDepth 16384

noncomputable section

namespace Cert.Proof.Rg

open Idealize.ShloMosaic Idealize.ShloMosaic.TcCoe Idealize.SL.Sem

/-! The two printed programs have one text: their tables of bodies are the same. -/

theorem bodies_eq {F : FTy → Type} [FloatOps F] : Cert.Kernel.defs₀ (F := F) = Cert.KernelIdeal.defs₀ (F := F) := by
  refine congrArg Defs.onTc ?_
  funext l
  match l with
  | (⟨0, _⟩ : Fin 1) => rfl

theorem defs_eq {F : FTy → Type} [FloatOps F] : Cert.Kernel.defs (F := F) = Cert.KernelIdeal.defs (F := F) :=
  congrArg (Pipeline.defs Cert.KernelIdeal.pcfgs) bodies_eq

theorem frame_kernel : Cert.quiescent_Kernel := fun m ρ _ => by
  have h := frame_all (F := Bits) m ρ
  rw [← defs_eq] at h
  exact h

theorem frame_ideal : Cert.quiescent_KernelIdeal := fun m ρ _ => frame_all (F := Ideal) m ρ

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := by
  intro m ρ m' ρ' _ hagree
  refine ⟨fun c => outArr (args m c), ?_, ?_⟩
  · exact (θ_run _ _ _).mono (fun _ h c => ⟨(h.2 c).trans (arr_eq m c), h.1 c⟩) (run_value (F := Ideal) m ρ)
  · refine (θ_run _ _ _).mono (fun _ h c => ⟨(h c).1.trans ?_, (h c).2⟩) (Cert.ReferenceIdeal.Value.run (F := Ideal) m' ρ')
    refine (RgRef.result_eq m' c).trans ?_
    obtain ⟨e0, e1, e2, e3, e4, e5, e6, e7⟩ := hagree c
    have e : RgRef.args m' c = args m c := by
      unfold RgRef.args
      rw [e0, e1, e2, e3, e4, e5, e6, e7]
      rfl
    rw [e]
    rfl

end Cert.Proof.Rg

end
-- ==== Proof.FfnBody.lean ====
module

public import proofs.«01_k».proof.Proof.Gen.ExpertsIdeal.Skeleton
public import proofs.«01_k».proof.Proof.Gen.ExpertsIdeal.Launch
public import Idealize.ShloMosaic.Lib.Claim
public import Idealize.ShloMosaic.Lib.VecWindow

@[expose] public section

set_option maxRecDepth 8192
set_option maxHeartbeats 4000000

noncomputable section

namespace Cert.Proof.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point as functions of what it reads -/

/-- What one grid point reads of its input windows: a tile of sorted tokens (with the two weights after the 1024 features), and
    the gate, up and down weights of the tile's lower and of its upper expert. -/
structure Ins (F : FTy → Type) where
  x : Vec F S512x1152 .f32
  g0 : Vec F S1x1x1024x512 .f32
  u0 : Vec F S1x1x1024x512 .f32
  d0 : Vec F S1x1x512x1024 .f32
  g1 : Vec F S1x1x1024x512 .f32
  u1 : Vec F S1x1x1024x512 .f32
  d1 : Vec F S1x1x512x1024 .f32

/-- The two experts' weights rounded, as the points keep them. -/
@[ext] structure Slots (F : FTy → Type) where
  g0 : Vec F S1x1024x512 .bf16
  u0 : Vec F S1x1024x512 .bf16
  d0 : Vec F S1x512x1024 .bf16
  g1 : Vec F S1x1024x512 .bf16
  u1 : Vec F S1x1024x512 .bf16
  d1 : Vec F S1x512x1024 .bf16

/-- The kept weights as the two halves of the three scratch arrays. -/
def slotsOf (A B : Vec F S2x1024x512 .bf16) (D : Vec F S2x512x1024 .bf16) : Slots F :=
  ⟨VecWindow.window A ![0, 0, 0] S1x1024x512.size inb_S2x1024x512_S1x1024x512_0_0_0,
   VecWindow.window B ![0, 0, 0] S1x1024x512.size inb_S2x1024x512_S1x1024x512_0_0_0,
   VecWindow.window D ![0, 0, 0] S1x512x1024.size inb_S2x512x1024_S1x512x1024_0_0_0,
   VecWindow.window A ![1, 0, 0] S1x1024x512.size inb_S2x1024x512_S1x1024x512_1_0_0,
   VecWindow.window B ![1, 0, 0] S1x1024x512.size inb_S2x1024x512_S1x1024x512_1_0_0,
   VecWindow.window D ![1, 0, 0] S1x512x1024.size inb_S2x512x1024_S1x512x1024_1_0_0⟩

/-- The point's own weights rounded. -/
def slotsIn (I : Ins F) : Slots F :=
  ⟨k0_pay13 I.g0, k0_pay14 I.u0, k0_pay15 I.d0, k0_pay16 I.g1, k0_pay17 I.u1, k0_pay18 I.d1⟩

/-- The table's word at the offsets `off`. -/
def wd (T : Vec F S8x128 .i32) (off : Fin 2 → ℕ) (h : ∀ a, off a + S1x1.size a ≤ S8x128.size a) : BitVec 32 :=
  T ((Rect.unit (s := S8x128) off S1x1.size h).emb (Shape.Idx.first (Nat.lt_of_sub_eq_succ numel1_S1x1)))

/-- The number of live points. -/
def used (T : Vec F S8x128 .i32) : BitVec 32 := wd T ![3, 0] inb_S8x128_S1x1_3_0
/-- The number of rows of the point's tile that are used. -/
def cnt (T : Vec F S8x128 .i32) (i : grid0.Coords) : BitVec 32 := wd T (k0_off7 i) (k0_off7_inb i)

/-- Whether the point's lower expert is not the one before's. -/
abbrev new0 (T : Vec F S8x128 .i32) (i : grid0.Coords) : Prop :=
  Scalar.cmpi .ne (Scalar.extui (Scalar.andi (Scalar.cmpi .slt (BitVec.ofNat 32 (i 0).val) (used T))
    (Scalar.ori (Scalar.cmpi .eq (BitVec.ofNat 32 (i 0).val) 0#32)
      (Scalar.cmpi .ne (wd T (k0_off2 i) (k0_off2_inb i)) (wd T (k0_off4 i) (k0_off4_inb i))))) : BitVec 32) 0#32 = 1#1
/-- Whether the point's upper expert is not the one before's. -/
abbrev new1 (T : Vec F S8x128 .i32) (i : grid0.Coords) : Prop :=
  Scalar.cmpi .ne (Scalar.extui (Scalar.andi (Scalar.cmpi .slt (BitVec.ofNat 32 (i 0).val) (used T))
    (Scalar.ori (Scalar.cmpi .eq (BitVec.ofNat 32 (i 0).val) 0#32)
      (Scalar.cmpi .ne (wd T (k0_off5 i) (k0_off5_inb i)) (wd T (k0_off6 i) (k0_off6_inb i))))) : BitVec 32) 0#32 = 1#1

/-- The weights the point leaves kept. -/
def next (T : Vec F S8x128 .i32) (i : grid0.Coords) (I : Ins F) (S : Slots F) : Slots F :=
  ⟨if new0 T i then k0_pay13 I.g0 else S.g0, if new0 T i then k0_pay14 I.u0 else S.u0, if new0 T i then k0_pay15 I.d0 else S.d0,
   if new1 T i then k0_pay16 I.g1 else S.g1, if new1 T i then k0_pay17 I.u1 else S.u1, if new1 T i then k0_pay18 I.d1 else S.d1⟩

/-- The whole tile's result. -/
def full (x : Vec F S512x1152 .f32) (S : Slots F) : Vec F S512x1024 .f32 :=
  k0_pay20 x (k0_pay4 x S.g0 S.u0 S.d0) (k0_pay5 x S.g1) (k0_pay6 x S.u1) (k0_pay7 x S.g1) S.d1

/-- The result of the tile's first 256 rows. -/
def head (x : Vec F S256x1152 .f32) (S : Slots F) : Vec F S256x1024 .f32 :=
  k0_pay1 x (k0_pay9 x S.g0 S.u0 S.d0) (k0_pay10 x S.g1) (k0_pay11 x S.u1) (k0_pay12 x S.g1) S.d1

/-- The result of a tile of at most 256 used rows: zeros below the first 256. -/
def half (x : Vec F S512x1152 .f32) (S : Slots F) : Vec F S512x1024 .f32 :=
  VecWindow.put (k0_pay19 (F := F)) ![0, 0] S256x1024.size (head (VecWindow.window x ![0, 0] S256x1152.size inb_S512x1152_S256x1152_0_0) S)

/-- The point's block of the result. -/
def outB (T : Vec F S8x128 .i32) (i : grid0.Coords) (x : Vec F S512x1152 .f32) (S : Slots F) : Vec F S512x1024 .f32 :=
  if k0_cond5 i (used T) (cnt T i) = 1#1 then half x S
  else if k0_cond4 i (used T) (cnt T i) = 1#1 then full x S
  else k0_pay19

/-! ## Reading back what was stored -/

section Slot
variable {κ : Kind} {sp : Space} {s : Shape} {e : EltTy}

theorem slot_lo (v : View sig κ sp s e) (f : v.ty.Contents (Elt F)) (c0 c1 : Prop) [Decidable c0] [Decidable c1]
    {off0 off1 size : Fin s.rank → ℕ} (inb0 : ∀ a, off0 a + size a ≤ s.size a) (inb1 : ∀ a, off1 a + size a ≤ s.size a)
    (w0 : (Rect.unit off0 size inb0).shape.Idx → Elt F e) (w1 : (Rect.unit off1 size inb1).shape.Idx → Elt F e)
    (a : Fin s.rank) (ha : off0 a + size a ≤ off1 a) :
    VecWindow.window (v.read (Elt F) (if hc : c1 then v.writes (Elt F) (if hc : c0 then v.writes (Elt F) f [⟨Rect.unit off0 size inb0, w0⟩] else f) [⟨Rect.unit off1 size inb1, w1⟩]
        else if hc : c0 then v.writes (Elt F) f [⟨Rect.unit off0 size inb0, w0⟩] else f)) off0 size inb0
      = if c0 then w0 else VecWindow.window (v.read (Elt F) f) off0 size inb0 := by
  have h0 : VecWindow.window (v.read (Elt F) (if hc : c0 then v.writes (Elt F) f [⟨Rect.unit off0 size inb0, w0⟩] else f)) off0 size inb0
      = if c0 then w0 else VecWindow.window (v.read (Elt F) f) off0 size inb0 := by
    by_cases h : c0
    · rw [dif_pos h, if_pos h, View.read_writes_cons_put v f inb0 w0 [] rfl]
      exact VecWindow.window_put_same ..
    · rw [dif_neg h, if_neg h]
  by_cases h1 : c1
  · rw [dif_pos h1, View.read_writes_cons_put v _ inb1 w1 [] rfl, VecWindow.window_put_of_disjoint _ _ _ _ _ _ _ a (.inl ha), View.writes_nil]
    exact h0
  · rw [dif_neg h1]; exact h0

theorem slot_hi (v : View sig κ sp s e) (f : v.ty.Contents (Elt F)) (c0 c1 : Prop) [Decidable c0] [Decidable c1]
    {off0 off1 size : Fin s.rank → ℕ} (inb0 : ∀ a, off0 a + size a ≤ s.size a) (inb1 : ∀ a, off1 a + size a ≤ s.size a)
    (w0 : (Rect.unit off0 size inb0).shape.Idx → Elt F e) (w1 : (Rect.unit off1 size inb1).shape.Idx → Elt F e)
    (a : Fin s.rank) (ha : off0 a + size a ≤ off1 a) :
    VecWindow.window (v.read (Elt F) (if hc : c1 then v.writes (Elt F) (if hc : c0 then v.writes (Elt F) f [⟨Rect.unit off0 size inb0, w0⟩] else f) [⟨Rect.unit off1 size inb1, w1⟩]
        else if hc : c0 then v.writes (Elt F) f [⟨Rect.unit off0 size inb0, w0⟩] else f)) off1 size inb1
      = if c1 then w1 else VecWindow.window (v.read (Elt F) f) off1 size inb1 := by
  by_cases h1 : c1
  · rw [dif_pos h1, if_pos h1, View.read_writes_cons_put v _ inb1 w1 [] rfl]
    exact VecWindow.window_put_same ..
  · rw [dif_neg h1, if_neg h1]
    by_cases h : c0
    · rw [dif_pos h, View.read_writes_cons_put v f inb0 w0 [] rfl, VecWindow.window_put_of_disjoint _ _ _ _ _ _ _ a (.inr ha), View.writes_nil]
    · rw [dif_neg h]

end Slot

theorem put_halves (d : Vec F S512x1024 .f32) (w : Vec F S256x1024 .f32) :
    VecWindow.put (VecWindow.put d ![0, 0] S256x1024.size w) ![256, 0] S256x1024.size (k0_pay2 (F := F))
      = VecWindow.put (k0_pay19 (F := F)) ![0, 0] S256x1024.size w := by
  funext y
  have hy0 : (y 0).val < 512 := (y 0).isLt
  have hy1 : (y 1).val < 1024 := (y 1).isLt
  unfold VecWindow.put
  by_cases h : (y 0).val < 256
  · have h1 : ¬ ∀ a, (![256, 0] : Fin 2 → ℕ) a ≤ (y a).val ∧ (y a).val < (![256, 0] : Fin 2 → ℕ) a + S256x1024.size a := fun hh => by
      have := (hh 0).1
      change 256 ≤ _ at this
      omega
    have h2 : ∀ a, (![0, 0] : Fin 2 → ℕ) a ≤ (y a).val ∧ (y a).val < (![0, 0] : Fin 2 → ℕ) a + S256x1024.size a := by
      intro a
      match a with
      | (⟨0, _⟩ : Fin 2) => exact ⟨Nat.zero_le _, by change (y 0).val < 0 + 256; omega⟩
      | (⟨1, _⟩ : Fin 2) => exact ⟨Nat.zero_le _, by change (y 1).val < 0 + 1024; omega⟩
    rw [dif_neg h1, dif_pos h2, dif_pos h2]
  · have h1 : ∀ a, (![256, 0] : Fin 2 → ℕ) a ≤ (y a).val ∧ (y a).val < (![256, 0] : Fin 2 → ℕ) a + S256x1024.size a := by
      intro a
      match a with
      | (⟨0, _⟩ : Fin 2) => exact ⟨by change 256 ≤ (y 0).val; omega, by change (y 0).val < 256 + 256; omega⟩
      | (⟨1, _⟩ : Fin 2) => exact ⟨Nat.zero_le _, by change (y 1).val < 0 + 1024; omega⟩
    have h2 : ¬ ∀ a, (![0, 0] : Fin 2 → ℕ) a ≤ (y a).val ∧ (y a).val < (![0, 0] : Fin 2 → ℕ) a + S256x1024.size a := fun hh => by
      have := (hh 0).2
      change _ < 0 + 256 at this
      omega
    rw [dif_pos h1, dif_neg h2]
    rfl

/-! ## The body's triple -/

theorem ne_ext (b : BitVec 1) : Scalar.cmpi .ne (Scalar.extui b : BitVec 32) 0#32 = 1#1 ↔ b = 1#1 := by revert b; decide
theorem andi_one (a b : BitVec 1) : Scalar.andi a b = 1#1 ↔ a = 1#1 ∧ b = 1#1 := by revert a b; decide
theorem ori_one (a b : BitVec 1) : Scalar.ori a b = 1#1 ↔ a = 1#1 ∨ b = 1#1 := by revert a b; decide
theorem xori_one (a : BitVec 1) : Scalar.xori a 1#1 = 1#1 ↔ ¬ a = 1#1 := by revert a; decide
theorem ofBool_one (b : Bool) : BitVec.ofBool b = 1#1 ↔ b = true := by cases b <;> decide
theorem slt_one (x y : BitVec 32) : Scalar.cmpi .slt x y = 1#1 ↔ x.toInt < y.toInt := (ofBool_one _).trans BitVec.slt_iff_toInt_lt
theorem sgt_one (x y : BitVec 32) : Scalar.cmpi .sgt x y = 1#1 ↔ y.toInt < x.toInt := (ofBool_one _).trans BitVec.slt_iff_toInt_lt
theorem sle_one (x y : BitVec 32) : Scalar.cmpi .sle x y = 1#1 ↔ x.toInt ≤ y.toInt := (ofBool_one _).trans BitVec.sle_iff_toInt_le
theorem eq_one (x y : BitVec 32) : Scalar.cmpi .eq x y = 1#1 ↔ x = y := (ofBool_one _).trans beq_iff_eq
theorem ne_one (x y : BitVec 32) : Scalar.cmpi .ne x y = 1#1 ↔ x ≠ y := (ofBool_one _).trans bne_iff_ne

theorem cond3_iff (i : grid0.Coords) (u : BitVec 32) : k0_cond3 i u = 1#1 ↔ ¬ (BitVec.ofNat 32 (i 0).val).toInt < u.toInt := by
  unfold k0_cond3
  exact (ne_ext _).trans ((xori_one _).trans (not_congr (slt_one _ _)))
theorem cond4_iff (i : grid0.Coords) (u n : BitVec 32) : k0_cond4 i u n = 1#1 ↔ (BitVec.ofNat 32 (i 0).val).toInt < u.toInt ∧ (256#32).toInt < n.toInt := by
  unfold k0_cond4
  exact (ne_ext _).trans ((andi_one _ _).trans (and_congr (slt_one _ _) (sgt_one _ _)))
theorem cond5_iff (i : grid0.Coords) (u n : BitVec 32) : k0_cond5 i u n = 1#1 ↔ (BitVec.ofNat 32 (i 0).val).toInt < u.toInt ∧ n.toInt ≤ (256#32).toInt := by
  unfold k0_cond5
  exact (ne_ext _).trans ((andi_one _ _).trans (and_congr (slt_one _ _) (sle_one _ _)))

/-- One of the three conditions under which the body stores its block holds. -/
theorem cond_total (i : grid0.Coords) (u n : BitVec 32) (h5 : ¬ k0_cond5 i u n = 1#1) (h4 : ¬ k0_cond4 i u n = 1#1) : k0_cond3 i u = 1#1 := by
  rw [cond3_iff]
  rw [cond4_iff] at h4
  rw [cond5_iff] at h5
  intro h
  exact h5 ⟨h, not_lt.mp fun h' => h4 ⟨h, h'⟩⟩

theorem sound_kernel (c : Dev nD) (E : Set ℕ) (i : grid0.Coords)
    (arg1 : Memref sig .tc .smem S8x128 .i32) (harg1 : arg1.IsWhole)
    (arg2 : Memref sig .tc .smem S8x128 .i32) (harg2 : arg2.IsWhole)
    (arg3 : Memref sig .tc .vmem S512x1152 .f32) (harg3 : arg3.IsWhole)
    (arg4 : Memref sig .tc .vmem S1x1x1024x512 .f32) (harg4 : arg4.IsWhole)
    (arg5 : Memref sig .tc .vmem S1x1x1024x512 .f32) (harg5 : arg5.IsWhole)
    (arg6 : Memref sig .tc .vmem S1x1x512x1024 .f32) (harg6 : arg6.IsWhole)
    (arg7 : Memref sig .tc .vmem S1x1x1024x512 .f32) (harg7 : arg7.IsWhole)
    (arg8 : Memref sig .tc .vmem S1x1x1024x512 .f32) (harg8 : arg8.IsWhole)
    (arg9 : Memref sig .tc .vmem S1x1x512x1024 .f32) (harg9 : arg9.IsWhole)
    (arg10 : Memref sig .tc .vmem S512x1024 .f32) (harg10 : arg10.IsWhole)
    (arg11 : Memref sig .tc .vmem S2x1024x512 .bf16) (harg11 : arg11.IsWhole)
    (arg12 : Memref sig .tc .vmem S2x1024x512 .bf16) (harg12 : arg12.IsWhole)
    (arg13 : Memref sig .tc .vmem S2x512x1024 .bf16) (harg13 : arg13.IsWhole)
    (q : PosShare TreeShare) (T : Vec F S8x128 .i32) (I : Ins F) (A B : Vec F S2x1024x512 .bf16) (D : Vec F S2x512x1024 .bf16) (K : PUnit → sProp 𝕄) :
    iprop(owns (c : Thread nD τ) arg1 q T ∗ owns (c : Thread nD τ) arg3 fullShare I.x ∗ owns (c : Thread nD τ) arg4 fullShare I.g0 ∗ owns (c : Thread nD τ) arg5 fullShare I.u0 ∗ owns (c : Thread nD τ) arg6 fullShare I.d0 ∗ owns (c : Thread nD τ) arg7 fullShare I.g1 ∗ owns (c : Thread nD τ) arg8 fullShare I.u1 ∗ owns (c : Thread nD τ) arg9 fullShare I.d1
      ∗ (∃ d, owns (c : Thread nD τ) arg10 fullShare d)
      ∗ owns (c : Thread nD τ) arg11 fullShare A ∗ owns (c : Thread nD τ) arg12 fullShare B ∗ owns (c : Thread nD τ) arg13 fullShare D
      ∗ (iprop(owns (c : Thread nD τ) arg1 q T ∗ owns (c : Thread nD τ) arg3 fullShare I.x ∗ owns (c : Thread nD τ) arg4 fullShare I.g0 ∗ owns (c : Thread nD τ) arg5 fullShare I.u0 ∗ owns (c : Thread nD τ) arg6 fullShare I.d0 ∗ owns (c : Thread nD τ) arg7 fullShare I.g1 ∗ owns (c : Thread nD τ) arg8 fullShare I.u1 ∗ owns (c : Thread nD τ) arg9 fullShare I.d1
      ∗ owns (c : Thread nD τ) arg10 fullShare (outB T i I.x (next T i I (slotsOf A B D)))
      ∗ (∃ A' B' D', ⌜slotsOf A' B' D' = next T i I (slotsOf A B D)⌝ ∗ owns (c : Thread nD τ) arg11 fullShare A' ∗ owns (c : Thread nD τ) arg12 fullShare B' ∗ owns (c : Thread nD τ) arg13 fullShare D')) -∗ K ⟨⟩))
      ⊢ wp frame (wpE (defs₀ (F := F)) Variants.none (c : Thread nD τ) none) E (cc0_expert_ffn i arg1 harg1 arg2 harg2 arg3 harg3 arg4 harg4 arg5 harg5 arg6 harg6 arg7 harg7 arg8 harg8 arg9 harg9 arg10 harg10 arg11 harg11 arg12 harg12 arg13 harg13) K := by
  rw [cc0_expert_ffn_eq_skeleton]; unfold cc0_expert_ffn_skel
  simp only [k0_part3_eq_skeleton, k0_part2_eq_skeleton]
  unfold k0_part3_skel k0_part2_skel
  simp only [k0_part1_eq_skeleton]
  unfold k0_part1_skel
  unfold owns
  iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
  sl_exec
  have e3 := (View.readAt_full (Val := Elt F) arg3.view f3 inb_S512x1152_S512x1152_0_0).trans hf3
  have e4 := (View.readAt_full (Val := Elt F) arg4.view f4 inb_S1x1x1024x512_S1x1x1024x512_0_0_0_0).trans hf4
  have e5 := (View.readAt_full (Val := Elt F) arg5.view f5 inb_S1x1x1024x512_S1x1x1024x512_0_0_0_0).trans hf5
  have e6 := (View.readAt_full (Val := Elt F) arg6.view f6 inb_S1x1x512x1024_S1x1x512x1024_0_0_0_0).trans hf6
  have e7 := (View.readAt_full (Val := Elt F) arg7.view f7 inb_S1x1x1024x512_S1x1x1024x512_0_0_0_0).trans hf7
  have e8 := (View.readAt_full (Val := Elt F) arg8.view f8 inb_S1x1x1024x512_S1x1x1024x512_0_0_0_0).trans hf8
  have e9 := (View.readAt_full (Val := Elt F) arg9.view f9 inb_S1x1x512x1024_S1x1x512x1024_0_0_0_0).trans hf9
  have w3 : sound_kernel.sl.r c arg1 f1 = used T := by
    unfold sound_kernel.sl.r used wd; rw [View.readAt_eq_ld, hf1]; rfl
  have w2 : sound_kernel.sl.r_1 c i arg1 f1 = wd T (k0_off2 i) (k0_off2_inb i) := by
    unfold sound_kernel.sl.r_1 wd; rw [View.readAt_eq_ld, hf1]; rfl
  have w4 : sound_kernel.sl.r_2 c i arg1 f1 = wd T (k0_off4 i) (k0_off4_inb i) := by
    unfold sound_kernel.sl.r_2 wd; rw [View.readAt_eq_ld, hf1]; rfl
  have w5 : sound_kernel.sl.r_3 c i arg1 f1 = wd T (k0_off5 i) (k0_off5_inb i) := by
    unfold sound_kernel.sl.r_3 wd; rw [View.readAt_eq_ld, hf1]; rfl
  have w6 : sound_kernel.sl.r_4 c i arg1 f1 = wd T (k0_off6 i) (k0_off6_inb i) := by
    unfold sound_kernel.sl.r_4 wd; rw [View.readAt_eq_ld, hf1]; rfl
  have e39 : sound_kernel.sl.v39 c arg4 f4 = I.g0 := e4
  have e45 : sound_kernel.sl.v45 c arg5 f5 = I.u0 := e5
  have e51 : sound_kernel.sl.v51 c arg6 f6 = I.d0 := e6
  have e39' : sound_kernel.sl.v39_1 c arg7 f7 = I.g1 := e7
  have e45' : sound_kernel.sl.v45_1 c arg8 f8 = I.u1 := e8
  have e51' : sound_kernel.sl.v51_1 c arg9 f9 = I.d1 := e9
  have v42 : sound_kernel.sl.v42 c i arg1 arg4 arg7 arg11 f1 f4 f7 f11 = (next T i I (slotsOf A B D)).g0 := by
    unfold sound_kernel.sl.v42 next slotsOf
    rw [w2, w3, w4, w5, w6, e39, e39']
    exact (slot_lo arg11.view f11 _ _ _ _ _ _ 0 (Nat.le_refl _)).trans (by rw [hf11])
  have v45_2 : sound_kernel.sl.v45_2 c i arg1 arg5 arg8 arg12 f1 f5 f8 f12 = (next T i I (slotsOf A B D)).u0 := by
    unfold sound_kernel.sl.v45_2 next slotsOf
    rw [w2, w3, w4, w5, w6, e45, e45']
    exact (slot_lo arg12.view f12 _ _ _ _ _ _ 0 (Nat.le_refl _)).trans (by rw [hf12])
  have v59 : sound_kernel.sl.v59 c i arg1 arg6 arg9 arg13 f1 f6 f9 f13 = (next T i I (slotsOf A B D)).d0 := by
    unfold sound_kernel.sl.v59 next slotsOf
    rw [w2, w3, w4, w5, w6, e51, e51']
    exact (slot_lo arg13.view f13 _ _ _ _ _ _ 0 (Nat.le_refl _)).trans (by rw [hf13])
  have v64 : sound_kernel.sl.v64 c i arg1 arg4 arg7 arg11 f1 f4 f7 f11 = (next T i I (slotsOf A B D)).g1 := by
    unfold sound_kernel.sl.v64 next slotsOf
    rw [w2, w3, w4, w5, w6, e39, e39']
    exact (slot_hi arg11.view f11 _ _ _ _ _ _ 0 (Nat.le_refl _)).trans (by rw [hf11])
  have v67 : sound_kernel.sl.v67 c i arg1 arg5 arg8 arg12 f1 f5 f8 f12 = (next T i I (slotsOf A B D)).u1 := by
    unfold sound_kernel.sl.v67 next slotsOf
    rw [w2, w3, w4, w5, w6, e45, e45']
    exact (slot_hi arg12.view f12 _ _ _ _ _ _ 0 (Nat.le_refl _)).trans (by rw [hf12])
  have v81 : sound_kernel.sl.v81 c i arg1 arg6 arg9 arg13 f1 f6 f9 f13 = (next T i I (slotsOf A B D)).d1 := by
    unfold sound_kernel.sl.v81 next slotsOf
    rw [w2, w3, w4, w5, w6, e51, e51']
    exact (slot_hi arg13.view f13 _ _ _ _ _ _ 0 (Nat.le_refl _)).trans (by rw [hf13])
  have v42_1 : sound_kernel.sl.v42_1 c i arg1 arg4 arg7 arg11 f1 f4 f7 f11 = (next T i I (slotsOf A B D)).g0 := by
    unfold sound_kernel.sl.v42_1 next slotsOf
    rw [w2, w3, w4, w5, w6, e39, e39']
    exact (slot_lo arg11.view f11 _ _ _ _ _ _ 0 (Nat.le_refl _)).trans (by rw [hf11])
  have v45_3 : sound_kernel.sl.v45_3 c i arg1 arg5 arg8 arg12 f1 f5 f8 f12 = (next T i I (slotsOf A B D)).u0 := by
    unfold sound_kernel.sl.v45_3 next slotsOf
    rw [w2, w3, w4, w5, w6, e45, e45']
    exact (slot_lo arg12.view f12 _ _ _ _ _ _ 0 (Nat.le_refl _)).trans (by rw [hf12])
  have v59_1 : sound_kernel.sl.v59_1 c i arg1 arg6 arg9 arg13 f1 f6 f9 f13 = (next T i I (slotsOf A B D)).d0 := by
    unfold sound_kernel.sl.v59_1 next slotsOf
    rw [w2, w3, w4, w5, w6, e51, e51']
    exact (slot_lo arg13.view f13 _ _ _ _ _ _ 0 (Nat.le_refl _)).trans (by rw [hf13])
  have v64_1 : sound_kernel.sl.v64_1 c i arg1 arg4 arg7 arg11 f1 f4 f7 f11 = (next T i I (slotsOf A B D)).g1 := by
    unfold sound_kernel.sl.v64_1 next slotsOf
    rw [w2, w3, w4, w5, w6, e39, e39']
    exact (slot_hi arg11.view f11 _ _ _ _ _ _ 0 (Nat.le_refl _)).trans (by rw [hf11])
  have v67_1 : sound_kernel.sl.v67_1 c i arg1 arg5 arg8 arg12 f1 f5 f8 f12 = (next T i I (slotsOf A B D)).u1 := by
    unfold sound_kernel.sl.v67_1 next slotsOf
    rw [w2, w3, w4, w5, w6, e45, e45']
    exact (slot_hi arg12.view f12 _ _ _ _ _ _ 0 (Nat.le_refl _)).trans (by rw [hf12])
  have w7 : sound_kernel.sl.r_5 c i arg1 f1 = cnt T i := by
    unfold sound_kernel.sl.r_5 cnt wd; rw [View.readAt_eq_ld, hf1]; rfl
  have w8 : sound_kernel.sl.r_6 c i arg1 f1 = cnt T i := by
    unfold sound_kernel.sl.r_6 cnt wd; rw [View.readAt_eq_ld, hf1]; rfl
  have e3' : View.readAt (Elt F) arg3.view (Rect.unit (s := S512x1152) ![0, 0] S256x1152.size inb_S512x1152_S256x1152_0_0).toLoadRect f3
      = VecWindow.window I.x ![0, 0] S256x1152.size inb_S512x1152_S256x1152_0_0 := by
    rw [View.readAt_eq_ld, hf3]; rfl
  sl_step
  iapply Hk
  isplitl [H1]
  · iexists f1; isplitr; · ipureintro; exact hf1
    iexact H1
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists _; isplitr; swap; · iexact H10
    ipureintro
    dsimp only
    unfold outB
    rw [w3, w7, w8]
    by_cases h5 : k0_cond5 i (used T) (cnt T i) = 1#1
    · rw [dif_pos h5, if_pos h5]
      rw [View.read_writes_cons_put arg10.view _ inb_S512x1024_S256x1024_256_0 _ _ rfl,
        View.read_writes_cons_put arg10.view _ inb_S512x1024_S256x1024_0_0 _ [] rfl]
      refine (put_halves _ _).trans ?_
      unfold half head
      rw [v42_1, v45_3, v59_1, v64_1, v67_1, v81]
      refine congrArg (VecWindow.put (k0_pay19 (F := F)) ![0, 0] S256x1024.size) ?_
      rw [← e3']
    · rw [dif_neg h5, if_neg h5]
      by_cases h4 : k0_cond4 i (used T) (cnt T i) = 1#1
      · rw [dif_pos h4, if_pos h4]
        refine (View.read_writes_full arg10.view _ inb_S512x1024_S512x1024_0_0 _ []).trans ?_
        unfold full
        rw [v42, v45_2, v59, v64, v67, v81]
        have e3'' := e3
        generalize View.readAt (Elt F) arg3.view (Rect.unit ![0, 0] S512x1152.size inb_S512x1152_S512x1152_0_0).toLoadRect f3 = xx at e3'' ⊢
        subst e3''
        rfl
      · rw [dif_neg h4, if_neg h4, dif_pos (cond_total i _ _ h5 h4)]
        exact View.read_writes_full arg10.view _ inb_S512x1024_S512x1024_0_0 _ []
  iexists _, _, _
  isplitr; swap
  · isplitl [H11]
    · iexists _; isplitr; swap; · iexact H11
      ipureintro; rfl
    isplitl [H12]
    · iexists _; isplitr; swap; · iexact H12
      ipureintro; rfl
    iexists _; isplitr; swap; · iexact H13
    ipureintro; rfl
  ipureintro
  unfold slotsOf next
  rw [w2, w3, w4, w5, w6, e39, e39', e45, e45', e51, e51']
  refine Slots.ext ?_ ?_ ?_ ?_ ?_ ?_
  · exact (slot_lo arg11.view f11 _ _ _ _ _ _ 0 (Nat.le_refl _)).trans (by rw [hf11] <;> rfl)
  · exact (slot_lo arg12.view f12 _ _ _ _ _ _ 0 (Nat.le_refl _)).trans (by rw [hf12] <;> rfl)
  · exact (slot_lo arg13.view f13 _ _ _ _ _ _ 0 (Nat.le_refl _)).trans (by rw [hf13] <;> rfl)
  · exact (slot_hi arg11.view f11 _ _ _ _ _ _ 0 (Nat.le_refl _)).trans (by rw [hf11] <;> rfl)
  · exact (slot_hi arg12.view f12 _ _ _ _ _ _ 0 (Nat.le_refl _)).trans (by rw [hf12] <;> rfl)
  · exact (slot_hi arg13.view f13 _ _ _ _ _ _ 0 (Nat.le_refl _)).trans (by rw [hf13] <;> rfl)

end Cert.Proof.Ffn

end
-- ==== Proof.FfnTab.lean ====
module

public import proofs.«01_k».proof.Proof.FfnBody
public import proofs.«01_k».proof.Proof.Gen.Pre_tiles_sorted
public import proofs.«01_k».proof.Proof.Gen.ExpertsIdeal.Launch
public import Idealize.ShloMosaic.Lib.Pipeline.Frame
public import Idealize.ShloMosaic.Lib.Pointwise
public import Idealize.ShloMosaic.Lib.WordCmp
public import Idealize.ShloMosaic.Lib.StableHlo.ReadAt

@[expose] public section

set_option maxRecDepth 16384
set_option maxHeartbeats 400000

noncomputable section

/-! The tile table: what the precondition says of it, and the second table the host makes of it. -/

namespace Cert.Proof.Ffn

open Cert.ExpertsIdeal Cert.ExpertsIdeal.Gen
open Idealize.ShloMosaic Idealize.ShloMosaic.TcCoe

/-! ## Words -/

theorem isge_one (x y : BitVec 32) : IntOp.cmpi .sge x y = 1#1 ↔ y.toInt ≤ x.toInt := (ofBool_one _).trans BitVec.sle_iff_toInt_le
theorem isle_one (x y : BitVec 32) : IntOp.cmpi .sle x y = 1#1 ↔ x.toInt ≤ y.toInt := (ofBool_one _).trans BitVec.sle_iff_toInt_le
theorem islt_one (x y : BitVec 32) : IntOp.cmpi .slt x y = 1#1 ↔ x.toInt < y.toInt := (ofBool_one _).trans BitVec.slt_iff_toInt_lt
theorem ieq_one (x y : BitVec 32) : IntOp.cmpi .eq x y = 1#1 ↔ x = y := (ofBool_one _).trans beq_iff_eq
theorem ine_one (x y : BitVec 32) : IntOp.cmpi .ne x y = 1#1 ↔ x ≠ y := (ofBool_one _).trans bne_iff_ne
theorem iand_one (a b : BitVec 1) : IntOp.andi a b = 1#1 ↔ a = 1#1 ∧ b = 1#1 := by revert a b; decide
theorem ior_one (a b : BitVec 1) : IntOp.ori a b = 1#1 ↔ a = 1#1 ∨ b = 1#1 := by revert a b; decide

theorem small_nat (x : BitVec 32) (n : ℕ) (h0 : (0#32).toInt ≤ x.toInt) (h1 : x.toInt < n) : x.toNat < n := by
  have e := BitVec.toInt_eq_toNat_cond x
  have z : (0#32).toInt = 0 := by decide
  split at e <;> omega
theorem toInt_small (n : ℕ) (h : n < 2147483648) : (BitVec.ofNat 32 n).toInt = n := by
  have e := BitVec.toInt_eq_toNat_cond (BitVec.ofNat 32 n)
  rw [BitVec.toNat_ofNat, Nat.mod_eq_of_lt (by omega)] at e
  split at e <;> omega
theorem toInt_of_toNat (x : BitVec 32) (h : x.toNat < 2147483648) : x.toInt = x.toNat := by
  have e := BitVec.toInt_eq_toNat_cond x
  split at e <;> omega

/-! ## The table -/

/-- Column `i` of the table. -/
abbrev col (i : Fin 55) : Fin 128 := ⟨i.val, by omega⟩
/-- The number of columns in use. -/
abbrev usedN (T : S8x128.Idx → BitVec 32) : ℕ := (T (ix2 3 0)).toNat

/-- What the precondition says of the table alone. -/
structure Tab (T : S8x128.Idx → BitVec 32) : Prop where
  used_pos : 1 ≤ usedN T
  used_le : usedN T ≤ 55
  lo : ∀ i : Fin 55, (T (ix2 0 (col i))).toNat < 16
  hi : ∀ i : Fin 55, (T (ix2 1 (col i))).toNat < 16
  ne : ∀ i : Fin 55, i.val < usedN T → T (ix2 0 (col i)) ≠ T (ix2 1 (col i))
  tile : ∀ i : Fin 55, (T (ix2 4 (col i))).toNat < 55
  inj : ∀ i j : Fin 55, T (ix2 4 (col i)) = T (ix2 4 (col j)) → i = j

section Pre

variable {F : FTy → Type} [FloatOps F]
variable (T : S8x128.Idx → BitVec 32) (x : S28160x1152.Idx → F .f32) (g u : S4x16x1024x512.Idx → F .f32) (d : S4x16x512x1024.Idx → F .f32)

/-- The precondition of one core's arguments. -/
def PreFn : Prop :=
  (Cert.Pre_tiles_sorted.fn (F := F) T x g u d).1 = (fun _ => 1#1)
  ∧ (Cert.Pre_tiles_sorted.fn (F := F) T x g u d).2.1 = (fun _ => 1#1)
  ∧ (Cert.Pre_tiles_sorted.fn (F := F) T x g u d).2.2.1 = (fun _ => 1#1)
  ∧ (Cert.Pre_tiles_sorted.fn (F := F) T x g u d).2.2.2.1 = (fun _ => 1#1)
  ∧ (Cert.Pre_tiles_sorted.fn (F := F) T x g u d).2.2.2.2.1 = (fun _ => 1#1)
  ∧ (Cert.Pre_tiles_sorted.fn (F := F) T x g u d).2.2.2.2.2.1 = (fun _ => 1#1)
  ∧ (Cert.Pre_tiles_sorted.fn (F := F) T x g u d).2.2.2.2.2.2.1 = (fun _ => 1#1)
  ∧ (Cert.Pre_tiles_sorted.fn (F := F) T x g u d).2.2.2.2.2.2.2 = (fun _ => 1#1)

theorem pre1 : (Cert.Pre_tiles_sorted.fn (F := F) T x g u d).1 = fun _ => IntOp.cmpi .sge (T (ix2 3 0)) 1#32 := by
  funext z
  unfold Cert.Pre_tiles_sorted.fn Cert.Pre_tiles_sorted.fn_part1 Cert.Pre_tiles_sorted.fn_part2 Cert.Pre_tiles_sorted.fn_part3
  dsimp only
  pointwise
theorem pre2 : (Cert.Pre_tiles_sorted.fn (F := F) T x g u d).2.1 = fun _ => IntOp.cmpi .sle (T (ix2 3 0)) 55#32 := by
  funext z
  unfold Cert.Pre_tiles_sorted.fn Cert.Pre_tiles_sorted.fn_part1 Cert.Pre_tiles_sorted.fn_part2 Cert.Pre_tiles_sorted.fn_part3
  dsimp only
  pointwise
theorem pre3 (i : Fin 55) : (Cert.Pre_tiles_sorted.fn (F := F) T x g u d).2.2.1 (ix1 i)
    = IntOp.andi (IntOp.cmpi .sge (T (ix2 0 (col i))) 0#32) (IntOp.cmpi .slt (T (ix2 0 (col i))) 16#32) := by
  unfold Cert.Pre_tiles_sorted.fn Cert.Pre_tiles_sorted.fn_part1 Cert.Pre_tiles_sorted.fn_part2 Cert.Pre_tiles_sorted.fn_part3
  dsimp only
  pointwise
theorem pre4 (i : Fin 55) : (Cert.Pre_tiles_sorted.fn (F := F) T x g u d).2.2.2.1 (ix1 i)
    = IntOp.andi (IntOp.cmpi .sge (T (ix2 1 (col i))) 0#32) (IntOp.cmpi .slt (T (ix2 1 (col i))) 16#32) := by
  unfold Cert.Pre_tiles_sorted.fn Cert.Pre_tiles_sorted.fn_part1 Cert.Pre_tiles_sorted.fn_part2 Cert.Pre_tiles_sorted.fn_part3
  dsimp only
  pointwise
theorem pre5 (i : Fin 55) : (Cert.Pre_tiles_sorted.fn (F := F) T x g u d).2.2.2.2.1 (ix1 i)
    = IntOp.ori (IntOp.cmpi .ne (T (ix2 0 (col i))) (T (ix2 1 (col i)))) (IntOp.cmpi .sge (BitVec.ofNat 32 i.val) (T (ix2 3 0))) := by
  unfold Cert.Pre_tiles_sorted.fn Cert.Pre_tiles_sorted.fn_part1 Cert.Pre_tiles_sorted.fn_part2 Cert.Pre_tiles_sorted.fn_part3
  dsimp only
  pointwise
theorem pre6 (i : Fin 55) : (Cert.Pre_tiles_sorted.fn (F := F) T x g u d).2.2.2.2.2.1 (ix1 i)
    = IntOp.andi (IntOp.cmpi .sge (T (ix2 4 (col i))) 0#32) (IntOp.cmpi .slt (T (ix2 4 (col i))) 55#32) := by
  unfold Cert.Pre_tiles_sorted.fn Cert.Pre_tiles_sorted.fn_part1 Cert.Pre_tiles_sorted.fn_part2 Cert.Pre_tiles_sorted.fn_part3
  dsimp only
  pointwise
theorem pre7 (i j : Fin 55) : (Cert.Pre_tiles_sorted.fn (F := F) T x g u d).2.2.2.2.2.2.1 (ix2 i j)
    = IntOp.ori (IntOp.cmpi .ne (T (ix2 4 (col i))) (T (ix2 4 (col j)))) (IntOp.cmpi .eq (BitVec.ofNat 32 i.val) (BitVec.ofNat 32 j.val)) := by
  unfold Cert.Pre_tiles_sorted.fn Cert.Pre_tiles_sorted.fn_part1 Cert.Pre_tiles_sorted.fn_part2 Cert.Pre_tiles_sorted.fn_part3
  dsimp only
  pointwise
theorem pre8 (t i : Fin 55) (r : Fin 512) : (Cert.Pre_tiles_sorted.fn (F := F) T x g u d).2.2.2.2.2.2.2 (ix3 t i r)
    = IntOp.ori
        (IntOp.ori
          (~~~IntOp.andi (IntOp.cmpi .eq (T (ix2 4 (col i))) (BitVec.ofNat 32 t.val))
            (IntOp.cmpi .slt (BitVec.ofNat 32 i.val) (T (ix2 3 0))))
          (IntOp.cmpi .slt (BitVec.ofNat 32 r.val) (T (ix2 2 (col i)))))
        (IntOp.andi (FloatOps.cmpf .oeq (x (ix2 ⟨t.val * 512 + r.val, by omega⟩ 1024)) (FloatOps.ofBits .f32 0#32))
          (FloatOps.cmpf .oeq (x (ix2 ⟨t.val * 512 + r.val, by omega⟩ 1025)) (FloatOps.ofBits .f32 0#32))) := by
  unfold Cert.Pre_tiles_sorted.fn Cert.Pre_tiles_sorted.fn_part1 Cert.Pre_tiles_sorted.fn_part2 Cert.Pre_tiles_sorted.fn_part3
  dsimp only
  pointwise

variable {T x g u d}

theorem inot_one (a : BitVec 1) : ~~~a = 1#1 ↔ ¬ a = 1#1 := by revert a; decide

theorem tab_of_pre (h : PreFn T x g u d) : Tab T := by
  obtain ⟨h1, h2, h3, h4, h5, h6, h7, h8⟩ := h
  have a1 := (isge_one _ _).mp ((congrFun (pre1 T x g u d) (Shape.Idx.first h_S_)).symm.trans (congrFun h1 _))
  have a2 := (isle_one _ _).mp ((congrFun (pre2 T x g u d) (Shape.Idx.first h_S_)).symm.trans (congrFun h2 _))
  rw [toInt_small 1 (by decide)] at a1
  rw [toInt_small 55 (by decide)] at a2
  have hU : usedN T = (T (ix2 3 0)).toNat := rfl
  have hu : usedN T < 56 := small_nat _ 56 (by simpa using a1.trans' (by decide)) (by omega)
  have hi := toInt_of_toNat (T (ix2 3 0)) (by omega)
  have range : ∀ (w : BitVec 32) (n : ℕ), n < 2147483648 → IntOp.andi (IntOp.cmpi .sge w 0#32) (IntOp.cmpi .slt w (BitVec.ofNat 32 n)) = 1#1 → w.toNat < n := by
    intro w n hn e
    obtain ⟨e0, e1⟩ := (iand_one _ _).mp e
    have e1' := (islt_one _ _).mp e1
    rw [toInt_small n hn] at e1'
    exact small_nat w n ((isge_one _ _).mp e0) e1'
  refine ⟨by omega, by omega, fun i => range _ 16 (by decide) ((pre3 T x g u d i).symm.trans (congrFun h3 _)),
    fun i => range _ 16 (by decide) ((pre4 T x g u d i).symm.trans (congrFun h4 _)), fun i hl => ?_,
    fun i => range _ 55 (by decide) ((pre6 T x g u d i).symm.trans (congrFun h6 _)), fun i j he => ?_⟩
  · rcases (ior_one _ _).mp ((pre5 T x g u d i).symm.trans (congrFun h5 _)) with e | e
    · exact (ine_one _ _).mp e
    · have e' := (isge_one _ _).mp e
      rw [toInt_small i.val (by omega)] at e'
      omega
  · rcases (ior_one _ _).mp ((pre7 T x g u d i j).symm.trans (congrFun h7 _)) with e | e
    · exact absurd he ((ine_one _ _).mp e)
    · have e' := congrArg BitVec.toNat ((ieq_one _ _).mp e)
      rw [BitVec.toNat_ofNat, BitVec.toNat_ofNat] at e'
      exact Fin.ext (by omega)

/-- Rows of a tile in use past its count carry zero weights. -/
theorem zero_of_pre (h : PreFn T x g u d) (t i : Fin 55) (r : Fin 512) (ht : (T (ix2 4 (col i))).toNat = t.val) (hl : i.val < usedN T)
    (hr : ¬ ((r.val : Int) < (T (ix2 2 (col i))).toInt)) :
    FloatOps.cmpf .oeq (x (ix2 ⟨t.val * 512 + r.val, by omega⟩ 1024)) (FloatOps.ofBits .f32 0#32) = 1#1
    ∧ FloatOps.cmpf .oeq (x (ix2 ⟨t.val * 512 + r.val, by omega⟩ 1025)) (FloatOps.ofBits .f32 0#32) = 1#1 := by
  have hT := tab_of_pre h
  have hi := toInt_of_toNat (T (ix2 3 0)) (by have := hT.used_le; have hU : usedN T = (T (ix2 3 0)).toNat := rfl; omega)
  have hU : usedN T = (T (ix2 3 0)).toNat := rfl
  obtain ⟨h1, h2, h3, h4, h5, h6, h7, h8⟩ := h
  rcases (ior_one _ _).mp ((pre8 T x g u d t i r).symm.trans (congrFun h8 _)) with e | e
  · exfalso
    rcases (ior_one _ _).mp e with e | e
    · refine (inot_one _).mp e ((iand_one _ _).mpr ⟨(ieq_one _ _).mpr ?_, (islt_one _ _).mpr ?_⟩)
      · rw [← ht, BitVec.ofNat_toNat, BitVec.setWidth_eq]
      · rw [toInt_small i.val (by omega)]; omega
    · have e' := (islt_one _ _).mp e
      rw [toInt_small r.val (by omega)] at e'
      exact hr e'
  · exact (iand_one _ _).mp e

end Pre

variable {F : FTy → Type} [FloatOps F]
variable (m : (ℓ : Loc nD τ sig) → Buf (Elt F) ℓ)

/-- Core `c`'s buffers when the region is entered. -/
abbrev V (c : Dev nD) (b : Ref sig .tc) : Buf (Elt F) ((c : Thread nD τ).loc b) := StableHlo.after hostOps0 (fun b => m (c, b)) b

/-- The table as launched. -/
abbrev tab (c : Dev nD) : S8x128.Idx → BitVec 32 := m ((c : Thread nD τ).loc main_arg0)

theorem start_row (c : Dev nD) (z : S_.Idx) :
    (StableHlo.upto hostOps0 (fun b => m (c, b)) 10 (Proc.tc.devRef main_c_2) : S_.Idx → BitVec 32) z = 0#32 := by
  after_reads_at
theorem start_col (c : Dev nD) (z : S_.Idx) :
    (StableHlo.upto hostOps0 (fun b => m (c, b)) 10 (Proc.tc.devRef main_v5) : S_.Idx → BitVec 32) z
      = Scalar.select (IntOp.cmpi .slt (IntOp.subi (tab m c (ix2 3 0)) 1#32) 0#32)
          (IntOp.addi (IntOp.subi (tab m c (ix2 3 0)) 1#32) 128#32) (IntOp.subi (tab m c (ix2 3 0)) 1#32) := by
  after_reads_at

theorem last_toNat (w : BitVec 32) (h1 : 1 ≤ w.toNat) (h2 : w.toNat ≤ 55) :
    (Scalar.select (IntOp.cmpi .slt (IntOp.subi w 1#32) 0#32) (IntOp.addi (IntOp.subi w 1#32) 128#32) (IntOp.subi w 1#32)).toInt
      = ((w.toNat - 1 : ℕ) : Int) := by
  have e : (IntOp.subi w 1#32).toNat = w.toNat - 1 := by
    show (w - 1#32).toNat = _
    rw [BitVec.toNat_sub]
    show (4294967296 - 1 + w.toNat) % 4294967296 = _
    omega
  have e2 := toInt_of_toNat (IntOp.subi w 1#32) (by omega)
  have hn : ¬ IntOp.cmpi .slt (IntOp.subi w 1#32) 0#32 = 1#1 := by
    rw [islt_one, e2]
    show ¬ _ < (0 : Int)
    omega
  rw [show Scalar.select (IntOp.cmpi .slt (IntOp.subi w 1#32) 0#32) (IntOp.addi (IntOp.subi w 1#32) 128#32) (IntOp.subi w 1#32)
    = IntOp.subi w 1#32 from if_neg hn, e2, e]

/-- The column a point reads through the second table: its own, or the last one in use. -/
def cur (T : S8x128.Idx → BitVec 32) (i : ℕ) (hT : usedN T ≤ 55) : Fin 55 :=
  if h : i < usedN T then ⟨i, by omega⟩ else ⟨usedN T - 1, by omega⟩

theorem at_starts (X : S8x128.Idx → BitVec 32) (st : Fin 2 → Int) (n : ℕ) (h1 : st 1 = n) (hn : n < 128) (r : Fin 8)
    (p : Host.clampedStart S8x128 S8x1 rfl st (0 : Fin 2) + r.val < 8) (q : Host.clampedStart S8x128 S8x1 rfl st (1 : Fin 2) < 128) :
    X (ix2 ⟨Host.clampedStart S8x128 S8x1 rfl st (0 : Fin 2) + r.val, p⟩ ⟨Host.clampedStart S8x128 S8x1 rfl st (1 : Fin 2), q⟩) = X (ix2 r ⟨n, hn⟩) := by
  have e0 : Host.clampedStart S8x128 S8x1 rfl st (0 : Fin 2) + 8 ≤ 8 := Host.clampedStart_le (s := S8x128) (t := S8x1) rfl st (0 : Fin 2) (by decide)
  have e1 : Host.clampedStart S8x128 S8x1 rfl st (1 : Fin 2) = n :=
    Host.clampedStart_of_le (s := S8x128) (t := S8x1) rfl st (1 : Fin 2) n h1 (show n + 1 ≤ 128 from hn)
  exact congrArg X (congr (congrArg ix2 (Fin.ext (by show Host.clampedStart S8x128 S8x1 rfl st (0 : Fin 2) + r.val = r.val; omega))) (Fin.ext e1))

theorem sinfo_at (c : Dev nD) (hT : Tab (tab m c)) (r : Fin 8) (i : Fin 55) :
    (V m c main_v13 : S8x128.Idx → BitVec 32) (ix2 r (col i)) = tab m c (ix2 r (col (cur (tab m c) i hT.used_le))) := by
  have e1 := hT.used_pos
  have e2 := hT.used_le
  have hU : usedN (tab m c) = (tab m c (ix2 3 0)).toNat := rfl
  have hi := toInt_of_toNat (tab m c (ix2 3 0)) (by omega)
  have s0 := start_row m c (Shape.Idx.first h_S_)
  have s1 := (congrArg BitVec.toInt (start_col m c (Shape.Idx.first h_S_))).trans (last_toNat _ e1 e2)
  unfold V
  after_reads_at
  generalize StableHlo.upto hostOps0 (fun b => m (c, b)) 10 = U at s0 s1 ⊢
  show Scalar.select (IntOp.cmpi .slt (BitVec.ofNat 32 i.val) (tab m c (ix2 3 0))) (tab m c (ix2 r (col i))) _ = _
  by_cases hl : i.val < usedN (tab m c)
  · rw [show cur (tab m c) i hT.used_le = i from dif_pos hl]
    exact if_pos ((islt_one _ _).mpr (by rw [toInt_small i.val (by omega)]; omega))
  · rw [show cur (tab m c) i hT.used_le = ⟨usedN (tab m c) - 1, by omega⟩ from dif_neg hl]
    refine (if_neg (fun h => hl ?_)).trans ?_
    · have h' := (islt_one _ _).mp h
      rw [toInt_small i.val (by omega)] at h'
      omega
    · refine at_starts (tab m c) _ (usedN (tab m c) - 1) ?_ (by omega) r _ _
      exact s1

/-! ## The tables as the launch finds them -/

theorem V_main_arg0 (c : Dev nD) : V m c main_arg0 = m ((c : Thread nD τ).loc main_arg0) := by
  refine StableHlo.after_of_forall_not_mem (b := Proc.devRef .tc main_arg0) _ _ (List.forall_iff_forall_mem.mp ?_)
  simp only [hostOps0, List.Forall, StableHlo.nullary_writes, StableHlo.unary_writes, StableHlo.binary_writes, StableHlo.ternary_writes, StableHlo.reshape_writes, StableHlo.unaryIndexed_writes, Finset.mem_singleton]
  repeat' apply And.intro
  all_goals exact StableHlo.devRef_ne_of_ne (by decide)

end Cert.Proof.Ffn

end
-- ==== Proof.FfnSetup.lean ====
module

public import proofs.«01_k».proof.Proof.FfnTab

@[expose] public section

set_option maxRecDepth 16384
set_option maxHeartbeats 1000000

noncomputable section

/-! The run of the expert kernel: what the launch finds, the tables it reads, and what the points carry. -/

namespace Cert.Proof.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg1 (c : Dev nD) : V m c main_arg1 = m ((c : Thread nD τ).loc main_arg1) := by
  refine StableHlo.after_of_forall_not_mem (b := Proc.devRef .tc main_arg1) _ _ (List.forall_iff_forall_mem.mp ?_)
  simp only [hostOps0, List.Forall, StableHlo.nullary_writes, StableHlo.unary_writes, StableHlo.binary_writes, StableHlo.ternary_writes, StableHlo.reshape_writes, StableHlo.unaryIndexed_writes, Finset.mem_singleton]
  repeat' apply And.intro
  all_goals exact StableHlo.devRef_ne_of_ne (by decide)
theorem V_main_arg2 (c : Dev nD) : V m c main_arg2 = m ((c : Thread nD τ).loc main_arg2) := by
  refine StableHlo.after_of_forall_not_mem (b := Proc.devRef .tc main_arg2) _ _ (List.forall_iff_forall_mem.mp ?_)
  simp only [hostOps0, List.Forall, StableHlo.nullary_writes, StableHlo.unary_writes, StableHlo.binary_writes, StableHlo.ternary_writes, StableHlo.reshape_writes, StableHlo.unaryIndexed_writes, Finset.mem_singleton]
  repeat' apply And.intro
  all_goals exact StableHlo.devRef_ne_of_ne (by decide)
theorem V_main_arg3 (c : Dev nD) : V m c main_arg3 = m ((c : Thread nD τ).loc main_arg3) := by
  refine StableHlo.after_of_forall_not_mem (b := Proc.devRef .tc main_arg3) _ _ (List.forall_iff_forall_mem.mp ?_)
  simp only [hostOps0, List.Forall, StableHlo.nullary_writes, StableHlo.unary_writes, StableHlo.binary_writes, StableHlo.ternary_writes, StableHlo.reshape_writes, StableHlo.unaryIndexed_writes, Finset.mem_singleton]
  repeat' apply And.intro
  all_goals exact StableHlo.devRef_ne_of_ne (by decide)
theorem V_main_arg4 (c : Dev nD) : V m c main_arg4 = m ((c : Thread nD τ).loc main_arg4) := by
  refine StableHlo.after_of_forall_not_mem (b := Proc.devRef .tc main_arg4) _ _ (List.forall_iff_forall_mem.mp ?_)
  simp only [hostOps0, List.Forall, StableHlo.nullary_writes, StableHlo.unary_writes, StableHlo.binary_writes, StableHlo.ternary_writes, StableHlo.reshape_writes, StableHlo.unaryIndexed_writes, Finset.mem_singleton]
  repeat' apply And.intro
  all_goals exact StableHlo.devRef_ne_of_ne (by decide)

/-! ## The tables' words -/

/-- The tables' contents at the region. -/
abbrev tabs : pre0.Contents (Elt F) := fun k => V m 0 (pre0.ref k)

/-- The grid point's number. -/
abbrev pt (i : grid0.Coords) : Fin 55 := i (0 : Fin 1)

theorem emb_unit (off : Fin 2 → ℕ) (h : ∀ a, off a + S1x1.size a ≤ S8x128.size a) (h1 : 0 < S1x1.numel)
    (r : Fin 8) (j : Fin 128) (hr : off (0 : Fin 2) = r.val) (hj : off (1 : Fin 2) = j.val) :
    (Rect.unit (s := S8x128) off S1x1.size h).emb (Shape.Idx.first h1) = ix2 r j := by
  funext a
  match a with
  | (⟨0, _⟩ : Fin 2) => exact Fin.ext ((show off (0 : Fin 2) + 0 * 1 = r.val from hr))
  | (⟨1, _⟩ : Fin 2) => exact Fin.ext ((show off (1 : Fin 2) + 0 * 1 = j.val from hj))

theorem wd_row (T : S8x128.Idx → BitVec 32) (off : Fin 2 → ℕ) (h : ∀ a, off a + S1x1.size a ≤ S8x128.size a)
    (r : Fin 8) (j : Fin 128) (hr : off (0 : Fin 2) = r.val) (hj : off (1 : Fin 2) = j.val) : wd (F := F) T off h = T (ix2 r j) := by
  unfold wd
  exact congrArg T (emb_unit off h _ r j hr hj)

theorem used_eq (T : S8x128.Idx → BitVec 32) : used (F := F) T = T (ix2 3 0) := wd_row (F := F) T _ _ 3 0 rfl rfl

theorem offs : ∀ t : Fin grid0.N, (grid0.coords t (0 : Fin 1)).val = t.val
    ∧ (k0_off2 (grid0.coords t) (0 : Fin 2) = 0 ∧ k0_off2 (grid0.coords t) (1 : Fin 2) = t.val)
    ∧ (k0_off4 (grid0.coords t) (0 : Fin 2) = 0 ∧ k0_off4 (grid0.coords t) (1 : Fin 2) = t.val - 1)
    ∧ (k0_off5 (grid0.coords t) (0 : Fin 2) = 1 ∧ k0_off5 (grid0.coords t) (1 : Fin 2) = t.val)
    ∧ (k0_off6 (grid0.coords t) (0 : Fin 2) = 1 ∧ k0_off6 (grid0.coords t) (1 : Fin 2) = t.val - 1)
    ∧ (k0_off7 (grid0.coords t) (0 : Fin 2) = 2 ∧ k0_off7 (grid0.coords t) (1 : Fin 2) = t.val) := by
  decide +kernel

theorem sinfo_word (hT : Tab (tab m 0)) (r : Fin 8) (i : grid0.Coords) (off : Fin 2 → ℕ) (h : ∀ a, off a + S1x1.size a ≤ S8x128.size a)
    (hr : off (0 : Fin 2) = r.val) (hj : off (1 : Fin 2) = (i (0 : Fin 1)).val) :
    ((tabs m).at 1 (Rect.unit (s := S8x128) off S1x1.size h) numel1_S1x1 : BitVec 32) = tab m 0 (ix2 r (col (cur (tab m 0) (pt i) hT.used_le))) :=
  (congrArg (V m 0 main_v13 : S8x128.Idx → BitVec 32) (emb_unit off h _ r (col (pt i)) hr hj)).trans (sinfo_at m 0 hT r (pt i))
theorem tinfo_word (r : Fin 8) (i : grid0.Coords) (off : Fin 2 → ℕ) (h : ∀ a, off a + S1x1.size a ≤ S8x128.size a)
    (hr : off (0 : Fin 2) = r.val) (hj : off (1 : Fin 2) = (i (0 : Fin 1)).val) :
    ((tabs m).at 0 (Rect.unit (s := S8x128) off S1x1.size h) numel1_S1x1 : BitVec 32) = tab m 0 (ix2 r (col (pt i))) :=
  (congrArg (V m 0 main_arg0 : S8x128.Idx → BitVec 32) (emb_unit off h _ r (col (pt i)) hr hj)).trans (congrFun (V_main_arg0 m 0) _)

theorem ofNat_toNat (i : grid0.Coords) : (BitVec.ofNat 32 (i (0 : Fin 1)).val).toNat = (i (0 : Fin 1)).val := by
  have h : (i (0 : Fin 1)).val < 55 := (i (0 : Fin 1)).isLt
  rw [BitVec.toNat_ofNat, Nat.mod_eq_of_lt (by omega)]

section Tr
variable (hT : Tab (tab m 0)) (i : grid0.Coords)

theorem tr0 : cc0_transform_0 k0_off1_inb numel1_S1x1 (tabs m) i = ![(tab m 0 (ix2 4 (col (cur (tab m 0) (pt i) hT.used_le)))).toNat, 0] :=
  congrArg (fun w : BitVec 32 => (![w.toNat, 0] : Fin 2 → ℕ)) (sinfo_word m hT 4 i _ (k0_off1_inb i) rfl (ofNat_toNat i))
theorem tr1 : cc0_transform_1 k0_off2_inb numel1_S1x1 (tabs m) i = ![0, (tab m 0 (ix2 0 (col (cur (tab m 0) (pt i) hT.used_le)))).toNat, 0, 0] :=
  congrArg (fun w : BitVec 32 => (![0, w.toNat, 0, 0] : Fin 4 → ℕ)) (sinfo_word m hT 0 i _ (k0_off2_inb i) rfl (ofNat_toNat i))
theorem tr2 : cc0_transform_2 k0_off2_inb numel1_S1x1 (tabs m) i = ![0, (tab m 0 (ix2 0 (col (cur (tab m 0) (pt i) hT.used_le)))).toNat, 0, 0] :=
  congrArg (fun w : BitVec 32 => (![0, w.toNat, 0, 0] : Fin 4 → ℕ)) (sinfo_word m hT 0 i _ (k0_off2_inb i) rfl (ofNat_toNat i))
theorem tr3 : cc0_transform_3 k0_off2_inb numel1_S1x1 (tabs m) i = ![0, (tab m 0 (ix2 0 (col (cur (tab m 0) (pt i) hT.used_le)))).toNat, 0, 0] :=
  congrArg (fun w : BitVec 32 => (![0, w.toNat, 0, 0] : Fin 4 → ℕ)) (sinfo_word m hT 0 i _ (k0_off2_inb i) rfl (ofNat_toNat i))
theorem tr4 : cc0_transform_4 k0_off3_inb numel1_S1x1 (tabs m) i = ![0, (tab m 0 (ix2 1 (col (cur (tab m 0) (pt i) hT.used_le)))).toNat, 0, 0] :=
  congrArg (fun w : BitVec 32 => (![0, w.toNat, 0, 0] : Fin 4 → ℕ)) (sinfo_word m hT 1 i _ (k0_off3_inb i) rfl (ofNat_toNat i))
theorem tr5 : cc0_transform_5 k0_off3_inb numel1_S1x1 (tabs m) i = ![0, (tab m 0 (ix2 1 (col (cur (tab m 0) (pt i) hT.used_le)))).toNat, 0, 0] :=
  congrArg (fun w : BitVec 32 => (![0, w.toNat, 0, 0] : Fin 4 → ℕ)) (sinfo_word m hT 1 i _ (k0_off3_inb i) rfl (ofNat_toNat i))
theorem tr6 : cc0_transform_6 k0_off3_inb numel1_S1x1 (tabs m) i = ![0, (tab m 0 (ix2 1 (col (cur (tab m 0) (pt i) hT.used_le)))).toNat, 0, 0] :=
  congrArg (fun w : BitVec 32 => (![0, w.toNat, 0, 0] : Fin 4 → ℕ)) (sinfo_word m hT 1 i _ (k0_off3_inb i) rfl (ofNat_toNat i))
theorem tr7 : cc0_transform_7 k0_off1_inb numel1_S1x1 (tabs m) i = ![(tab m 0 (ix2 4 (col (pt i)))).toNat, 0] :=
  congrArg (fun w : BitVec 32 => (![w.toNat, 0] : Fin 2 → ℕ)) (tinfo_word m 4 i _ (k0_off1_inb i) rfl (ofNat_toNat i))
end Tr

theorem tile_inb {n : ℕ} (h : n < 55) : ∀ a, ((![n, 0] : Fin 2 → ℕ) a + 1) * S512x1152.size a ≤ S28160x1152.size a := fun a => by
  match a with
  | (⟨0, _⟩ : Fin 2) => show (n + 1) * 512 ≤ 28160; omega
  | (⟨1, _⟩ : Fin 2) => exact Nat.le_refl _
theorem out_inb {n : ℕ} (h : n < 55) : ∀ a, ((![n, 0] : Fin 2 → ℕ) a + 1) * S512x1024.size a ≤ S28160x1024.size a := fun a => by
  match a with
  | (⟨0, _⟩ : Fin 2) => show (n + 1) * 512 ≤ 28160; omega
  | (⟨1, _⟩ : Fin 2) => exact Nat.le_refl _
theorem up_inb {n : ℕ} (h : n < 16) : ∀ a, ((![0, n, 0, 0] : Fin 4 → ℕ) a + 1) * S1x1x1024x512.size a ≤ S4x16x1024x512.size a := fun a => by
  match a with
  | (⟨0, _⟩ : Fin 4) => show (0 + 1) * 1 ≤ 4; omega
  | (⟨1, _⟩ : Fin 4) => show (n + 1) * 1 ≤ 16; omega
  | (⟨2, _⟩ : Fin 4) => exact Nat.le_refl _
  | (⟨3, _⟩ : Fin 4) => exact Nat.le_refl _
theorem down_inb {n : ℕ} (h : n < 16) : ∀ a, ((![0, n, 0, 0] : Fin 4 → ℕ) a + 1) * S1x1x512x1024.size a ≤ S4x16x512x1024.size a := fun a => by
  match a with
  | (⟨0, _⟩ : Fin 4) => show (0 + 1) * 1 ≤ 4; omega
  | (⟨1, _⟩ : Fin 4) => show (n + 1) * 1 ≤ 16; omega
  | (⟨2, _⟩ : Fin 4) => exact Nat.le_refl _
  | (⟨3, _⟩ : Fin 4) => exact Nat.le_refl _

theorem ok_tabs (hT : Tab (tab m 0)) : ok0 (tabs m) :=
  ⟨fun i => ⟨fun a => by rw [tr0 m hT i]; exact tile_inb (hT.tile _) a, .inl rfl⟩,
   fun i => ⟨fun a => by rw [tr1 m hT i]; exact up_inb (hT.lo _) a, .inl rfl⟩,
   fun i => ⟨fun a => by rw [tr2 m hT i]; exact up_inb (hT.lo _) a, .inl rfl⟩,
   fun i => ⟨fun a => by rw [tr3 m hT i]; exact down_inb (hT.lo _) a, .inl rfl⟩,
   fun i => ⟨fun a => by rw [tr4 m hT i]; exact up_inb (hT.hi _) a, .inl rfl⟩,
   fun i => ⟨fun a => by rw [tr5 m hT i]; exact up_inb (hT.hi _) a, .inl rfl⟩,
   fun i => ⟨fun a => by rw [tr6 m hT i]; exact down_inb (hT.hi _) a, .inl rfl⟩,
   fun i => ⟨fun a => by rw [tr7 m i]; exact out_inb (hT.tile _) a, .inl rfl⟩⟩

/-! ## What the points read and carry -/

section Run
variable (hT : Tab (tab m 0))

/-- The tables as the region admits them. -/
abbrev adm (_ : Fin 1) : (pcfg0 (F := F)).Adm := ⟨tabs m, ok_tabs m hT⟩
/-- The pipeline at the tables. -/
abbrev cf : Pipeline.Cfg sig Λ₀ := cfg0 (adm m hT 0)

/-- Window `w`'s block of its array at point `t`. -/
def iblk (c : Dev nD) (w : Fin 8) (t : Fin grid0.N) : (((cf m hT).win w).xblock (grid0.coords t)).Idx → Elt F ((cf m hT).win w).elt :=
  (((cf m hT).win w).blk t).view.read (Elt F) (V m c (Pipeline.arrRef spec0 w))

/-- What the point `t` reads of its windows. -/
def ins (c : Dev nD) (t : Fin grid0.N) : Ins F :=
  ⟨iblk m hT c 0 t, iblk m hT c 1 t, iblk m hT c 2 t, iblk m hT c 3 t, iblk m hT c 4 t, iblk m hT c 5 t, iblk m hT c 6 t⟩

/-- The block of the result the point `t` leaves. -/
def outAt (c : Dev nD) (t : Fin grid0.N) : Vec F S512x1024 .f32 :=
  outB (tab m 0) (grid0.coords t) (ins m hT c t).x (slotsIn (ins m hT c t))

/-- What the kept weights are before point `n`: after a point in use, that point's own. -/
def carried (c : Dev nD) (n : ℕ) (S : Slots F) : Prop :=
  ∀ p : Fin grid0.N, n = p.val + 1 → p.val < usedN (tab m 0) → S = slotsIn (ins m hT c p)

/-- The region's invariant before point `n`: the three scratch arrays, the tables and the generator register. -/
def Phi (c : Dev nD) (n : ℕ) : sProp 𝕄 :=
  iprop((∃ A B D, ⌜carried m hT c n (slotsOf A B D)⌝ ∗ owns (c : Thread nD τ) (Memref.whole cc0_scratch0) fullShare A
      ∗ owns (c : Thread nD τ) (Memref.whole cc0_scratch1) fullShare B ∗ owns (c : Thread nD τ) (Memref.whole cc0_scratch2) fullShare D)
    ∗ owns (c : Thread nD τ) (Memref.whole main_arg0) fullShare.right (tab m 0)
    ∗ ∃ r, prngReg c r)

/-- The proof data: the arrays as the region finds them; after a point each input's buffer at its block and the result's at the
    point's block. -/
def dats (_ : Fin 1) (c : Dev nD) : Dat τ (Elt F) Unit ℕ (UR sig nD τ) ℕ (cf m hT) c where
  A w := V m c (Pipeline.arrRef spec0 w)
  after w t := match w with
    | ⟨0, _⟩ => iblk m hT c 0 t
    | ⟨1, _⟩ => iblk m hT c 1 t
    | ⟨2, _⟩ => iblk m hT c 2 t
    | ⟨3, _⟩ => iblk m hT c 3 t
    | ⟨4, _⟩ => iblk m hT c 4 t
    | ⟨5, _⟩ => iblk m hT c 5 t
    | ⟨6, _⟩ => iblk m hT c 6 t
    | ⟨7, _⟩ => outAt m hT c t
  Φ t := Phi m hT c t.val
  q w := Pipeline.shareOf spec0 w
  owed _ := 0

theorem A_eq (c : Dev nD) (w : Fin 8) : (dats m hT 0 c).A w = V m c (Pipeline.arrRef spec0 w) := by
  dsimp only [dats]

theorem after0_0 (c : Dev nD) (t : Fin grid0.N) : (dats m hT 0 c).after 0 t = iblk m hT c 0 t := rfl
theorem after0_1 (c : Dev nD) (t : Fin grid0.N) : (dats m hT 0 c).after 1 t = iblk m hT c 1 t := rfl
theorem after0_2 (c : Dev nD) (t : Fin grid0.N) : (dats m hT 0 c).after 2 t = iblk m hT c 2 t := rfl
theorem after0_3 (c : Dev nD) (t : Fin grid0.N) : (dats m hT 0 c).after 3 t = iblk m hT c 3 t := rfl
theorem after0_4 (c : Dev nD) (t : Fin grid0.N) : (dats m hT 0 c).after 4 t = iblk m hT c 4 t := rfl
theorem after0_5 (c : Dev nD) (t : Fin grid0.N) : (dats m hT 0 c).after 5 t = iblk m hT c 5 t := rfl
theorem after0_6 (c : Dev nD) (t : Fin grid0.N) : (dats m hT 0 c).after 6 t = iblk m hT c 6 t := rfl
theorem after0_7 (c : Dev nD) (t : Fin grid0.N) : (dats m hT 0 c).after 7 t = outAt m hT c t := rfl

theorem before0_0 (c : Dev nD) (t : Fin grid0.N) (d) : (dats m hT 0 c).before 0 t d = iblk m hT c 0 t :=
  ((dats m hT 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin grid0.N) (d) : (dats m hT 0 c).before 1 t d = iblk m hT c 1 t :=
  ((dats m hT 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin grid0.N) (d) : (dats m hT 0 c).before 2 t d = iblk m hT c 2 t :=
  ((dats m hT 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin grid0.N) (d) : (dats m hT 0 c).before 3 t d = iblk m hT c 3 t :=
  ((dats m hT 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin grid0.N) (d) : (dats m hT 0 c).before 4 t d = iblk m hT c 4 t :=
  ((dats m hT 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin grid0.N) (d) : (dats m hT 0 c).before 5 t d = iblk m hT c 5 t :=
  ((dats m hT 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin grid0.N) (d) : (dats m hT 0 c).before 6 t d = iblk m hT c 6 t :=
  ((dats m hT 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-- Two points with one block index read one block. -/
theorem same_1 (c : Dev nD) (t p : Fin grid0.N) (h : (win0 (adm m hT 0) 1).index t = (win0 (adm m hT 0) 1).index p) :
    (iblk m hT c 1 t : Vec F S1x1x1024x512 .f32) = iblk m hT c 1 p :=
  (dats m hT 0 c).fetched_congr 1 (t := t) (t' := p) h rfl (fun _ => default)
theorem same_2 (c : Dev nD) (t p : Fin grid0.N) (h : (win0 (adm m hT 0) 2).index t = (win0 (adm m hT 0) 2).index p) :
    (iblk m hT c 2 t : Vec F S1x1x1024x512 .f32) = iblk m hT c 2 p :=
  (dats m hT 0 c).fetched_congr 2 (t := t) (t' := p) h rfl (fun _ => default)
theorem same_3 (c : Dev nD) (t p : Fin grid0.N) (h : (win0 (adm m hT 0) 3).index t = (win0 (adm m hT 0) 3).index p) :
    (iblk m hT c 3 t : Vec F S1x1x512x1024 .f32) = iblk m hT c 3 p :=
  (dats m hT 0 c).fetched_congr 3 (t := t) (t' := p) h rfl (fun _ => default)
theorem same_4 (c : Dev nD) (t p : Fin grid0.N) (h : (win0 (adm m hT 0) 4).index t = (win0 (adm m hT 0) 4).index p) :
    (iblk m hT c 4 t : Vec F S1x1x1024x512 .f32) = iblk m hT c 4 p :=
  (dats m hT 0 c).fetched_congr 4 (t := t) (t' := p) h rfl (fun _ => default)
theorem same_5 (c : Dev nD) (t p : Fin grid0.N) (h : (win0 (adm m hT 0) 5).index t = (win0 (adm m hT 0) 5).index p) :
    (iblk m hT c 5 t : Vec F S1x1x1024x512 .f32) = iblk m hT c 5 p :=
  (dats m hT 0 c).fetched_congr 5 (t := t) (t' := p) h rfl (fun _ => default)
theorem same_6 (c : Dev nD) (t p : Fin grid0.N) (h : (win0 (adm m hT 0) 6).index t = (win0 (adm m hT 0) 6).index p) :
    (iblk m hT c 6 t : Vec F S1x1x512x1024 .f32) = iblk m hT c 6 p :=
  (dats m hT 0 c).fetched_congr 6 (t := t) (t' := p) h rfl (fun _ => default)

end Run

end Cert.Proof.Ffn

end
-- ==== Proof.FfnStep.lean ====
module

public import proofs.«01_k».proof.Proof.FfnSetup

@[expose] public section

set_option maxRecDepth 16384
set_option maxHeartbeats 1000000

noncomputable section

/-! One grid point's step: a point in use leaves its own weights kept. -/

namespace Cert.Proof.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hT : Tab (tab m 0))

/-! ## One point's step -/

section Step

theorem nlt (t : Fin grid0.N) : t.val < 55 := Nat.lt_of_lt_of_eq t.isLt N_0
/-- The point's column. -/
abbrev tc (t : Fin grid0.N) : Fin 55 := ⟨t.val, nlt t⟩

include hT

theorem live_iff (t : Fin grid0.N) :
    (BitVec.ofNat 32 (grid0.coords t (0 : Fin 1)).val).toInt < (used (F := F) (tab m 0)).toInt ↔ t.val < usedN (tab m 0) := by
  have ht : t.val < 55 := nlt t
  have hu := hT.used_le
  have hU : usedN (tab m 0) = (tab m 0 (ix2 3 0)).toNat := rfl
  rw [used_eq (F := F), (offs t).1, toInt_small t.val (by omega), toInt_of_toNat _ (by omega)]
  omega

theorem new0_iff (t : Fin grid0.N) (hl : t.val < usedN (tab m 0)) (hn : ¬ new0 (F := F) (tab m 0) (grid0.coords t)) :
    ∃ p : Fin grid0.N, t.val = p.val + 1 ∧ tab m 0 (ix2 0 (col (tc t))) = tab m 0 (ix2 0 (col (tc p))) := by
  have ht : t.val < 55 := nlt t
  have h1 : ¬ (Scalar.cmpi .eq (BitVec.ofNat 32 (grid0.coords t (0 : Fin 1)).val) 0#32 = 1#1 ∨
      Scalar.cmpi .ne (wd (F := F) (tab m 0) (k0_off2 (grid0.coords t)) (k0_off2_inb _)) (wd (F := F) (tab m 0) (k0_off4 (grid0.coords t)) (k0_off4_inb _)) = 1#1) :=
    fun h => hn ((ne_ext _).mpr ((andi_one _ _).mpr ⟨(slt_one _ _).mpr ((live_iff m hT t).mpr hl), (ori_one _ _).mpr h⟩))
  rw [not_or, eq_one, ne_one, not_not, wd_row (F := F) (tab m 0) _ _ 0 (col (tc t)) (offs t).2.1.1 (offs t).2.1.2,
    wd_row (F := F) (tab m 0) _ _ 0 ⟨t.val - 1, by omega⟩ (offs t).2.2.1.1 (offs t).2.2.1.2] at h1
  have h0 : t.val ≠ 0 := fun e => h1.1 (by rw [(offs t).1, e])
  refine ⟨⟨t.val - 1, by have := t.isLt; omega⟩, ?_, h1.2⟩
  show t.val = t.val - 1 + 1
  omega

theorem new1_iff (t : Fin grid0.N) (hl : t.val < usedN (tab m 0)) (hn : ¬ new1 (F := F) (tab m 0) (grid0.coords t)) :
    ∃ p : Fin grid0.N, t.val = p.val + 1 ∧ tab m 0 (ix2 1 (col (tc t))) = tab m 0 (ix2 1 (col (tc p))) := by
  have ht : t.val < 55 := nlt t
  have h1 : ¬ (Scalar.cmpi .eq (BitVec.ofNat 32 (grid0.coords t (0 : Fin 1)).val) 0#32 = 1#1 ∨
      Scalar.cmpi .ne (wd (F := F) (tab m 0) (k0_off5 (grid0.coords t)) (k0_off5_inb _)) (wd (F := F) (tab m 0) (k0_off6 (grid0.coords t)) (k0_off6_inb _)) = 1#1) :=
    fun h => hn ((ne_ext _).mpr ((andi_one _ _).mpr ⟨(slt_one _ _).mpr ((live_iff m hT t).mpr hl), (ori_one _ _).mpr h⟩))
  rw [not_or, eq_one, ne_one, not_not, wd_row (F := F) (tab m 0) _ _ 1 (col (tc t)) (offs t).2.2.2.1.1 (offs t).2.2.2.1.2,
    wd_row (F := F) (tab m 0) _ _ 1 ⟨t.val - 1, by omega⟩ (offs t).2.2.2.2.1.1 (offs t).2.2.2.2.1.2] at h1
  have h0 : t.val ≠ 0 := fun e => h1.1 (by rw [(offs t).1, e])
  refine ⟨⟨t.val - 1, by have := t.isLt; omega⟩, ?_, h1.2⟩
  show t.val = t.val - 1 + 1
  omega

/-- A point in use reads its own column of the second table. -/
theorem col_cur (t : Fin grid0.N) (hl : t.val < usedN (tab m 0)) :
    col (cur (tab m 0) (pt (grid0.coords t)) hT.used_le) = (col (tc t)) := by
  have ht : t.val < 55 := nlt t
  have e : (pt (grid0.coords t)).val = t.val := (offs t).1
  refine Fin.ext ?_
  show (cur (tab m 0) (pt (grid0.coords t)) hT.used_le).val = t.val
  unfold cur
  rw [dif_pos (show (pt (grid0.coords t)).val < usedN (tab m 0) from e ▸ hl)]
  exact e

section Ix
variable (t p : Fin grid0.N) (hl : t.val < usedN (tab m 0)) (hp : p.val < usedN (tab m 0))
include hl hp

theorem ix_lo (h : tab m 0 (ix2 0 (col (tc t))) = tab m 0 (ix2 0 (col (tc p)))) :
    (tab m 0 (ix2 0 (col (cur (tab m 0) (pt (grid0.coords t)) hT.used_le)))) = (tab m 0 (ix2 0 (col (cur (tab m 0) (pt (grid0.coords p)) hT.used_le)))) := by
  rw [col_cur m hT t hl, col_cur m hT p hp, h]
theorem ix_hi (h : tab m 0 (ix2 1 (col (tc t))) = tab m 0 (ix2 1 (col (tc p)))) :
    (tab m 0 (ix2 1 (col (cur (tab m 0) (pt (grid0.coords t)) hT.used_le)))) = (tab m 0 (ix2 1 (col (cur (tab m 0) (pt (grid0.coords p)) hT.used_le)))) := by
  rw [col_cur m hT t hl, col_cur m hT p hp, h]
end Ix

section Same
variable (t p : Fin grid0.N)
theorem g0_same (c : Dev nD) (hw : tab m 0 (ix2 0 (col (cur (tab m 0) (pt (grid0.coords t)) hT.used_le))) = tab m 0 (ix2 0 (col (cur (tab m 0) (pt (grid0.coords p)) hT.used_le)))) :
    (ins m hT c p).g0 = (ins m hT c t).g0 := by
  have h : cc0_transform_1 k0_off2_inb numel1_S1x1 (tabs m) (grid0.coords p) = cc0_transform_1 k0_off2_inb numel1_S1x1 (tabs m) (grid0.coords t) := by
    rw [tr1 m hT, tr1 m hT, hw]
  exact same_1 m hT c p t h
theorem u0_same (c : Dev nD) (hw : tab m 0 (ix2 0 (col (cur (tab m 0) (pt (grid0.coords t)) hT.used_le))) = tab m 0 (ix2 0 (col (cur (tab m 0) (pt (grid0.coords p)) hT.used_le)))) :
    (ins m hT c p).u0 = (ins m hT c t).u0 := by
  have h : cc0_transform_2 k0_off2_inb numel1_S1x1 (tabs m) (grid0.coords p) = cc0_transform_2 k0_off2_inb numel1_S1x1 (tabs m) (grid0.coords t) := by
    rw [tr2 m hT, tr2 m hT, hw]
  exact same_2 m hT c p t h
theorem d0_same (c : Dev nD) (hw : tab m 0 (ix2 0 (col (cur (tab m 0) (pt (grid0.coords t)) hT.used_le))) = tab m 0 (ix2 0 (col (cur (tab m 0) (pt (grid0.coords p)) hT.used_le)))) :
    (ins m hT c p).d0 = (ins m hT c t).d0 := by
  have h : cc0_transform_3 k0_off2_inb numel1_S1x1 (tabs m) (grid0.coords p) = cc0_transform_3 k0_off2_inb numel1_S1x1 (tabs m) (grid0.coords t) := by
    rw [tr3 m hT, tr3 m hT, hw]
  exact same_3 m hT c p t h
theorem g1_same (c : Dev nD) (hw : tab m 0 (ix2 1 (col (cur (tab m 0) (pt (grid0.coords t)) hT.used_le))) = tab m 0 (ix2 1 (col (cur (tab m 0) (pt (grid0.coords p)) hT.used_le)))) :
    (ins m hT c p).g1 = (ins m hT c t).g1 := by
  have h : cc0_transform_4 k0_off3_inb numel1_S1x1 (tabs m) (grid0.coords p) = cc0_transform_4 k0_off3_inb numel1_S1x1 (tabs m) (grid0.coords t) := by
    rw [tr4 m hT, tr4 m hT, hw]
  exact same_4 m hT c p t h
theorem u1_same (c : Dev nD) (hw : tab m 0 (ix2 1 (col (cur (tab m 0) (pt (grid0.coords t)) hT.used_le))) = tab m 0 (ix2 1 (col (cur (tab m 0) (pt (grid0.coords p)) hT.used_le)))) :
    (ins m hT c p).u1 = (ins m hT c t).u1 := by
  have h : cc0_transform_5 k0_off3_inb numel1_S1x1 (tabs m) (grid0.coords p) = cc0_transform_5 k0_off3_inb numel1_S1x1 (tabs m) (grid0.coords t) := by
    rw [tr5 m hT, tr5 m hT, hw]
  exact same_5 m hT c p t h
theorem d1_same (c : Dev nD) (hw : tab m 0 (ix2 1 (col (cur (tab m 0) (pt (grid0.coords t)) hT.used_le))) = tab m 0 (ix2 1 (col (cur (tab m 0) (pt (grid0.coords p)) hT.used_le)))) :
    (ins m hT c p).d1 = (ins m hT c t).d1 := by
  have h : cc0_transform_6 k0_off3_inb numel1_S1x1 (tabs m) (grid0.coords p) = cc0_transform_6 k0_off3_inb numel1_S1x1 (tabs m) (grid0.coords t) := by
    rw [tr6 m hT, tr6 m hT, hw]
  exact same_6 m hT c p t h
end Same

/-- A point in use leaves its own weights kept. -/
theorem next_eq (c : Dev nD) (t : Fin grid0.N) (hl : t.val < usedN (tab m 0)) (S : Slots F) (hS : carried m hT c t.val S) :
    next (tab m 0) (grid0.coords t) (ins m hT c t) S = slotsIn (ins m hT c t) := by
  have lo : ¬ new0 (F := F) (tab m 0) (grid0.coords t) → S.g0 = k0_pay13 (ins m hT c t).g0 ∧ S.u0 = k0_pay14 (ins m hT c t).u0 ∧ S.d0 = k0_pay15 (ins m hT c t).d0 := by
    intro hn
    obtain ⟨p, hp, he⟩ := new0_iff m hT t hl hn
    have hpl : p.val < usedN (tab m 0) := by omega
    have hw := ix_lo m hT t p hl hpl he
    rw [hS p hp hpl, ← g0_same m hT t p c hw, ← u0_same m hT t p c hw, ← d0_same m hT t p c hw]
    unfold slotsIn
    exact ⟨rfl, rfl, rfl⟩
  have hi : ¬ new1 (F := F) (tab m 0) (grid0.coords t) → S.g1 = k0_pay16 (ins m hT c t).g1 ∧ S.u1 = k0_pay17 (ins m hT c t).u1 ∧ S.d1 = k0_pay18 (ins m hT c t).d1 := by
    intro hn
    obtain ⟨p, hp, he⟩ := new1_iff m hT t hl hn
    have hpl : p.val < usedN (tab m 0) := by omega
    have hw := ix_hi m hT t p hl hpl he
    rw [hS p hp hpl, ← g1_same m hT t p c hw, ← u1_same m hT t p c hw, ← d1_same m hT t p c hw]
    unfold slotsIn
    exact ⟨rfl, rfl, rfl⟩
  have keep : ∀ {α : Type} (P : Prop) [Decidable P] (a b : α), (¬ P → b = a) → (if P then a else b) = a := fun P _ a b h => by
    by_cases hP : P
    · exact if_pos hP
    · rw [if_neg hP, h hP]
  unfold next slotsIn
  refine Slots.ext ?_ ?_ ?_ ?_ ?_ ?_
  · exact keep _ _ _ fun h => (lo h).1
  · exact keep _ _ _ fun h => (lo h).2.1
  · exact keep _ _ _ fun h => (lo h).2.2
  · exact keep _ _ _ fun h => (hi h).1
  · exact keep _ _ _ fun h => (hi h).2.1
  · exact keep _ _ _ fun h => (hi h).2.2

/-- The block a point not in use leaves does not depend on the kept weights. -/
theorem outB_dead (t : Fin grid0.N) (hl : ¬ t.val < usedN (tab m 0)) (x : Vec F S512x1152 .f32) (S : Slots F) :
    outB (tab m 0) (grid0.coords t) x S = k0_pay19 := by
  unfold outB
  rw [if_neg fun h => hl ((live_iff m hT t).mp ((cond5_iff _ _ _).mp h).1), if_neg fun h => hl ((live_iff m hT t).mp ((cond4_iff _ _ _).mp h).1)]

theorem out_step (c : Dev nD) (t : Fin grid0.N) (S : Slots F) (hS : carried m hT c t.val S) :
    outB (tab m 0) (grid0.coords t) (ins m hT c t).x (next (tab m 0) (grid0.coords t) (ins m hT c t) S) = outAt m hT c t := by
  unfold outAt
  by_cases hl : t.val < usedN (tab m 0)
  · rw [next_eq m hT c t hl S hS]
  · rw [outB_dead m hT t hl, outB_dead m hT t hl]

theorem carried_step (c : Dev nD) (t : Fin grid0.N) (S : Slots F) (hS : carried m hT c t.val S) :
    carried m hT c (t.val + 1) (next (tab m 0) (grid0.coords t) (ins m hT c t) S) := by
  intro p hp hl
  obtain rfl : t = p := Fin.ext (by omega)
  exact next_eq m hT c t hl S hS

end Step

end Cert.Proof.Ffn

end
-- ==== Proof.FfnRun.lean ====
module

public import proofs.«01_k».proof.Proof.FfnStep

@[expose] public section

set_option maxRecDepth 16384
set_option maxHeartbeats 1000000

noncomputable section

/-! The run of the expert kernel: the body at a point, and every execution's end. -/

namespace Cert.Proof.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hT : Tab (tab m 0))

/-! ## The body -/

/-- Window `w`'s staging buffer at point `t`. -/
abbrev st (w : Fin 8) (t : Fin grid0.N) := ((cf m hT).win w).stage ((cf m hT).slots t w)

/-- The body at point `t`, on what the pipeline calls it with. -/
abbrev bodyAt (t : Fin grid0.N) : Prog (TpuEff nD τ sig (Elt F) Λ₀ .tc) PUnit :=
  cc0_expert_ffn (grid0.coords t) (Memref.whole main_arg0) (Memref.isWhole_whole _) (Memref.whole main_v13) (Memref.isWhole_whole _)
    (st m hT 0 t) (hstage0_0 (((cf m hT).slots t 0).cast nbuf0_0)) (st m hT 1 t) (hstage0_1 (((cf m hT).slots t 1).cast nbuf0_1))
    (st m hT 2 t) (hstage0_2 (((cf m hT).slots t 2).cast nbuf0_2)) (st m hT 3 t) (hstage0_3 (((cf m hT).slots t 3).cast nbuf0_3))
    (st m hT 4 t) (hstage0_4 (((cf m hT).slots t 4).cast nbuf0_4)) (st m hT 5 t) (hstage0_5 (((cf m hT).slots t 5).cast nbuf0_5))
    (st m hT 6 t) (hstage0_6 (((cf m hT).slots t 6).cast nbuf0_6)) (st m hT 7 t) (hstage0_7 (((cf m hT).slots t 7).cast nbuf0_7))
    (Memref.whole cc0_scratch0) (Memref.isWhole_whole _) (Memref.whole cc0_scratch1) (Memref.isWhole_whole _) (Memref.whole cc0_scratch2) (Memref.isWhole_whole _)

theorem defs₀_row (t : Fin grid0.N) :
    defs₀ (F := F) .tc (cf m hT).body ((cf m hT).bodyArgs t ((cf m hT).slots t)) = bodyAt m hT t := by
  unfold defs₀; rw [Defs.onTc_tc]

/-- What the body is called with at point `t`, -/
def bodyPre (c : Dev nD) (t : Fin grid0.N) : sProp 𝕄 :=
  iprop((dats m hT 0 c).Φ t.castSucc ∗ (dats m hT 0 c).owesAt () t.castSucc
    ∗ (∃ d, owns (c : Thread nD τ) (st m hT 0 t) fullShare ((dats m hT 0 c).before 0 t d))
    ∗ (∃ d, owns (c : Thread nD τ) (st m hT 1 t) fullShare ((dats m hT 0 c).before 1 t d))
    ∗ (∃ d, owns (c : Thread nD τ) (st m hT 2 t) fullShare ((dats m hT 0 c).before 2 t d))
    ∗ (∃ d, owns (c : Thread nD τ) (st m hT 3 t) fullShare ((dats m hT 0 c).before 3 t d))
    ∗ (∃ d, owns (c : Thread nD τ) (st m hT 4 t) fullShare ((dats m hT 0 c).before 4 t d))
    ∗ (∃ d, owns (c : Thread nD τ) (st m hT 5 t) fullShare ((dats m hT 0 c).before 5 t d))
    ∗ (∃ d, owns (c : Thread nD τ) (st m hT 6 t) fullShare ((dats m hT 0 c).before 6 t d))
    ∗ (∃ d, owns (c : Thread nD τ) (st m hT 7 t) fullShare ((dats m hT 0 c).before 7 t d)))

/-- and what it returns. -/
def bodyPost (c : Dev nD) (t : Fin grid0.N) : sProp 𝕄 :=
  iprop((dats m hT 0 c).Φ t.succ ∗ (dats m hT 0 c).owesAt () t.succ
    ∗ owns (c : Thread nD τ) (st m hT 0 t) fullShare ((dats m hT 0 c).after 0 t)
    ∗ owns (c : Thread nD τ) (st m hT 1 t) fullShare ((dats m hT 0 c).after 1 t)
    ∗ owns (c : Thread nD τ) (st m hT 2 t) fullShare ((dats m hT 0 c).after 2 t)
    ∗ owns (c : Thread nD τ) (st m hT 3 t) fullShare ((dats m hT 0 c).after 3 t)
    ∗ owns (c : Thread nD τ) (st m hT 4 t) fullShare ((dats m hT 0 c).after 4 t)
    ∗ owns (c : Thread nD τ) (st m hT 5 t) fullShare ((dats m hT 0 c).after 5 t)
    ∗ owns (c : Thread nD τ) (st m hT 6 t) fullShare ((dats m hT 0 c).after 6 t)
    ∗ owns (c : Thread nD τ) (st m hT 7 t) fullShare ((dats m hT 0 c).after 7 t))

theorem sound_body (c : Dev nD) (t : Fin grid0.N) :
    bodyPre m hT c t ⊢ wp frame (wpE (defs₀ (F := F)) Variants.none c none) Set.univ (bodyAt m hT t) (fun _ => bodyPost m hT c t) := by
  unfold bodyPre bodyPost bodyAt
  simp only [before0_0, before0_1, before0_2, before0_3, before0_4, before0_5, before0_6]
  rw [show (dats m hT 0 c).Φ t.succ = Phi m hT c (t.val + 1) from rfl, show (dats m hT 0 c).Φ t.castSucc = Phi m hT c t.val from rfl,
    show (dats m hT 0 c).owesAt () t.succ = (dats m hT 0 c).owesAt () t.castSucc from rfl,
    after0_0, after0_1, after0_2, after0_3, after0_4, after0_5, after0_6, after0_7]
  unfold Phi
  iintro ⟨⟨⟨%A, %B, %D, %hc, HA, HB, HD⟩, HT, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ _ _ _ _ _ _ _ _ _ _ fullShare.right (tab m 0) (ins m hT c t) A B D _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HA]; · iexact HA
  isplitl [HB]; · iexact HB
  isplitl [HD]; · iexact HD
  rw [out_step m hT c t _ hc]
  iintro ⟨HT, H0, H1, H2, H3, H4, H5, H6, H7, ⟨%A', %B', %D', %he, HA, HB, HD⟩⟩
  isplitl [HA HB HD HT Hr]
  · isplitl [HA HB HD]
    · iexists A', B', D'
      isplitr; swap
      · isplitl [HA]; · iexact HA
        isplitl [HB]; · iexact HB
        iexact HD
      ipureintro
      rw [he]
      exact carried_step m hT c t _ hc
    isplitl [HT]; · iexact HT
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The run -/

/-- The body stores its block at every point. -/
theorem never_idle (t : Fin grid0.N) : (cf m hT).idle 7 (grid0.coords t) = false := by
  show (!(k0_cond3 (grid0.coords t) _ == 1#1) && !(k0_cond4 (grid0.coords t) _ _ == 1#1) && !(k0_cond5 (grid0.coords t) _ _ == 1#1)) = false
  have e : ∀ a b c : BitVec 1, (¬ c = 1#1 → ¬ b = 1#1 → a = 1#1) → (!(a == 1#1) && !(b == 1#1) && !(c == 1#1)) = false := by decide
  exact e _ _ _ fun h5 h4 => cond_total _ _ _ h5 h4

theorem body_obligation (c : Dev nD) : BodyObligation (dats (F := F) m hT 0 c) (defs₀ (F := F)) Variants.none () Set.univ := fun t => by
  rw [bigSep_W0, bigSep_W0, defs₀_row, never_idle]
  exact triple_restated (sound_body m hT c t) rfl .rfl fun _ => .rfl

theorem bigSep_tabs {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

theorem hin (c : Dev nD) : iprop(Pipeline.ΦA spec0 c ∗ Pipeline.ΦT pre0 (tabs m) c) ⊢ ((dats m hT 0 c).Φ 0 : sProp 𝕄) := by
  obtain rfl : c = 0 := Subsingleton.elim _ _
  rw [show (dats m hT 0 (0 : Dev nD)).Φ 0 = Phi m hT 0 0 from rfl]
  unfold Pipeline.ΦA Pipeline.ΦT Pipeline.prefHeld Phi
  rw [scopedRest0_eq, bigSep_tabs]
  iintro ⟨⟨⟨⟨%f0, H0⟩, ⟨%f1, H1⟩, ⟨%f2, H2⟩⟩, Hr⟩, HT, -⟩
  isplitl [H0 H1 H2]
  · iexists f0, f1, f2
    isplitr
    · ipureintro; exact fun p h => absurd h (by omega)
    rw [owns_whole, owns_whole, owns_whole]
    isplitl [H0]; · iexact H0
    isplitl [H1]; · iexact H1
    iexact H2
  isplitl [HT]
  · rw [owns_whole, show tab m 0 = V m 0 main_arg0 from (V_main_arg0 m 0).symm]; iexact HT
  iexact Hr

theorem hout (c : Dev nD) : (dats m hT 0 c).Φ (Fin.last grid0.N) ⊢ (Pipeline.ΦA spec0 c : sProp 𝕄) := by
  rw [show (dats m hT 0 c).Φ (Fin.last grid0.N) = Phi m hT c grid0.N from rfl]
  unfold Pipeline.ΦA Phi
  rw [scopedRest0_eq]
  simp only [owns_whole]
  iintro ⟨⟨%A, %B, %D, -, H0, H1, H2⟩, -, Hr⟩
  isplitl [H0 H1 H2]
  · isplitl [H0]; · iexists _; iexact H0
    isplitl [H1]; · iexists _; iexact H1
    iexists _; iexact H2
  iexact Hr

set_option backward.isDefEq.respectTransparency.types false in
/-- The run: every weakly fair execution terminates, with the arrays at what the proof data computes and the counters at zero. -/
theorem run_main_quiescent : θ_run defs (onTc (τ := τ) (main (F := F))) ⟨m, fun _ => 0, ρ⟩
    (fun r => (Pipeline.FramePost (Pipeline.pin pcfgs (adm m hT)) (dats m hT) 0 (V m)) r ∧ r.2.sem = fun _ => 0) :=
  Pipeline.θ_run_frameP_track_shared (Q' := _) pcfgs (adm m hT) (dats m hT) (0 : Fin 1) launch₀0 defs₀ Variants.none m ρ main
    (hbody := fun c => (body_obligation m hT c).loose) (hq := fun _ _ _ => rfl)
    (howed := fun _ _ => rfl) (V := V m) (hmain := hmain m Variants.none) (hA := A_eq m hT)
    (hpf := fun c k => by obtain rfl : c = 0 := Subsingleton.elim _ _; rfl) (hin := hin m hT) (hout := hout m hT)

theorem arg0_unstaged : ∀ w : Fin 8, (spec0 w).arr.view.ref ≠ main_arg0 := by decide

include hT in
/-- The arguments end unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨
      ((h.1 c).2 main_arg0 (Pipeline.mem_restRefs_of main_arg0 (by decide) arg0_unstaged)).trans (V_main_arg0 m c),
      ((h.1 c).1 0).trans (((dats m hT 0 c).arrAt_in 0 rfl _).trans ((A_eq m hT c 0).trans (V_main_arg1 m c))),
      ((h.1 c).1 1).trans (((dats m hT 0 c).arrAt_in 1 rfl _).trans ((A_eq m hT c 1).trans (V_main_arg2 m c))),
      ((h.1 c).1 2).trans (((dats m hT 0 c).arrAt_in 2 rfl _).trans ((A_eq m hT c 2).trans (V_main_arg3 m c))),
      ((h.1 c).1 3).trans (((dats m hT 0 c).arrAt_in 3 rfl _).trans ((A_eq m hT c 3).trans (V_main_arg4 m c)))⟩, h.2⟩)
    (run_main_quiescent m ρ hT)

include hT in
/-- The result array ends at the blocks the points leave. -/
theorem run_value : θ_run defs (onTc (τ := τ) (main (F := F))) ⟨m, fun _ => 0, ρ⟩ (fun r =>
      ∀ c : Dev nD, r.2.mem ((c.tc : Thread nD τ).loc main_v14) = (dats m hT 0 c).arrAt 7 grid0.N) :=
  (θ_run defs _ _).mono (fun _ h c => (h.1 c).1 7) (run_main_quiescent m ρ hT)

end Cert.Proof.Ffn

end
-- ==== Proof.FfnSpec.lean ====
module

public import proofs.«01_k».proof.Proof.RgSpec

@[expose] public section

noncomputable section

/-! The experts' layer over the extended reals: one token's gated feed-forward block, and what the layer makes of one token. -/

namespace Cert.Proof.Ffn.Spec

open Idealize.ShloMosaic

/-- One hidden feature of an expert: the gate projection through silu, times the up projection. -/
def hid (x : Fin 1024 → EReal) (g u : Fin 1024 → Fin 512 → EReal) (f : Fin 512) : EReal :=
  (∑ k, x k * g k f) * Ideal.logistic (∑ k, x k * g k f) * ∑ k, x k * u k f

/-- One output feature of an expert. -/
def ffn (x : Fin 1024 → EReal) (g u : Fin 1024 → Fin 512 → EReal) (d : Fin 512 → Fin 1024 → EReal) (j : Fin 1024) : EReal :=
  ∑ f, hid x g u f * d f j

/-- The logistic function as the quotient. -/
theorem div_logistic (z : EReal) : Ideal.div 1 (1 + Ideal.exp (0 - z)) = Ideal.logistic z := by
  rw [zero_sub]; rfl

/-! ## The layer -/

/-- What the layer is given: the table of tiles, the sorted rows with their two weights after the 1024 features, and the experts' weights. -/
@[ext] structure Args where
  T : Fin 8 → Fin 128 → BitVec 32
  x : Fin 28160 → Fin 1152 → EReal
  g : Fin 16 → Fin 1024 → Fin 512 → EReal
  u : Fin 16 → Fin 1024 → Fin 512 → EReal
  d : Fin 16 → Fin 512 → Fin 1024 → EReal

namespace Args

variable (A : Args)

/-- Row `r` through the expert `e`. -/
def ex (e : Fin 16) (r : Fin 28160) (j : Fin 1024) : EReal := ffn (fun k => A.x r ⟨k.val, by omega⟩) (A.g e) (A.u e) (A.d e) j

/-- How many columns in use are the tile `t`'s and name the expert `e` in the table's row `q`. -/
def pk (q : Fin 8) (t : Fin 55) (e : Fin 16) : EReal :=
  ∑ i : Fin 55, if A.T q ⟨i.val, by omega⟩ = BitVec.ofNat 32 e.val ∧ A.T 4 ⟨i.val, by omega⟩ = BitVec.ofNat 32 t.val
    ∧ (BitVec.ofNat 32 i.val).toInt < (A.T 3 0).toInt then (1 : EReal) else 0

/-- The weight of the expert `e` at row `r`. -/
def cb (r : Fin 28160) (e : Fin 16) : EReal :=
  A.x r 1024 * A.pk 0 ⟨r.val / 512, by omega⟩ e + A.x r 1025 * A.pk 1 ⟨r.val / 512, by omega⟩ e

/-- The layer's result. -/
def out (r : Fin 28160) (j : Fin 1024) : EReal := ∑ e, A.cb r e * A.ex e r j

variable {A} {t i : Fin 55} (hi : A.T 4 ⟨i.val, by omega⟩ = BitVec.ofNat 32 t.val)
  (hu : ∀ k : Fin 55, A.T 4 ⟨k.val, by omega⟩ = BitVec.ofNat 32 t.val → k = i)

include hi hu

/-- A tile whose one column is in use has the expert the column names. -/
theorem pk_live (q : Fin 8) (hl : (BitVec.ofNat 32 i.val).toInt < (A.T 3 0).toInt) (l e : Fin 16) (hq : A.T q ⟨i.val, by omega⟩ = BitVec.ofNat 32 l.val) :
    A.pk q t e = if e = l then 1 else 0 := by
  unfold pk
  rw [Finset.sum_eq_single i]
  · rw [hq]
    refine if_congr ⟨fun h => ?_, fun h => ⟨by rw [h], hi, hl⟩⟩ rfl rfl
    have h1 := congrArg BitVec.toNat h.1
    rw [BitVec.toNat_ofNat, BitVec.toNat_ofNat, Nat.mod_eq_of_lt (by omega), Nat.mod_eq_of_lt (by omega)] at h1
    exact (Fin.ext h1).symm
  · intro k _ hk
    exact if_neg fun h => hk (hu k h.2.1)
  · intro h
    exact absurd (Finset.mem_univ i) h

/-- A tile whose one column is not in use has no expert. -/
theorem pk_dead (q : Fin 8) (hl : ¬ (BitVec.ofNat 32 i.val).toInt < (A.T 3 0).toInt) (e : Fin 16) : A.pk q t e = 0 := by
  unfold pk
  refine Finset.sum_eq_zero fun k _ => if_neg fun h => ?_
  obtain rfl := hu k h.2.1
  exact hl h.2.2

theorem out_live (r : Fin 28160) (hr : r.val / 512 = t.val) (hl : (BitVec.ofNat 32 i.val).toInt < (A.T 3 0).toInt) (l h : Fin 16)
    (h0 : A.T 0 ⟨i.val, by omega⟩ = BitVec.ofNat 32 l.val) (h1 : A.T 1 ⟨i.val, by omega⟩ = BitVec.ofNat 32 h.val) (hn : l ≠ h) (j : Fin 1024) :
    A.out r j = A.x r 1024 * A.ex l r j + A.x r 1025 * A.ex h r j := by
  have et : (⟨r.val / 512, by omega⟩ : Fin 55) = t := Fin.ext hr
  have e : ∀ e : Fin 16, A.cb r e * A.ex e r j = (if e = l then A.x r 1024 * A.ex l r j else 0) + (if e = h then A.x r 1025 * A.ex h r j else 0) := fun e => by
    unfold cb
    rw [et, pk_live hi hu 0 hl l e h0, pk_live hi hu 1 hl h e h1]
    by_cases a : e = l
    · subst a
      rw [if_pos rfl, if_pos rfl, if_neg hn, if_neg hn, mul_one, mul_zero, add_zero, add_zero]
    · by_cases b : e = h
      · subst b
        rw [if_neg a, if_neg a, if_pos rfl, if_pos rfl, mul_one, mul_zero, zero_add, zero_add]
      · rw [if_neg a, if_neg a, if_neg b, if_neg b, mul_zero, mul_zero, zero_add, zero_mul]
  unfold out
  rw [Finset.sum_congr rfl fun x _ => e x, Finset.sum_add_distrib, Finset.sum_ite_eq' Finset.univ l, Finset.sum_ite_eq' Finset.univ h,
    if_pos (Finset.mem_univ _), if_pos (Finset.mem_univ _)]

theorem out_dead (r : Fin 28160) (hr : r.val / 512 = t.val) (hl : ¬ (BitVec.ofNat 32 i.val).toInt < (A.T 3 0).toInt) (j : Fin 1024) : A.out r j = 0 := by
  have et : (⟨r.val / 512, by omega⟩ : Fin 55) = t := Fin.ext hr
  unfold out cb
  refine Finset.sum_eq_zero fun e _ => ?_
  rw [et, pk_dead hi hu 0 hl e, pk_dead hi hu 1 hl e, mul_zero, mul_zero, zero_add, zero_mul]

end Args

end Cert.Proof.Ffn.Spec

end
-- ==== Proof.FfnPay.lean ====
module

public import proofs.«01_k».proof.Proof.FfnSpec
public import proofs.«01_k».proof.Proof.FfnBody
public import Idealize.ShloMosaic.Lib.Pointwise

@[expose] public section

/-! What one grid point stores, over the extended reals, at one row and one output feature. -/

set_option maxRecDepth 16384
set_option maxHeartbeats 1000000

noncomputable section

namespace Cert.Proof.Ffn

open Cert.ExpertsIdeal Cert.ExpertsIdeal.Gen
open Idealize.ShloMosaic Idealize.ShloMosaic.TcCoe

/-- Row `r` of a tile through the point's lower expert. -/
def lo (x : Fin 1024 → EReal) (S : Slots Ideal) (j : Fin 1024) : EReal :=
  Spec.ffn x (fun k f => S.g0 (ix3 0 k f)) (fun k f => S.u0 (ix3 0 k f)) (fun f j => S.d0 (ix3 0 f j)) j

/-- Row `r` of a tile through the point's upper expert. -/
def hi (x : Fin 1024 → EReal) (S : Slots Ideal) (j : Fin 1024) : EReal :=
  Spec.ffn x (fun k f => S.g1 (ix3 0 k f)) (fun k f => S.u1 (ix3 0 k f)) (fun f j => S.d1 (ix3 0 f j)) j

theorem pay4_at (x : Vec Ideal S512x1152 .f32) (S : Slots Ideal) (r : Fin 512) (j : Fin 1024) :
    (k0_pay4 x S.g0 S.u0 S.d0 : S512x1024.Idx → EReal) (ix2 r j)
      = x (ix2 r 1024) * lo (fun k => x (ix2 r ⟨k.val, by omega⟩)) S j := by
  unfold lo Spec.ffn Spec.hid
  pointwise [k0_pay4, k0_pay3]
  simp only [Spec.div_logistic]

theorem full_at (x : Vec Ideal S512x1152 .f32) (S : Slots Ideal) (r : Fin 512) (j : Fin 1024) :
    (full x S : S512x1024.Idx → EReal) (ix2 r j)
      = x (ix2 r 1024) * lo (fun k => x (ix2 r ⟨k.val, by omega⟩)) S j + x (ix2 r 1025) * hi (fun k => x (ix2 r ⟨k.val, by omega⟩)) S j := by
  rw [← pay4_at]
  unfold hi Spec.ffn Spec.hid
  pointwise [full, k0_pay20, k0_pay5, k0_pay6, k0_pay7, k0_pay3]
  simp only [Spec.div_logistic]

theorem pay9_at (x : Vec Ideal S256x1152 .f32) (S : Slots Ideal) (r : Fin 256) (j : Fin 1024) :
    (k0_pay9 x S.g0 S.u0 S.d0 : S256x1024.Idx → EReal) (ix2 r j)
      = x (ix2 r 1024) * lo (fun k => x (ix2 r ⟨k.val, by omega⟩)) S j := by
  unfold lo Spec.ffn Spec.hid
  pointwise [k0_pay9, k0_pay8]
  simp only [Spec.div_logistic]

theorem head_at (x : Vec Ideal S256x1152 .f32) (S : Slots Ideal) (r : Fin 256) (j : Fin 1024) :
    (head x S : S256x1024.Idx → EReal) (ix2 r j)
      = x (ix2 r 1024) * lo (fun k => x (ix2 r ⟨k.val, by omega⟩)) S j + x (ix2 r 1025) * hi (fun k => x (ix2 r ⟨k.val, by omega⟩)) S j := by
  rw [← pay9_at]
  unfold hi Spec.ffn Spec.hid
  pointwise [head, k0_pay1, k0_pay10, k0_pay11, k0_pay12, k0_pay8]
  simp only [Spec.div_logistic]

theorem zero_at (y : S512x1024.Idx) : (k0_pay19 (F := Ideal) : S512x1024.Idx → EReal) y = 0 := by
  show Ideal.ofBits .f32 0x00000000#32 = 0
  simp [Ideal.ofBits, Ideal.ieee]

theorem half_lo (x : Vec Ideal S512x1152 .f32) (S : Slots Ideal) (r : Fin 512) (j : Fin 1024) (hr : r.val < 256) :
    (half x S : S512x1024.Idx → EReal) (ix2 r j)
      = x (ix2 r 1024) * lo (fun k => x (ix2 r ⟨k.val, by omega⟩)) S j + x (ix2 r 1025) * hi (fun k => x (ix2 r ⟨k.val, by omega⟩)) S j := by
  have hm : ∀ a : Fin 2, (![0, 0] : Fin 2 → ℕ) a ≤ ((ix2 r j : S512x1024.Idx) a).val ∧ ((ix2 r j : S512x1024.Idx) a).val < (![0, 0] : Fin 2 → ℕ) a + S256x1024.size a :=
    fun a => match a with
      | (⟨0, _⟩ : Fin 2) => ⟨Nat.zero_le _, show r.val < 0 + 256 by omega⟩
      | (⟨1, _⟩ : Fin 2) => ⟨Nat.zero_le _, show j.val < 0 + 1024 by omega⟩
  have w : ∀ k : Fin 1152, VecWindow.window x ![0, 0] S256x1152.size inb_S512x1152_S256x1152_0_0 (ix2 ⟨r.val, hr⟩ k : S256x1152.Idx) = x (ix2 r k) := fun k => by
    refine congrArg x (funext fun a => Fin.ext ?_)
    match a with
    | (⟨0, _⟩ : Fin 2) => show 0 + 1 * r.val = r.val; omega
    | (⟨1, _⟩ : Fin 2) => show 0 + 1 * k.val = k.val; omega
  have e : (half x S : S512x1024.Idx → EReal) (ix2 r j)
      = (head (VecWindow.window x ![0, 0] S256x1152.size inb_S512x1152_S256x1152_0_0) S : S256x1024.Idx → EReal) (ix2 ⟨r.val, hr⟩ j) := by
    unfold half VecWindow.put
    rw [dif_pos hm]
    refine congrArg (head (VecWindow.window x ![0, 0] S256x1152.size inb_S512x1152_S256x1152_0_0) S : S256x1024.Idx → EReal) (funext fun a => ?_)
    match a with
    | (⟨0, _⟩ : Fin 2) => rfl
    | (⟨1, _⟩ : Fin 2) => rfl
  rw [e, head_at]
  simp only [w]

theorem half_hi (x : Vec Ideal S512x1152 .f32) (S : Slots Ideal) (r : Fin 512) (j : Fin 1024) (hr : ¬ r.val < 256) :
    (half x S : S512x1024.Idx → EReal) (ix2 r j) = 0 := by
  unfold half VecWindow.put
  rw [dif_neg fun h => hr (by have := (h (0 : Fin 2)).2; exact (show r.val < 0 + 256 from this))]
  exact zero_at _

/-! The kept weights are the read ones. -/

theorem in_g0 (I : Ins Ideal) (k : Fin 1024) (f : Fin 512) : ((slotsIn I).g0 : S1x1024x512.Idx → EReal) (ix3 0 k f) = I.g0 (ix4 0 0 k f) := by
  unfold slotsIn; pointwise [k0_pay13]
theorem in_u0 (I : Ins Ideal) (k : Fin 1024) (f : Fin 512) : ((slotsIn I).u0 : S1x1024x512.Idx → EReal) (ix3 0 k f) = I.u0 (ix4 0 0 k f) := by
  unfold slotsIn; pointwise [k0_pay14]
theorem in_d0 (I : Ins Ideal) (f : Fin 512) (j : Fin 1024) : ((slotsIn I).d0 : S1x512x1024.Idx → EReal) (ix3 0 f j) = I.d0 (ix4 0 0 f j) := by
  unfold slotsIn; pointwise [k0_pay15]
theorem in_g1 (I : Ins Ideal) (k : Fin 1024) (f : Fin 512) : ((slotsIn I).g1 : S1x1024x512.Idx → EReal) (ix3 0 k f) = I.g1 (ix4 0 0 k f) := by
  unfold slotsIn; pointwise [k0_pay16]
theorem in_u1 (I : Ins Ideal) (k : Fin 1024) (f : Fin 512) : ((slotsIn I).u1 : S1x1024x512.Idx → EReal) (ix3 0 k f) = I.u1 (ix4 0 0 k f) := by
  unfold slotsIn; pointwise [k0_pay17]
theorem in_d1 (I : Ins Ideal) (f : Fin 512) (j : Fin 1024) : ((slotsIn I).d1 : S1x512x1024.Idx → EReal) (ix3 0 f j) = I.d1 (ix4 0 0 f j) := by
  unfold slotsIn; pointwise [k0_pay18]

end Cert.Proof.Ffn

end
-- ==== Proof.FfnVal.lean ====
module

public import proofs.«01_k».proof.Proof.FfnRun
public import proofs.«01_k».proof.Proof.FfnPay
public import Idealize.ShloMosaic.Lib.Pipeline.Value

@[expose] public section

set_option maxRecDepth 16384
set_option maxHeartbeats 1000000

noncomputable section

/-! What the points read of the arguments, the rows they leave, and the result array put together of them. -/

namespace Cert.Proof.Ffn

open Cert.ExpertsIdeal Cert.ExpertsIdeal.Gen
open Idealize.ShloMosaic Idealize.ShloMosaic.TcCoe
open Idealize.ShloMosaic.Pipeline (Dat Cfg Window)

variable (m : (ℓ : Loc nD τ sig) → Buf (Elt Ideal) ℓ)

/-- The layer's arguments as the program holds them. -/
def args : Spec.Args where
  T q i := tab m 0 (ix2 q i)
  x r k := (m (((0 : Dev nD).tc : Thread nD τ).loc main_arg1) : S28160x1152.Idx → EReal) (ix2 r k)
  g e k f := (m (((0 : Dev nD).tc : Thread nD τ).loc main_arg2) : S4x16x1024x512.Idx → EReal) (ix4 0 e k f)
  u e k f := (m (((0 : Dev nD).tc : Thread nD τ).loc main_arg3) : S4x16x1024x512.Idx → EReal) (ix4 0 e k f)
  d e f j := (m (((0 : Dev nD).tc : Thread nD τ).loc main_arg4) : S4x16x512x1024.Idx → EReal) (ix4 0 e f j)

variable (hT : Tab (tab m 0)) (t : Fin grid0.N)

/-- The point's tile. -/
abbrev tl : Fin 55 := ⟨(tab m 0 (ix2 4 (col (tc t)))).toNat, hT.tile _⟩
/-- The row `r` of the point's tile. -/
abbrev row (r : Fin 512) : Fin 28160 := ⟨(tab m 0 (ix2 4 (col (tc t)))).toNat * 512 + r.val, by have := hT.tile (tc t); omega⟩
/-- The point's lower expert. -/
abbrev eLo : Fin 16 := ⟨(tab m 0 (ix2 0 (col (tc t)))).toNat, hT.lo _⟩
/-- The point's upper expert. -/
abbrev eHi : Fin 16 := ⟨(tab m 0 (ix2 1 (col (tc t)))).toNat, hT.hi _⟩

/-! ## What a point in use reads -/

theorem ffn_congr {x x' : Fin 1024 → EReal} {g g' u u' : Fin 1024 → Fin 512 → EReal} {d d' : Fin 512 → Fin 1024 → EReal}
    (hx : x = x') (hg : g = g') (hu : u = u') (hd : d = d') (j : Fin 1024) : Spec.ffn x g u d j = Spec.ffn x' g' u' d' j := by
  rw [hx, hg, hu, hd]

section Read
variable (hl : t.val < usedN (tab m 0))
include hl

theorem x_at (r : Fin 512) (k : Fin 1152) : (ins m hT 0 t).x (ix2 r k) = (args m).x (row m hT t r) k := by
  have e : (win0 (adm m hT 0) 0).index t = ![(tab m 0 (ix2 4 (col (tc t)))).toNat, 0] := by
    rw [← col_cur m hT t hl]
    exact tr0 m hT (grid0.coords t)
  show V m 0 main_arg1 (((win0 (adm m hT 0) 0).rect t).emb (ix2 r k)) = _
  rw [V_main_arg1]
  refine congrArg (m (((0 : Dev nD).tc : Thread nD τ).loc main_arg1) : S28160x1152.Idx → EReal) (funext fun a => Fin.ext ?_)
  refine ((win0 (adm m hT 0) 0).rect_emb_val t (ix2 r k) a).trans ?_
  rw [e]
  match a with
  | (⟨0, _⟩ : Fin 2) => rfl
  | (⟨1, _⟩ : Fin 2) => show 0 * 1152 + k.val = k.val; omega

theorem g0_at (k : Fin 1024) (f : Fin 512) : (ins m hT 0 t).g0 (ix4 0 0 k f) = (args m).g (eLo m hT t) k f := by
  have e : (win0 (adm m hT 0) 1).index t = ![0, (tab m 0 (ix2 0 (col (tc t)))).toNat, 0, 0] := by
    rw [← col_cur m hT t hl]
    exact tr1 m hT (grid0.coords t)
  show V m 0 main_arg2 (((win0 (adm m hT 0) 1).rect t).emb (ix4 0 0 k f)) = _
  rw [V_main_arg2]
  refine congrArg (m (((0 : Dev nD).tc : Thread nD τ).loc main_arg2) : S4x16x1024x512.Idx → EReal) (funext fun a => Fin.ext ?_)
  refine ((win0 (adm m hT 0) 1).rect_emb_val t (ix4 0 0 k f) a).trans ?_
  rw [e]
  match a with
  | (⟨0, _⟩ : Fin 4) => rfl
  | (⟨1, _⟩ : Fin 4) => show (tab m 0 (ix2 0 (col (tc t)))).toNat * 1 + 0 = (tab m 0 (ix2 0 (col (tc t)))).toNat; omega
  | (⟨2, _⟩ : Fin 4) => show 0 * 1024 + k.val = k.val; omega
  | (⟨3, _⟩ : Fin 4) => show 0 * 512 + f.val = f.val; omega

theorem u0_at (k : Fin 1024) (f : Fin 512) : (ins m hT 0 t).u0 (ix4 0 0 k f) = (args m).u (eLo m hT t) k f := by
  have e : (win0 (adm m hT 0) 2).index t = ![0, (tab m 0 (ix2 0 (col (tc t)))).toNat, 0, 0] := by
    rw [← col_cur m hT t hl]
    exact tr2 m hT (grid0.coords t)
  show V m 0 main_arg3 (((win0 (adm m hT 0) 2).rect t).emb (ix4 0 0 k f)) = _
  rw [V_main_arg3]
  refine congrArg (m (((0 : Dev nD).tc : Thread nD τ).loc main_arg3) : S4x16x1024x512.Idx → EReal) (funext fun a => Fin.ext ?_)
  refine ((win0 (adm m hT 0) 2).rect_emb_val t (ix4 0 0 k f) a).trans ?_
  rw [e]
  match a with
  | (⟨0, _⟩ : Fin 4) => rfl
  | (⟨1, _⟩ : Fin 4) => show (tab m 0 (ix2 0 (col (tc t)))).toNat * 1 + 0 = (tab m 0 (ix2 0 (col (tc t)))).toNat; omega
  | (⟨2, _⟩ : Fin 4) => show 0 * 1024 + k.val = k.val; omega
  | (⟨3, _⟩ : Fin 4) => show 0 * 512 + f.val = f.val; omega

theorem d0_at (f : Fin 512) (j : Fin 1024) : (ins m hT 0 t).d0 (ix4 0 0 f j) = (args m).d (eLo m hT t) f j := by
  have e : (win0 (adm m hT 0) 3).index t = ![0, (tab m 0 (ix2 0 (col (tc t)))).toNat, 0, 0] := by
    rw [← col_cur m hT t hl]
    exact tr3 m hT (grid0.coords t)
  show V m 0 main_arg4 (((win0 (adm m hT 0) 3).rect t).emb (ix4 0 0 f j)) = _
  rw [V_main_arg4]
  refine congrArg (m (((0 : Dev nD).tc : Thread nD τ).loc main_arg4) : S4x16x512x1024.Idx → EReal) (funext fun a => Fin.ext ?_)
  refine ((win0 (adm m hT 0) 3).rect_emb_val t (ix4 0 0 f j) a).trans ?_
  rw [e]
  match a with
  | (⟨0, _⟩ : Fin 4) => rfl
  | (⟨1, _⟩ : Fin 4) => show (tab m 0 (ix2 0 (col (tc t)))).toNat * 1 + 0 = (tab m 0 (ix2 0 (col (tc t)))).toNat; omega
  | (⟨2, _⟩ : Fin 4) => show 0 * 512 + f.val = f.val; omega
  | (⟨3, _⟩ : Fin 4) => show 0 * 1024 + j.val = j.val; omega

theorem g1_at (k : Fin 1024) (f : Fin 512) : (ins m hT 0 t).g1 (ix4 0 0 k f) = (args m).g (eHi m hT t) k f := by
  have e : (win0 (adm m hT 0) 4).index t = ![0, (tab m 0 (ix2 1 (col (tc t)))).toNat, 0, 0] := by
    rw [← col_cur m hT t hl]
    exact tr4 m hT (grid0.coords t)
  show V m 0 main_arg2 (((win0 (adm m hT 0) 4).rect t).emb (ix4 0 0 k f)) = _
  rw [V_main_arg2]
  refine congrArg (m (((0 : Dev nD).tc : Thread nD τ).loc main_arg2) : S4x16x1024x512.Idx → EReal) (funext fun a => Fin.ext ?_)
  refine ((win0 (adm m hT 0) 4).rect_emb_val t (ix4 0 0 k f) a).trans ?_
  rw [e]
  match a with
  | (⟨0, _⟩ : Fin 4) => rfl
  | (⟨1, _⟩ : Fin 4) => show (tab m 0 (ix2 1 (col (tc t)))).toNat * 1 + 0 = (tab m 0 (ix2 1 (col (tc t)))).toNat; omega
  | (⟨2, _⟩ : Fin 4) => show 0 * 1024 + k.val = k.val; omega
  | (⟨3, _⟩ : Fin 4) => show 0 * 512 + f.val = f.val; omega

theorem u1_at (k : Fin 1024) (f : Fin 512) : (ins m hT 0 t).u1 (ix4 0 0 k f) = (args m).u (eHi m hT t) k f := by
  have e : (win0 (adm m hT 0) 5).index t = ![0, (tab m 0 (ix2 1 (col (tc t)))).toNat, 0, 0] := by
    rw [← col_cur m hT t hl]
    exact tr5 m hT (grid0.coords t)
  show V m 0 main_arg3 (((win0 (adm m hT 0) 5).rect t).emb (ix4 0 0 k f)) = _
  rw [V_main_arg3]
  refine congrArg (m (((0 : Dev nD).tc : Thread nD τ).loc main_arg3) : S4x16x1024x512.Idx → EReal) (funext fun a => Fin.ext ?_)
  refine ((win0 (adm m hT 0) 5).rect_emb_val t (ix4 0 0 k f) a).trans ?_
  rw [e]
  match a with
  | (⟨0, _⟩ : Fin 4) => rfl
  | (⟨1, _⟩ : Fin 4) => show (tab m 0 (ix2 1 (col (tc t)))).toNat * 1 + 0 = (tab m 0 (ix2 1 (col (tc t)))).toNat; omega
  | (⟨2, _⟩ : Fin 4) => show 0 * 1024 + k.val = k.val; omega
  | (⟨3, _⟩ : Fin 4) => show 0 * 512 + f.val = f.val; omega

theorem d1_at (f : Fin 512) (j : Fin 1024) : (ins m hT 0 t).d1 (ix4 0 0 f j) = (args m).d (eHi m hT t) f j := by
  have e : (win0 (adm m hT 0) 6).index t = ![0, (tab m 0 (ix2 1 (col (tc t)))).toNat, 0, 0] := by
    rw [← col_cur m hT t hl]
    exact tr6 m hT (grid0.coords t)
  show V m 0 main_arg4 (((win0 (adm m hT 0) 6).rect t).emb (ix4 0 0 f j)) = _
  rw [V_main_arg4]
  refine congrArg (m (((0 : Dev nD).tc : Thread nD τ).loc main_arg4) : S4x16x512x1024.Idx → EReal) (funext fun a => Fin.ext ?_)
  refine ((win0 (adm m hT 0) 6).rect_emb_val t (ix4 0 0 f j) a).trans ?_
  rw [e]
  match a with
  | (⟨0, _⟩ : Fin 4) => rfl
  | (⟨1, _⟩ : Fin 4) => show (tab m 0 (ix2 1 (col (tc t)))).toNat * 1 + 0 = (tab m 0 (ix2 1 (col (tc t)))).toNat; omega
  | (⟨2, _⟩ : Fin 4) => show 0 * 512 + f.val = f.val; omega
  | (⟨3, _⟩ : Fin 4) => show 0 * 1024 + j.val = j.val; omega

/-- Row `r` of the tile through the lower expert. -/
theorem lo_eq (r : Fin 512) (j : Fin 1024) :
    lo (fun k => (ins m hT 0 t).x (ix2 r ⟨k.val, by omega⟩)) (slotsIn (ins m hT 0 t)) j = (args m).ex (eLo m hT t) (row m hT t r) j := by
  unfold lo Spec.Args.ex
  exact ffn_congr (funext fun k => x_at m hT t hl r _) (funext fun k => funext fun f => (in_g0 _ k f).trans (g0_at m hT t hl k f))
    (funext fun k => funext fun f => (in_u0 _ k f).trans (u0_at m hT t hl k f)) (funext fun f => funext fun j => (in_d0 _ f j).trans (d0_at m hT t hl f j)) j
/-- Row `r` of the tile through the upper expert. -/
theorem hi_eq (r : Fin 512) (j : Fin 1024) :
    hi (fun k => (ins m hT 0 t).x (ix2 r ⟨k.val, by omega⟩)) (slotsIn (ins m hT 0 t)) j = (args m).ex (eHi m hT t) (row m hT t r) j := by
  unfold hi Spec.Args.ex
  exact ffn_congr (funext fun k => x_at m hT t hl r _) (funext fun k => funext fun f => (in_g1 _ k f).trans (g1_at m hT t hl k f))
    (funext fun k => funext fun f => (in_u1 _ k f).trans (u1_at m hT t hl k f)) (funext fun f => funext fun j => (in_d1 _ f j).trans (d1_at m hT t hl f j)) j

end Read

/-! ## The rows a point leaves -/

theorem word_eq (w : BitVec 32) : w = BitVec.ofNat 32 w.toNat := BitVec.eq_of_toNat_eq (by rw [BitVec.toNat_ofNat, Nat.mod_eq_of_lt w.isLt])

theorem tile_at : (args m).T 4 ⟨t.val, by have := nlt t; omega⟩ = BitVec.ofNat 32 (tl m hT t).val := word_eq _
theorem tile_only (k : Fin 55) (h : (args m).T 4 ⟨k.val, by omega⟩ = BitVec.ofNat 32 (tl m hT t).val) : k = tc t :=
  hT.inj k (tc t) (h.trans (tile_at m hT t).symm)

theorem row_tile (r : Fin 512) : (row m hT t r).val / 512 = (tl m hT t).val := by
  show ((tab m 0 (ix2 4 (col (tc t)))).toNat * 512 + r.val) / 512 = (tab m 0 (ix2 4 (col (tc t)))).toNat
  omega

include hT in
theorem live_args : (BitVec.ofNat 32 (tc t).val).toInt < ((args m).T 3 0).toInt ↔ t.val < usedN (tab m 0) := by
  have h := live_iff m hT t
  rw [used_eq (F := Ideal), (offs t).1] at h
  exact h

theorem out_in_use (hl : t.val < usedN (tab m 0)) (r : Fin 512) (j : Fin 1024) :
    (args m).out (row m hT t r) j = (args m).x (row m hT t r) 1024 * (args m).ex (eLo m hT t) (row m hT t r) j
      + (args m).x (row m hT t r) 1025 * (args m).ex (eHi m hT t) (row m hT t r) j :=
  Spec.Args.out_live (A := args m) (t := tl m hT t) (i := tc t) (tile_at m hT t) (tile_only m hT t) _ (row_tile m hT t r) ((live_args m hT t).mpr hl)
    (eLo m hT t) (eHi m hT t) (word_eq _) (word_eq _) (fun h => hT.ne (tc t) hl (BitVec.eq_of_toNat_eq (Fin.mk.inj h))) j

theorem oeq_zero (a : EReal) (h : FloatOps.cmpf (F := Ideal) (φ := .f32) .oeq a (FloatOps.ofBits .f32 0#32) = 1#1) : a = 0 := by
  have e : (FloatOps.ofBits .f32 0#32 : Ideal .f32) = (0 : EReal) := by
    show Ideal.ofBits .f32 0x00000000#32 = 0
    simp [Ideal.ofBits, Ideal.ieee]
  rw [e] at h
  exact of_decide_eq_true ((ofBool_one _).mp h)

/-- The rows of a tile past its count have weights of zero. -/
theorem zero_weights (hP : PreFn (F := Ideal) (tab m 0) (m (((0 : Dev nD).tc : Thread nD τ).loc main_arg1)) (m (((0 : Dev nD).tc : Thread nD τ).loc main_arg2))
      (m (((0 : Dev nD).tc : Thread nD τ).loc main_arg3)) (m (((0 : Dev nD).tc : Thread nD τ).loc main_arg4)))
    (hl : t.val < usedN (tab m 0)) (r : Fin 512) (hr : ¬ (r.val : Int) < (tab m 0 (ix2 2 (col (tc t)))).toInt) :
    (args m).x (row m hT t r) 1024 = 0 ∧ (args m).x (row m hT t r) 1025 = 0 := by
  have h := zero_of_pre hP (tl m hT t) (tc t) r rfl hl hr
  exact ⟨oeq_zero _ h.1, oeq_zero _ h.2⟩

theorem cnt_eq : cnt (F := Ideal) (tab m 0) (grid0.coords t) = tab m 0 (ix2 2 (col (tc t))) :=
  wd_row (F := Ideal) (tab m 0) _ _ 2 (col (tc t)) (offs t).2.2.2.2.2.1 (offs t).2.2.2.2.2.2

section Out
variable (hP : PreFn (F := Ideal) (tab m 0) (m (((0 : Dev nD).tc : Thread nD τ).loc main_arg1)) (m (((0 : Dev nD).tc : Thread nD τ).loc main_arg2))
      (m (((0 : Dev nD).tc : Thread nD τ).loc main_arg3)) (m (((0 : Dev nD).tc : Thread nD τ).loc main_arg4)))
include hP

/-- A point leaves its tile's rows of the layer's result. -/
theorem outAt_row (r : Fin 512) (j : Fin 1024) : (outAt m hT 0 t : S512x1024.Idx → EReal) (ix2 r j) = (args m).out (row m hT t r) j := by
  unfold outAt
  by_cases hl : t.val < usedN (tab m 0)
  · rw [out_in_use m hT t hl]
    have h3 := (live_iff m hT t).mpr hl
    have eF : (full (ins m hT 0 t).x (slotsIn (ins m hT 0 t)) : S512x1024.Idx → EReal) (ix2 r j) = (args m).x (row m hT t r) 1024 * (args m).ex (eLo m hT t) (row m hT t r) j
        + (args m).x (row m hT t r) 1025 * (args m).ex (eHi m hT t) (row m hT t r) j := by
      rw [full_at, lo_eq m hT t hl, hi_eq m hT t hl, x_at m hT t hl, x_at m hT t hl]
    by_cases hc : (cnt (F := Ideal) (tab m 0) (grid0.coords t)).toInt ≤ (256#32).toInt
    · unfold outB
      rw [if_pos ((cond5_iff _ _ _).mpr ⟨h3, hc⟩)]
      by_cases hr : r.val < 256
      · rw [half_lo _ _ r j hr, ← full_at]
        exact eF
      · rw [half_hi _ _ r j hr]
        have hz := zero_weights m hT t hP hl r (fun h => by
          rw [← cnt_eq m t] at h
          have : (256#32).toInt = 256 := by decide
          omega)
        rw [hz.1, hz.2, zero_mul, zero_mul, add_zero]
    · unfold outB
      rw [if_neg (fun h => hc ((cond5_iff _ _ _).mp h).2), if_pos ((cond4_iff _ _ _).mpr ⟨h3, by omega⟩)]
      exact eF
  · rw [outB_dead m hT t hl]
    refine (zero_at _).trans (Spec.Args.out_dead (A := args m) (t := tl m hT t) (i := tc t) (tile_at m hT t) (tile_only m hT t) _ (row_tile m hT t r)
      (fun h => hl ((live_args m hT t).mp h)) j).symm

/-! ## The result array -/

omit hP in
theorem index_7 : (win0 (adm m hT 0) 7).index t = ![(tab m 0 (ix2 4 (col (tc t)))).toNat, 0] := by
  have e : pt (grid0.coords t) = tc t := Fin.ext (offs t).1
  rw [← e]
  exact tr7 m (grid0.coords t)

omit hP in
theorem flush_all : ((cf m hT).win 7).flush t = true := by
  show (win0 (adm m hT 0) 7).flush t = true
  rw [Window.flush_eq_flushOf]
  unfold Window.flushOf
  show (true && (decide (t.val + 1 = grid0.N) || decide (∃ h : t.val + 1 < grid0.N,
    (win0 (adm m hT 0) 7).index ⟨t.val + 1, h⟩ ≠ (win0 (adm m hT 0) 7).index t))) = true
  by_cases h : t.val + 1 = grid0.N
  · rw [decide_eq_true h]
    rfl
  · have hn : t.val + 1 < grid0.N := by have := t.isLt; omega
    rw [decide_eq_true (p := ∃ h : t.val + 1 < grid0.N, (win0 (adm m hT 0) 7).index ⟨t.val + 1, h⟩ ≠ (win0 (adm m hT 0) 7).index t) ⟨hn, fun e => ?_⟩]
    · rw [Bool.or_true]
      rfl
    · rw [index_7, index_7] at e
      have e0 : (tab m 0 (ix2 4 (col (tc (⟨t.val + 1, hn⟩ : Fin grid0.N))))).toNat = (tab m 0 (ix2 4 (col (tc t)))).toNat := congrFun e 0
      have := congrArg Fin.val (hT.inj _ _ (BitVec.eq_of_toNat_eq e0))
      exact absurd (show t.val + 1 = t.val from this) (by omega)

/-- The layer's result as the array holds it. -/
def outArr (A : Spec.Args) : S28160x1024.Idx → EReal := fun y => A.out ⟨(y 0).val, (y 0).isLt⟩ ⟨(y 1).val, (y 1).isLt⟩

theorem flushed_eq : (dats m hT 0 0).flushed 7 t = (((cf m hT).win 7).blk t).view.read (Elt Ideal) (outArr (args m)) := by
  show ((cf m hT).win 7).cut (grid0.coords t) ((dats m hT 0 0).after 7 t) = _
  rw [after0_7]
  refine funext fun (y : S512x1024.Idx) => ?_
  have hy0 : (y 0).val < 512 := (y 0).isLt
  have hy1 : (y 1).val < 1024 := (y 1).isLt
  have ey : y = (ix2 ⟨(y 0).val, hy0⟩ ⟨(y 1).val, hy1⟩ : S512x1024.Idx) := by
    funext a
    match a with
    | (⟨0, _⟩ : Fin 2) => rfl
    | (⟨1, _⟩ : Fin 2) => rfl
  show outAt m hT 0 t y = outArr (args m) (((win0 (adm m hT 0) 7).rect t).emb y)
  have r : ((win0 (adm m hT 0) 7).rect t).emb y = (ix2 (row m hT t ⟨(y 0).val, hy0⟩) ⟨(y 1).val, hy1⟩ : S28160x1024.Idx) := by
    funext a
    refine Fin.ext (((win0 (adm m hT 0) 7).rect_emb_val t y a).trans ?_)
    rw [index_7 m hT t]
    match a with
    | (⟨0, _⟩ : Fin 2) => rfl
    | (⟨1, _⟩ : Fin 2) => show 0 * 1024 + (y 1).val = (y 1).val; omega
  rw [r]
  refine (congrArg (outAt m hT 0 t) ey).trans ?_
  exact outAt_row m hT t hP ⟨(y 0).val, hy0⟩ ⟨(y 1).val, hy1⟩

omit hP in
theorem mem_blk (i : S28160x1024.Idx) : i ∈ (((cf m hT).win 7).blk t).view.set ↔ ∀ a, (win0 (adm m hT 0) 7).index t a * (win0 (adm m hT 0) 7).size a ≤ (i a : ℕ)
    ∧ (i a : ℕ) < (win0 (adm m hT 0) 7).index t a * (win0 (adm m hT 0) 7).size a + (win0 (adm m hT 0) 7).xsize (grid0.coords t) a := by
  show i ∈ ((View.whole main_v14).slice ((win0 (adm m hT 0) 7).rect t)).set ↔ _
  rw [View.set_slice_whole, Rect.mem_set_unit]

omit hP in
include hT in
/-- Every tile has its column. -/
theorem tile_col (k : Fin 55) : ∃ i : Fin 55, (tab m 0 (ix2 4 (col i))).toNat = k.val := by
  have inj : Function.Injective (fun i : Fin 55 => (⟨(tab m 0 (ix2 4 (col i))).toNat, hT.tile i⟩ : Fin 55)) :=
    fun i j h => hT.inj i j (BitVec.eq_of_toNat_eq (Fin.mk.inj h))
  obtain ⟨i, hi⟩ := Finite.injective_iff_surjective.mp inj k
  exact ⟨i, congrArg Fin.val hi⟩

omit hP in
theorem cover (i : S28160x1024.Idx) : ∃ t : Fin grid0.N, ((cf m hT).win 7).flush t = true ∧ i ∈ (((cf m hT).win 7).blk t).view.set := by
  have h0 : (i 0).val < 28160 := (i 0).isLt
  have h1 : (i 1).val < 1024 := (i 1).isLt
  obtain ⟨k, hk⟩ := tile_col m hT ⟨(i 0).val / 512, by omega⟩
  have hN : grid0.N = 55 := N_0
  refine ⟨⟨k.val, by omega⟩, flush_all m hT _, ?_⟩
  rw [mem_blk, index_7]
  intro a
  match a with
  | (⟨0, _⟩ : Fin 2) =>
    show (tab m 0 (ix2 4 (col k))).toNat * 512 ≤ (i 0).val ∧ (i 0).val < (tab m 0 (ix2 4 (col k))).toNat * 512 + 512
    rw [hk]
    show (i 0).val / 512 * 512 ≤ (i 0).val ∧ (i 0).val < (i 0).val / 512 * 512 + 512
    omega
  | (⟨1, _⟩ : Fin 2) =>
    show 0 * 1024 ≤ (i 1).val ∧ (i 1).val < 0 * 1024 + 1024
    omega

/-- The result array ends at the layer's result. -/
theorem arr_eq : (dats m hT 0 0).arrAt 7 grid0.N = outArr (args m) :=
  (dats m hT 0 0).arrAt_eq_of_cover 7 (outArr (args m)) (fun t _ => flushed_eq m hT t hP) (cover m hT)

end Out

end Cert.Proof.Ffn

end
-- ==== Proof.FfnRef.lean ====
module

public import proofs.«01_k».proof.Proof.FfnSpec
public import proofs.«01_k».proof.Proof.FfnTab
public import proofs.«01_k».proof.Proof.Gen.ExpertsReferenceIdeal.Run
public import Idealize.ShloMosaic.Lib.Pointwise

@[expose] public section

/-! The reference's result over the extended reals, at one row and one output feature. -/

set_option maxRecDepth 16384
set_option maxHeartbeats 1000000

noncomputable section

namespace Cert.Proof.FfnRef

open Cert.ExpertsReferenceIdeal Cert.ExpertsReferenceIdeal.Gen Cert.ExpertsReferenceIdeal.Value
open Idealize.ShloMosaic Idealize.ShloMosaic.TcCoe Idealize.ShloMosaic.StableHlo
open Cert.Proof.Ffn

variable (V : Valuation τ sig (Elt Ideal))

/-! ## The weights of the experts -/

/-- A table of tiles and experts, each tile's row given to each of the tile's 512 rows. -/
def rep (p : (⟨S55x16, .f32⟩ : BufTy).Contents (Elt Ideal)) : (⟨S28160x16, .f32⟩ : BufTy).Contents (Elt Ideal) :=
  shapeCast S28160x16 (broadcastInDim S55x512x16 ![0, 2] bcast_S55x16_S55x512x16_0_2 p) shapeCasts_S55x512x16_S28160x16

theorem rep_at (p : S55x16.Idx → EReal) (r : Fin 28160) (e : Fin 16) : (rep p : S28160x16.Idx → EReal) (ix2 r e) = p (ix2 ⟨r.val / 512, by omega⟩ e) := by
  pointwise [rep]

/-- Which tiles have which experts: a tile's columns in use against the experts that the columns name. -/
def pickOf (A : (⟨S55x55, .i1⟩ : BufTy).Contents (Elt Ideal)) (L : (⟨S55, .i32⟩ : BufTy).Contents (Elt Ideal)) : (⟨S55x16, .f32⟩ : BufTy).Contents (Elt Ideal) :=
  Host.dotGeneral (F := Ideal) (φ₁ := .f32) (φ₂ := .f32) dot_S55x55_S55x16_S55x16_1_0_0_1_n_n none
    (select A (broadcastInDim S55x55 ![] bcast_S_S55x55 (constant (F := Ideal) S_ .f32 0x3F800000#32)) (broadcastInDim S55x55 ![] bcast_S_S55x55 (constant (F := Ideal) S_ .f32 0x00000000#32)))
    (select (cmpi .eq (broadcastInDim S55x16 ![0, 1] bcast_S55x1_S55x16_0_1 (broadcastInDim S55x1 ![0] bcast_S55_S55x1_0 L)) (broadcastInDim S55x16 ![0, 1] bcast_S1x16_S55x16_0_1 (broadcastInDim S1x16 ![1] bcast_S16_S1x16_1 (iotaInDim S16 32 0))))
      (broadcastInDim S55x16 ![] bcast_S_S55x16 (constant (F := Ideal) S_ .f32 0x3F800000#32)) (broadcastInDim S55x16 ![] bcast_S_S55x16 (constant (F := Ideal) S_ .f32 0x00000000#32)))

/-- The table, the rows and the three weights the program is given. -/
def tbl : S8x128.Idx → BitVec 32 := V (Proc.devRef .tc main_arg0)
def rows : S28160x1152.Idx → EReal := V (Proc.devRef .tc main_arg1)

/-- The lower and the upper experts of the table's columns. -/
def loRow : (⟨S55, .i32⟩ : BufTy).Contents (Elt Ideal) := shapeCast S55 (extractStridedSlice S1x55 ![0, 0] (tbl V) slices_S8x128_S1x55_0_0) shapeCasts_S1x55_S55
def hiRow : (⟨S55, .i32⟩ : BufTy).Contents (Elt Ideal) := shapeCast S55 (extractStridedSlice S1x55 ![1, 0] (tbl V) slices_S8x128_S1x55_1_0) shapeCasts_S1x55_S55

/-- The weights as the sum of the two parts. -/
def v59 : (⟨S28160x16, .f32⟩ : BufTy).Contents (Elt Ideal) :=
  addf (F := Ideal) (s := S28160x16) (φ := .f32) (addf (broadcastInDim S28160x16 ![] bcast_S_S28160x16 (constant S_ .f32 0x00000000#32))
      (mulf (broadcastInDim S28160x16 ![0, 1] bcast_S28160x1_S28160x16_0_1 (extractStridedSlice S28160x1 ![0, 1024] (rows V) slices_S28160x1152_S28160x1_0_1024)) (rep (pickOf (res_main_v22 V) (loRow V)))))
    (mulf (broadcastInDim S28160x16 ![0, 1] bcast_S28160x1_S28160x16_0_1 (extractStridedSlice S28160x1 ![0, 1025] (rows V) slices_S28160x1152_S28160x1_0_1025)) (rep (pickOf (res_main_v22 V) (hiRow V))))

theorem v59_eq : res_main_v59 V = v59 V := rfl

/-- The expert's weight at row `r`. -/
def cb (r : Fin 28160) (e : Fin 16) : EReal := (res_main_v59 V : S28160x16.Idx → EReal) (ix2 r e)

/-- Whether tile `t` has a column in use that names the expert `e`, as a sum. -/
def pk (L : S55.Idx → BitVec 32) (t : Fin 55) (e : Fin 16) : EReal := (pickOf (res_main_v22 V) L : S55x16.Idx → EReal) (ix2 t e)

theorem cb_at (r : Fin 28160) (e : Fin 16) : cb V r e
    = rows V (ix2 r 1024) * pk V (loRow V) ⟨r.val / 512, by omega⟩ e + rows V (ix2 r 1025) * pk V (hiRow V) ⟨r.val / 512, by omega⟩ e := by
  unfold cb pk
  rw [v59_eq, ← rep_at (pickOf (res_main_v22 V) (loRow V)), ← rep_at (pickOf (res_main_v22 V) (hiRow V))]
  pointwise [v59]

theorem sel {c : BitVec 1} {p : Prop} [Decidable p] (h : c = 1#1 ↔ p) {α : Type} (a b : α) : Scalar.select c a b = if p then a else b := by
  rw [Scalar.select]
  exact if_congr (show c = 1 ↔ p from h) rfl rfl

theorem pk_at (L : S55.Idx → BitVec 32) (t : Fin 55) (e : Fin 16) : pk V L t e
    = ∑ x : Fin 55, if L (ix1 x) = BitVec.ofNat 32 e.val ∧ tbl V (ix2 4 ⟨x.val, by omega⟩) = BitVec.ofNat 32 t.val
        ∧ (BitVec.ofNat 32 x.val).toInt < (tbl V (ix2 3 0)).toInt then (1 : EReal) else 0 := by
  have hs : ∀ x : Fin 55, Scalar.select (IntOp.cmpi CmpIPredicate.eq (L (ix1 x)) (BitVec.ofNat 32 e.val))
      (Scalar.select (IntOp.andi (IntOp.cmpi CmpIPredicate.eq (tbl V (ix2 4 ⟨x.val, by omega⟩)) (BitVec.ofNat 32 t.val))
          (IntOp.cmpi CmpIPredicate.slt (BitVec.ofNat 32 x.val) (tbl V (ix2 3 0)))) (1 : EReal) 0) 0
      = if L (ix1 x) = BitVec.ofNat 32 e.val ∧ tbl V (ix2 4 ⟨x.val, by omega⟩) = BitVec.ofNat 32 t.val
        ∧ (BitVec.ofNat 32 x.val).toInt < (tbl V (ix2 3 0)).toInt then (1 : EReal) else 0 := fun x => by
    rw [sel (ieq_one _ _), sel ((iand_one _ _).trans (and_congr (ieq_one _ _) (islt_one _ _)))]
    by_cases h1 : L (ix1 x) = BitVec.ofNat 32 e.val
    · simp only [h1, if_true, true_and]
    · simp only [h1, if_false, false_and]
  refine Eq.trans ?_ (Finset.sum_congr rfl fun x _ => hs x)
  unfold pk tbl
  pointwise [pickOf, res_main_v22]

theorem loRow_at (x : Fin 55) : (loRow V : S55.Idx → BitVec 32) (ix1 x) = tbl V (ix2 0 ⟨x.val, by omega⟩) := by
  pointwise [loRow]
theorem hiRow_at (x : Fin 55) : (hiRow V : S55.Idx → BitVec 32) (ix1 x) = tbl V (ix2 1 ⟨x.val, by omega⟩) := by
  pointwise [hiRow]

/-! ## The experts -/

/-- The layer's arguments as the program holds them. -/
def args : Spec.Args where
  T q i := (V (Proc.devRef .tc main_arg0) : S8x128.Idx → BitVec 32) (ix2 q i)
  x r k := (V (Proc.devRef .tc main_arg1) : S28160x1152.Idx → EReal) (ix2 r k)
  g e k f := (V (Proc.devRef .tc main_arg2) : S4x16x1024x512.Idx → EReal) (ix4 0 e k f)
  u e k f := (V (Proc.devRef .tc main_arg3) : S4x16x1024x512.Idx → EReal) (ix4 0 e k f)
  d e f j := (V (Proc.devRef .tc main_arg4) : S4x16x512x1024.Idx → EReal) (ix4 0 e f j)

/-- Row `r` through the expert `e`. -/
def ex (e : Fin 16) (r : Fin 28160) (j : Fin 1024) : EReal :=
  Spec.ffn (fun k => (V (Proc.devRef .tc main_arg1) : S28160x1152.Idx → EReal) (ix2 r ⟨k.val, by omega⟩))
    (fun k f => (V (Proc.devRef .tc main_arg2) : S4x16x1024x512.Idx → EReal) (ix4 0 e k f))
    (fun k f => (V (Proc.devRef .tc main_arg3) : S4x16x1024x512.Idx → EReal) (ix4 0 e k f))
    (fun f j => (V (Proc.devRef .tc main_arg4) : S4x16x512x1024.Idx → EReal) (ix4 0 e f j)) j

/-- The sums of the first five, ten and fifteen experts. -/
def acc5 (r : Fin 28160) (j : Fin 1024) : EReal := (res_main_v135 V : S28160x1024.Idx → EReal) (ix2 r j)
def acc10 (r : Fin 28160) (j : Fin 1024) : EReal := (res_main_v210 V : S28160x1024.Idx → EReal) (ix2 r j)
def acc15 (r : Fin 28160) (j : Fin 1024) : EReal := (res_main_v285 V : S28160x1024.Idx → EReal) (ix2 r j)

theorem acc5_at (r : Fin 28160) (j : Fin 1024) : acc5 V r j
    = cb V r 0 * ex V 0 r j + cb V r 1 * ex V 1 r j + cb V r 2 * ex V 2 r j + cb V r 3 * ex V 3 r j + cb V r 4 * ex V 4 r j := by
  unfold acc5 ex cb Spec.ffn Spec.hid
  pointwise [res_main_v135, res_main_v63, res_main_v78, res_main_v93, res_main_v108, res_main_v123, res_main_v6, res_main_v1, res_main_v3, res_main_v5]
  rfl

theorem acc10_at (r : Fin 28160) (j : Fin 1024) : acc10 V r j
    = acc5 V r j
      + cb V r 5 * ex V 5 r j + cb V r 6 * ex V 6 r j + cb V r 7 * ex V 7 r j + cb V r 8 * ex V 8 r j + cb V r 9 * ex V 9 r j := by
  unfold acc5 acc10 ex cb Spec.ffn Spec.hid
  pointwise [res_main_v210, res_main_v138, res_main_v153, res_main_v168, res_main_v183, res_main_v198, res_main_v6, res_main_v1, res_main_v3, res_main_v5]
  rfl

theorem acc15_at (r : Fin 28160) (j : Fin 1024) : acc15 V r j
    = acc10 V r j
      + cb V r 10 * ex V 10 r j + cb V r 11 * ex V 11 r j + cb V r 12 * ex V 12 r j + cb V r 13 * ex V 13 r j + cb V r 14 * ex V 14 r j := by
  unfold acc10 acc15 ex cb Spec.ffn Spec.hid
  pointwise [res_main_v285, res_main_v213, res_main_v228, res_main_v243, res_main_v258, res_main_v273, res_main_v6, res_main_v1, res_main_v3, res_main_v5]
  rfl

/-- The reference's result array. -/
def result : (⟨S28160x1024, .f32⟩ : BufTy).Contents (Elt Ideal) :=
  addf (res_main_v285 V) (mulf (broadcastInDim S28160x1024 ![0, 1] bcast_S28160x1_S28160x1024_0_1 (extractStridedSlice S28160x1 ![0, 15] (res_main_v59 V) slices_S28160x16_S28160x1_0_15)) (Host.dotGeneral (F := Ideal) (φ₁ := .f32) (φ₂ := .f32) dot_S28160x512_S512x1024_S28160x1024_1_0_0_1_n_n none (mulf (mulf (res_main_v288 V) (Host.divf (broadcastInDim S28160x512 ![] bcast_S_S28160x512 (constant S_ .f32 0x3F800000#32)) (addf (broadcastInDim S28160x512 ![] bcast_S_S28160x512 (constant S_ .f32 0x3F800000#32)) (Host.exp (Host.negf (res_main_v288 V)))))) (Host.dotGeneral (F := Ideal) (φ₁ := .f32) (φ₂ := .f32) dot_S28160x1024_S1024x512_S28160x512_1_0_0_1_n_n none (res_main_v6 V) (shapeCast _ (extractStridedSlice S1x1024x512 ![15, 0, 0] (res_main_v3 V) slices_S16x1024x512_S1x1024x512_15_0_0) shapeCasts_S1x1024x512_S1024x512))) (shapeCast _ (extractStridedSlice S1x512x1024 ![15, 0, 0] (res_main_v5 V) slices_S16x512x1024_S1x512x1024_15_0_0) shapeCasts_S1x512x1024_S512x1024)))

theorem result_last (r : Fin 28160) (j : Fin 1024) : (result V : S28160x1024.Idx → EReal) (ix2 r j)
    = acc15 V r j + cb V r 15 * ex V 15 r j := by
  unfold acc15 ex cb Spec.ffn Spec.hid
  pointwise [result, res_main_v288, res_main_v6, res_main_v1, res_main_v3, res_main_v5]
  rfl

theorem result_at (r : Fin 28160) (j : Fin 1024) : (result V : S28160x1024.Idx → EReal) (ix2 r j) = ∑ e, cb V r e * ex V e r j := by
  rw [result_last, acc15_at, acc10_at, acc5_at]
  simp only [Fin.sum_univ_succ, Fin.sum_univ_zero, add_zero, add_assoc]
  rfl

theorem pk_lo (t : Fin 55) (e : Fin 16) : pk V (loRow V) t e = (args V).pk 0 t e := by
  rw [pk_at]
  simp only [loRow_at]
  rfl
theorem pk_hi (t : Fin 55) (e : Fin 16) : pk V (hiRow V) t e = (args V).pk 1 t e := by
  rw [pk_at]
  simp only [hiRow_at]
  rfl

/-- The reference's result is the layer's. -/
theorem result_eq (r : Fin 28160) (j : Fin 1024) : (result V : S28160x1024.Idx → EReal) (ix2 r j) = (args V).out r j := by
  rw [result_at]
  refine Finset.sum_congr rfl fun e _ => ?_
  rw [cb_at, pk_lo, pk_hi]
  rfl

/-- The layer's result as an array. -/
def outArr (A : Spec.Args) : S28160x1024.Idx → EReal := fun y => A.out ⟨(y 0).val, (y 0).isLt⟩ ⟨(y 1).val, (y 1).isLt⟩

theorem result_arr : (result V : S28160x1024.Idx → EReal) = outArr (args V) := by
  funext y
  have ey : y = (ix2 ⟨(y 0).val, (y 0).isLt⟩ ⟨(y 1).val, (y 1).isLt⟩ : S28160x1024.Idx) := by
    funext a
    match a with
    | (⟨0, _⟩ : Fin 2) => rfl
    | (⟨1, _⟩ : Fin 2) => rfl
  exact (congrArg (result V) ey).trans (result_eq V _ _)

end Cert.Proof.FfnRef

end
-- ==== Proof.FfnClaim.lean ====
module

public import proofs.«01_k».proof.Proof.FfnVal
public import proofs.«01_k».proof.Proof.FfnRef
public import proofs.«01_k».proof.Defs
public import proofs.«01_k».proof.Proof.Gen.Experts

@[expose] public section

set_option maxRecDepth 16384
set_option maxHeartbeats 1000000

noncomputable section

/-! The five claims of the expert layer. -/

namespace Cert.Proof.Ffn

open Idealize.ShloMosaic Idealize.ShloMosaic.TcCoe Idealize.ShloMosaic.StableHlo Idealize.SL.Sem

/-! The two printed programs have one text: their tables of bodies are the same. -/

theorem bodies_eq {F : FTy → Type} [FloatOps F] : Cert.Experts.defs₀ (F := F) = Cert.ExpertsIdeal.defs₀ (F := F) := by
  refine congrArg Defs.onTc ?_
  funext l
  match l with
  | (⟨0, _⟩ : Fin 1) => rfl

theorem defs_eq {F : FTy → Type} [FloatOps F] : Cert.Experts.defs (F := F) = Cert.ExpertsIdeal.defs (F := F) :=
  congrArg (Pipeline.defs Cert.ExpertsIdeal.pcfgs) bodies_eq

theorem frame_experts : Cert.quiescent_Experts := fun m ρ hP => by
  have h := frame_all (F := Bits) m ρ (tab_of_pre (hP 0))
  rw [← defs_eq] at h
  exact h

theorem frame_ideal : Cert.quiescent_ExpertsIdeal := fun m ρ hP => frame_all (F := Ideal) m ρ (tab_of_pre (hP 0))

theorem frame_ref : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

theorem algebraic : Cert.algebraic_ExpertsIdeal_ExpertsReferenceIdeal := by
  intro m ρ m' ρ' hP hagree
  have hT : Tab (tab m 0) := tab_of_pre (hP 0)
  refine ⟨fun c => outArr (args m), ?_, ?_⟩
  · have hv := run_value (F := Ideal) m ρ hT
    have hf := frame_all (F := Ideal) m ρ hT
    refine (θ_run _ _ _).mono (fun _ h c => ⟨?_, h.2.1 c⟩) (θ_run_and hv hf)
    obtain rfl : c = 0 := Subsingleton.elim _ _
    exact (h.1 0).trans (arr_eq m hT (hP 0))
  · refine (θ_run _ _ _).mono (fun _ h c => ⟨(h c).1.trans ?_, (h c).2⟩) (Cert.ExpertsReferenceIdeal.Value.run (F := Ideal) m' ρ')
    obtain rfl : c = 0 := Subsingleton.elim _ _
    obtain ⟨e0, e1, e2, e3, e4⟩ := hagree 0
    refine (FfnRef.result_arr (launchContents m' 0)).trans ?_
    have e : FfnRef.args (launchContents m' 0) = args m := by
      unfold FfnRef.args
      have f0 : launchContents m' 0 (Proc.devRef .tc Cert.ExpertsReferenceIdeal.main_arg0) = m (((0 : Dev Cert.ExpertsIdeal.nD).tc : Thread Cert.ExpertsIdeal.nD Cert.ExpertsIdeal.τ).loc Cert.ExpertsIdeal.main_arg0) := e0
      have f1 : launchContents m' 0 (Proc.devRef .tc Cert.ExpertsReferenceIdeal.main_arg1) = m (((0 : Dev Cert.ExpertsIdeal.nD).tc : Thread Cert.ExpertsIdeal.nD Cert.ExpertsIdeal.τ).loc Cert.ExpertsIdeal.main_arg1) := e1
      have f2 : launchContents m' 0 (Proc.devRef .tc Cert.ExpertsReferenceIdeal.main_arg2) = m (((0 : Dev Cert.ExpertsIdeal.nD).tc : Thread Cert.ExpertsIdeal.nD Cert.ExpertsIdeal.τ).loc Cert.ExpertsIdeal.main_arg2) := e2
      have f3 : launchContents m' 0 (Proc.devRef .tc Cert.ExpertsReferenceIdeal.main_arg3) = m (((0 : Dev Cert.ExpertsIdeal.nD).tc : Thread Cert.ExpertsIdeal.nD Cert.ExpertsIdeal.τ).loc Cert.ExpertsIdeal.main_arg3) := e3
      have f4 : launchContents m' 0 (Proc.devRef .tc Cert.ExpertsReferenceIdeal.main_arg4) = m (((0 : Dev Cert.ExpertsIdeal.nD).tc : Thread Cert.ExpertsIdeal.nD Cert.ExpertsIdeal.τ).loc Cert.ExpertsIdeal.main_arg4) := e4
      rw [f0, f1, f2, f3, f4]
      rfl
    rw [e]
    rfl

end Cert.Proof.Ffn

end
-- ==== Proof.ProjSpec.lean ====
module

public import Idealize.ShloMosaic.Lib.Pointwise

@[expose] public section

/-! The in-projection over the extended reals: a row scaled by its reciprocal root mean square and by the norm's weights, times the
projection's matrix; the columns from 2560 on come first. -/

noncomputable section

namespace Cert.Proof.Proj.Spec

open Idealize.ShloMosaic

/-- A row's reciprocal root mean square (the row's length is 1024; the second constant is the norm's epsilon). -/
def inv (x : Fin 1024 → EReal) : EReal :=
  Ideal.rsqrt (Ideal.div (∑ k, x k * x k) (Ideal.ofBits FTy.f32 0x44800000#32) + Ideal.ofBits FTy.f32 0x358637BD#32)

/-- One column of the projection of one row. -/
def proj (x g : Fin 1024 → EReal) (w : Fin 1024 → EReal) : EReal := ∑ k, x k * inv x * g k * w k

/-- The matrix's column that the result's column `j` is of. -/
def src (j : Fin 4608) : Fin 4608 := ⟨(j.val + 2560) % 4608, by omega⟩

/-- The rows, the norm's weights and the matrix. -/
structure Args where
  x : Fin 4 → Fin 4096 → Fin 1024 → EReal
  g : Fin 1024 → EReal
  w : Fin 1024 → Fin 4608 → EReal

/-- The result at a row of all the sequences one after the other, and a column. -/
def Args.out (A : Args) (n : Fin 16384) (j : Fin 4608) : EReal :=
  proj (A.x ⟨n.val / 4096, by omega⟩ ⟨n.val % 4096, by omega⟩) A.g fun k => A.w k (src j)

end Cert.Proof.Proj.Spec

end
-- ==== Proof.ProjVal.lean ====
module

public import proofs.«01_k».proof.Proof.ProjSpec
public import proofs.«01_k».proof.Proof.Gen.ProjectionIdeal.Frame
public import Idealize.ShloMosaic.Lib.Pipeline.Value
public import Idealize.ShloMosaic.Lib.Pipeline.ValueKit.Tiles
public import Idealize.ShloMosaic.Lib.StableHlo.ReadAt
public import Idealize.ShloMosaic.Lib.Pointwise

@[expose] public section

set_option maxRecDepth 16384
set_option maxHeartbeats 4000000

noncomputable section

/-! What the points read of the arguments, the rows they leave, and the result array put together of them. -/

namespace Cert.Proof.Proj

open Cert.ProjectionIdeal Cert.ProjectionIdeal.Gen
open Idealize.ShloMosaic Idealize.ShloMosaic.TcCoe
open Idealize.ShloMosaic.Pipeline (Dat Cfg Window)

/-! ## The stores -/

theorem nrm_at (x : Vec Ideal S512x1024 .f32) (g : Vec Ideal S1x1x1024 .f32) (r : Fin 512) (k : Fin 1024) :
    (k0_pay2 x g : S512x1024.Idx → EReal) (ix2 r k) = x (ix2 r k) * Spec.inv (fun k => x (ix2 r k)) * g (ix3 0 0 k) := by
  unfold Spec.inv
  pointwise [k0_pay2]

/-- One chunk of columns: the rows times a chunk of the matrix. -/
def chunk (v : FVec Ideal S512x1024 .bf16) (w : Vec Ideal S1x1024x512 .bf16) : FVec Ideal S512x512 .bf16 := k0_pay1 v w

theorem chunk_at (v : FVec Ideal S512x1024 .bf16) (w : Vec Ideal S1x1024x512 .bf16) (r j : Fin 512) :
    (chunk v w : S512x512.Idx → EReal) (ix2 r j) = ∑ k : Fin 1024, (v : S512x1024.Idx → EReal) (ix2 r k) * (w : S1x1024x512.Idx → EReal) (ix3 0 k j) := by
  pointwise [chunk, k0_pay1]

variable (x0 : Vec Ideal S512x1024 .f32) (x1 : Vec Ideal S1x1x1024 .f32) (x2 : Vec Ideal S1x1024x4608 .bf16)

/-- A tile's rows of the result. -/
def tile (y : S512x4608.Idx) : EReal :=
  Spec.proj (fun k => (x0 : S512x1024.Idx → EReal) (ix2 ⟨(y 0).val, (y 0).isLt⟩ k)) (fun k => (x1 : S1x1x1024.Idx → EReal) (ix3 0 0 k))
    fun k => (x2 : S1x1024x4608.Idx → EReal) (ix3 0 k (Spec.src ⟨(y 1).val, (y 1).isLt⟩))

/-- The chunk that a load at column `o` of the matrix gives, stored at column `q`, is the tile's there. -/
theorem piece_at (o q : ℕ) (ho : o + 512 ≤ 4608) (hq : q + 512 ≤ 4608) (h : ∀ j < 512, o + j = (q + j + 2560) % 4608)
    (hi : ∀ a, (![0, 0, o] : Fin 3 → ℕ) a + S1x1024x512.size a ≤ S1x1024x4608.size a) (hs : ∀ a, (![0, q] : Fin 2 → ℕ) a + S512x512.size a ≤ S512x4608.size a)
    (y : S512x512.Idx) :
    (chunk (k0_pay2 (View.ld x0 r0_0) (View.ld x1 r0_1)) (View.ld x2 (Rect.unit (s := S1x1024x4608) ![0, 0, o] S1x1024x512.size hi)) : S512x512.Idx → EReal) y
      = tile x0 x1 x2 ((Rect.unit (s := S512x4608) ![0, q] S512x512.size hs).emb y) := by
  have hy0 : (y 0).val < 512 := (y 0).isLt
  have hy1 : (y 1).val < 512 := (y 1).isLt
  have ey : y = (ix2 ⟨(y 0).val, hy0⟩ ⟨(y 1).val, hy1⟩ : S512x512.Idx) := by
    funext a
    match a with
    | (⟨0, _⟩ : Fin 2) => rfl
    | (⟨1, _⟩ : Fin 2) => rfl
  rw [show View.ld x0 r0_0 = x0 from View.ld_unit_zero (S := S512x1024) (funext fun a => by fin_cases a <;> rfl) _ x0,
    show View.ld x1 r0_1 = x1 from View.ld_unit_zero (S := S1x1x1024) (funext fun a => by fin_cases a <;> rfl) _ x1]
  have e0 : (⟨(((Rect.unit (s := S512x4608) ![0, q] S512x512.size hs).emb y) 0).val, (((Rect.unit (s := S512x4608) ![0, q] S512x512.size hs).emb y) 0).isLt⟩ : Fin 512) = ⟨(y 0).val, hy0⟩ :=
    Fin.ext ((Rect.idx_unit_val (s := S512x4608) ![0, q] S512x512.size hs y 0).trans (Nat.zero_add _))
  have e1 : Spec.src ⟨(((Rect.unit (s := S512x4608) ![0, q] S512x512.size hs).emb y) 1).val, (((Rect.unit (s := S512x4608) ![0, q] S512x512.size hs).emb y) 1).isLt⟩ = ⟨o + (y 1).val, by omega⟩ := by
    refine Fin.ext (Eq.trans ?_ (h _ hy1).symm)
    exact congrArg (fun n => (n + 2560) % 4608) (Rect.idx_unit_val (s := S512x4608) ![0, q] S512x512.size hs y 1)
  unfold tile Spec.proj
  rw [e0, e1]
  refine (congrArg (chunk _ _ : S512x512.Idx → EReal) ey).trans ?_
  rw [chunk_at]
  refine Finset.sum_congr rfl fun k _ => ?_
  rw [nrm_at]
  refine congrArg ((x0 : S512x1024.Idx → EReal) (ix2 ⟨(y 0).val, hy0⟩ k) * Spec.inv (fun k => (x0 : S512x1024.Idx → EReal) (ix2 ⟨(y 0).val, hy0⟩ k)) * (x1 : S1x1x1024.Idx → EReal) (ix3 0 0 k) * ·) ?_
  refine View.ld_unit_apply_of x2 _ _ hi (ix3 0 k ⟨(y 1).val, hy1⟩) _ fun a => ?_
  match a with
  | (⟨0, _⟩ : Fin 3) => rfl
  | (⟨1, _⟩ : Fin 3) => exact (Nat.zero_add _).symm
  | (⟨2, _⟩ : Fin 3) => rfl

/-- What the body leaves of the result is the tile. -/
theorem out_eq : out0_3 x0 x1 x2 = tile x0 x1 x2 := by
  refine funext fun (y : S512x4608.Idx) => ?_
  unfold out0_3
  refine View.canon_apply_of_pieces (Val := Elt Ideal) (S := S512x4608) (e := .bf16) (tile x0 x1 x2) _ ?_ y (cover0_3 _ _ _ _ _ _ _ _ _ y)
  intro pc hpc z
  simp only [List.mem_cons, List.not_mem_nil, or_false] at hpc
  rcases hpc with rfl | rfl | rfl | rfl | rfl | rfl | rfl | rfl | rfl
  · exact piece_at x0 x1 x2 4096 1536 (by omega) (by omega) (fun j hj => by omega) inb_S1x1024x4608_S1x1024x512_0_0_4096 inb_S512x4608_S512x512_0_1536 z
  · exact piece_at x0 x1 x2 3584 1024 (by omega) (by omega) (fun j hj => by omega) inb_S1x1024x4608_S1x1024x512_0_0_3584 inb_S512x4608_S512x512_0_1024 z
  · exact piece_at x0 x1 x2 3072 512 (by omega) (by omega) (fun j hj => by omega) inb_S1x1024x4608_S1x1024x512_0_0_3072 inb_S512x4608_S512x512_0_512 z
  · exact piece_at x0 x1 x2 2560 0 (by omega) (by omega) (fun j hj => by omega) inb_S1x1024x4608_S1x1024x512_0_0_2560 inb_S512x4608_S512x512_0_0 z
  · exact piece_at x0 x1 x2 2048 4096 (by omega) (by omega) (fun j hj => by omega) inb_S1x1024x4608_S1x1024x512_0_0_2048 inb_S512x4608_S512x512_0_4096 z
  · exact piece_at x0 x1 x2 1536 3584 (by omega) (by omega) (fun j hj => by omega) inb_S1x1024x4608_S1x1024x512_0_0_1536 inb_S512x4608_S512x512_0_3584 z
  · exact piece_at x0 x1 x2 1024 3072 (by omega) (by omega) (fun j hj => by omega) inb_S1x1024x4608_S1x1024x512_0_0_1024 inb_S512x4608_S512x512_0_3072 z
  · exact piece_at x0 x1 x2 512 2560 (by omega) (by omega) (fun j hj => by omega) inb_S1x1024x4608_S1x1024x512_0_0_512 inb_S512x4608_S512x512_0_2560 z
  · exact piece_at x0 x1 x2 0 2048 (by omega) (by omega) (fun j hj => by omega) inb_S1x1024x4608_S1x1024x512_0_0_0 inb_S512x4608_S512x512_0_2048 z

/-! ## The windows' blocks -/

variable (m : (ℓ : Loc nD τ sig) → Buf (Elt Ideal) ℓ)

abbrev a0 (c : Dev nD) : S4x4096x1024.Idx → EReal := m ((c : Thread nD τ).loc main_arg0)
abbrev a1 (c : Dev nD) : S4x1024.Idx → EReal := m ((c : Thread nD τ).loc main_arg1)
abbrev a2 (c : Dev nD) : S4x1024x4608.Idx → EReal := m ((c : Thread nD τ).loc main_arg2)

/-- The arguments of the program. -/
def args (c : Dev nD) : Spec.Args where
  x b s k := a0 m c (ix3 b s k)
  g k := a1 m c (ix2 0 k)
  w k j := a2 m c (ix3 0 k j)

theorem v0_at (c : Dev nD) (n : Fin 16384) (k : Fin 1024) :
    (V m c main_v0 : S16384x1024.Idx → EReal) (ix2 n k) = a0 m c (ix3 ⟨n.val / 4096, by omega⟩ ⟨n.val % 4096, by omega⟩ k) := by
  unfold V
  after_reads_at

theorem v1_at (c : Dev nD) (k : Fin 1024) : (V m c main_v1 : S4x1x1024.Idx → EReal) (ix3 0 0 k) = a1 m c (ix2 0 k) := by
  unfold V
  after_reads_at

theorem v2_at (c : Dev nD) (k : Fin 1024) (j : Fin 4608) : (V m c main_v2 : S4x1024x4608.Idx → EReal) (ix3 0 k j) = a2 m c (ix3 0 k j) := by
  unfold V
  after_reads_at

theorem idx_facts : ∀ t : Fin grid0.N,
    (win0_0.index t = ![t.val, 0] ∧ win0_1.index t = ![0, 0, 0]) ∧ (win0_2.index t = ![0, 0, 0] ∧ win0_3.index t = ![t.val, 0]) := by decide +kernel

variable (c : Dev nD) (t : Fin cfg0.N)

/-- The row `r` of the point's tile. -/
abbrev row (r : Fin 512) : Fin 16384 := ⟨t.val * 512 + r.val, by have := t.isLt; have : cfg0.N = 32 := N_0; omega⟩

theorem x_at (r : Fin 512) (k : Fin 1024) : (iblk m c 0 t : S512x1024.Idx → EReal) (ix2 r k)
    = (args m c).x ⟨(row t r).val / 4096, by omega⟩ ⟨(row t r).val % 4096, by omega⟩ k := by
  refine Eq.trans ?_ (v0_at m c (row t r) k)
  refine congrArg (V m c main_v0 : S16384x1024.Idx → EReal) (funext fun a => Fin.ext ?_)
  refine (win0_0.rect_emb_val t (ix2 r k) a).trans ?_
  rw [(idx_facts t).1.1]
  match a with
  | (⟨0, _⟩ : Fin 2) => rfl
  | (⟨1, _⟩ : Fin 2) => show 0 * 1024 + k.val = k.val; omega

theorem g_at (k : Fin 1024) : (iblk m c 1 t : S1x1x1024.Idx → EReal) (ix3 0 0 k) = (args m c).g k := by
  refine Eq.trans ?_ (v1_at m c k)
  refine congrArg (V m c main_v1 : S4x1x1024.Idx → EReal) (funext fun a => Fin.ext ?_)
  refine (win0_1.rect_emb_val t (ix3 0 0 k) a).trans ?_
  rw [(idx_facts t).1.2]
  match a with
  | (⟨0, _⟩ : Fin 3) => rfl
  | (⟨1, _⟩ : Fin 3) => rfl
  | (⟨2, _⟩ : Fin 3) => show 0 * 1024 + k.val = k.val; omega

theorem w_at (k : Fin 1024) (j : Fin 4608) : (iblk m c 2 t : S1x1024x4608.Idx → EReal) (ix3 0 k j) = (args m c).w k j := by
  refine Eq.trans ?_ (v2_at m c k j)
  refine congrArg (V m c main_v2 : S4x1024x4608.Idx → EReal) (funext fun a => Fin.ext ?_)
  refine (win0_2.rect_emb_val t (ix3 0 k j) a).trans ?_
  rw [(idx_facts t).2.1]
  match a with
  | (⟨0, _⟩ : Fin 3) => rfl
  | (⟨1, _⟩ : Fin 3) => show 0 * 1024 + k.val = k.val; omega
  | (⟨2, _⟩ : Fin 3) => show 0 * 4608 + j.val = j.val; omega

/-! ## The result array -/

/-- The result as the array holds it. -/
def outArr (A : Spec.Args) : S16384x4608.Idx → EReal := fun y => A.out ⟨(y 0).val, (y 0).isLt⟩ ⟨(y 1).val, (y 1).isLt⟩

theorem proj_congr {x x' g g' w w' : Fin 1024 → EReal} (hx : x = x') (hg : g = g') (hw : w = w') : Spec.proj x g w = Spec.proj x' g' w' := by
  rw [hx, hg, hw]

theorem tile_row (r : Fin 512) (j : Fin 4608) : tile (iblk m c 0 t) (iblk m c 1 t) (iblk m c 2 t) (ix2 r j) = (args m c).out (row t r) j := by
  refine Eq.trans (b := Spec.proj (fun k => (iblk m c 0 t : S512x1024.Idx → EReal) (ix2 r k)) (fun k => (iblk m c 1 t : S1x1x1024.Idx → EReal) (ix3 0 0 k))
    fun k => (iblk m c 2 t : S1x1024x4608.Idx → EReal) (ix3 0 k (Spec.src j))) rfl ?_
  exact proj_congr (funext (x_at m c t r)) (funext (g_at m c t)) (funext fun k => w_at m c t k (Spec.src j))

theorem flushed_eq : (dats m 0 c).flushed 3 t = ((cfg0.win 3).blk t).view.read (Elt Ideal) (outArr (args m c)) := by
  show (cfg0.win 3).cut (grid0.coords t) ((dats m 0 c).after 3 t) = _
  rw [after0_3, out_eq]
  refine funext fun (y : S512x4608.Idx) => ?_
  have hy0 : (y 0).val < 512 := (y 0).isLt
  have hy1 : (y 1).val < 4608 := (y 1).isLt
  have ey : y = (ix2 ⟨(y 0).val, hy0⟩ ⟨(y 1).val, hy1⟩ : S512x4608.Idx) := by
    funext a
    match a with
    | (⟨0, _⟩ : Fin 2) => rfl
    | (⟨1, _⟩ : Fin 2) => rfl
  show tile (iblk m c 0 t) (iblk m c 1 t) (iblk m c 2 t) y = outArr (args m c) ((win0_3.rect t).emb y)
  have r : (win0_3.rect t).emb y = (ix2 (row t ⟨(y 0).val, hy0⟩) ⟨(y 1).val, hy1⟩ : S16384x4608.Idx) := by
    funext a
    refine Fin.ext ((win0_3.rect_emb_val t y a).trans ?_)
    rw [(idx_facts t).2.2]
    match a with
    | (⟨0, _⟩ : Fin 2) => rfl
    | (⟨1, _⟩ : Fin 2) => show 0 * 4608 + (y 1).val = (y 1).val; omega
  rw [r]
  refine (congrArg (tile (iblk m c 0 t) (iblk m c 1 t) (iblk m c 2 t)) ey).trans ?_
  exact tile_row m c t ⟨(y 0).val, hy0⟩ ⟨(y 1).val, hy1⟩

theorem mem_blk (i : S16384x4608.Idx) : i ∈ ((cfg0.win 3).blk t).view.set ↔ ∀ a, win0_3.index t a * win0_3.size a ≤ (i a : ℕ)
    ∧ (i a : ℕ) < win0_3.index t a * win0_3.size a + win0_3.xsize (grid0.coords t) a := by
  show i ∈ ((View.whole main_v3).slice (win0_3.rect t)).set ↔ _
  rw [View.set_slice_whole, Rect.mem_set_unit]

theorem cover (i : S16384x4608.Idx) : ∃ t : Fin grid0.N, (cfg0.win 3).flush t = true ∧ i ∈ ((cfg0.win 3).blk t).view.set := by
  have h0 : (i 0).val < 16384 := (i 0).isLt
  have h1 : (i 1).val < 4608 := (i 1).isLt
  have hN : grid0.N = 32 := N_0
  refine ⟨⟨(i 0).val / 512, by omega⟩, flush0_3 _, ?_⟩
  rw [mem_blk, (idx_facts _).2.2]
  intro a
  match a with
  | (⟨0, _⟩ : Fin 2) =>
    show (i 0).val / 512 * 512 ≤ (i 0).val ∧ (i 0).val < (i 0).val / 512 * 512 + 512
    omega
  | (⟨1, _⟩ : Fin 2) =>
    show 0 * 4608 ≤ (i 1).val ∧ (i 1).val < 0 * 4608 + 4608
    omega

/-- The result array ends at the in-projection. -/
theorem arr_eq : (dats m 0 c).arrAt 3 cfg0.N = outArr (args m c) :=
  (dats m 0 c).arrAt_eq_of_cover 3 (outArr (args m c)) (fun t _ => flushed_eq m c t) cover

end Cert.Proof.Proj

end
-- ==== Proof.ProjRef.lean ====
module

public import proofs.«01_k».proof.Proof.Gen.ProjectionReferenceIdeal.Run
public import proofs.«01_k».proof.Proof.ProjSpec
public import Idealize.ShloMosaic.Lib.Pointwise

@[expose] public section

/-! The reference's result over the extended reals, at one row and one column. -/

set_option maxRecDepth 16384
set_option maxHeartbeats 1000000

noncomputable section

namespace Cert.Proof.ProjRef

open Cert.ProjectionReferenceIdeal Cert.ProjectionReferenceIdeal.Gen
open Idealize.ShloMosaic Idealize.ShloMosaic.TcCoe Idealize.ShloMosaic.StableHlo
open Cert.Proof.Proj

variable (x : S4x4096x1024.Idx → EReal) (g : S4x1024.Idx → EReal) (w : S4x1024x4608.Idx → EReal)

/-- The rows' reciprocal root mean squares. -/
def inv : FVec Ideal S4x4096x1 .f32 :=
  Host.rsqrt (addf (Host.divf (broadcastInDim S4x4096x1 ![0, 1] bcast_S4x4096_S4x4096x1_0_1 (Host.reduceAdd (mulf (F := Ideal) (φ := .f32) x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))

/-- The normed rows. -/
def nrm : FVec Ideal S4x4096x1024 .f32 :=
  mulf (mulf (F := Ideal) (φ := .f32) x (broadcastInDim S4x4096x1024 ![0, 1, 2] bcast_S4x4096x1_S4x4096x1024_0_1_2 (inv x)))
    (broadcastInDim S4x4096x1024 ![0, 1, 2] bcast_S1x1x1024_S4x4096x1024_0_1_2 (broadcastInDim S1x1x1024 ![2] bcast_S1024_S1x1x1024_2 (shapeCast S1024 (extractStridedSlice S1x1024 ![0, 0] g slices_S4x1024_S1x1024_0_0) shapeCasts_S1x1024_S1024)))

/-- The projected rows. -/
def proj : FVec Ideal S4x4096x4608 .f32 :=
  Host.dotGeneral (F := Ideal) (φ₁ := .f32) (φ₂ := .f32) dot_S4x4096x1024_S1024x4608_S4x4096x4608_2_0_01_1_n_n none (nrm x g) (shapeCast S1024x4608 (extractStridedSlice S1x1024x4608 ![0, 0, 0] w slices_S4x1024x4608_S1x1024x4608_0_0_0) shapeCasts_S1x1024x4608_S1024x4608)

/-- The result. -/
def result : FVec Ideal S16384x4608 .bf16 :=
  shapeCast S16384x4608 (truncf .bf16 (concatenate S4x4096x4608 2 [⟨S4x4096x2048, extractStridedSlice S4x4096x2048 ![0, 0, 2560] (proj x g w) slices_S4x4096x4608_S4x4096x2048_0_0_2560⟩, ⟨S4x4096x2560, extractStridedSlice S4x4096x2560 ![0, 0, 0] (proj x g w) slices_S4x4096x4608_S4x4096x2560_0_0_0⟩] concatenates_S4x4096x2048_S4x4096x2560_S4x4096x4608_d2) bitsLt_bf16_f32) shapeCasts_S4x4096x4608_S16384x4608

theorem inv_at (b : Fin 4) (s : Fin 4096) : (inv x : S4x4096x1.Idx → EReal) (ix3 b s 0) = Spec.inv fun k => x (ix3 b s k) := by
  unfold Spec.inv
  pointwise [inv]

theorem nrm_at (b : Fin 4) (s : Fin 4096) (k : Fin 1024) : (nrm x g : S4x4096x1024.Idx → EReal) (ix3 b s k)
    = x (ix3 b s k) * Spec.inv (fun k => x (ix3 b s k)) * g (ix2 0 k) := by
  rw [← inv_at]
  pointwise [nrm]

theorem proj_at (b : Fin 4) (s : Fin 4096) (j : Fin 4608) : (proj x g w : S4x4096x4608.Idx → EReal) (ix3 b s j)
    = Spec.proj (fun k => x (ix3 b s k)) (fun k => g (ix2 0 k)) fun k => w (ix3 0 k j) := by
  unfold Spec.proj
  simp only [← nrm_at]
  pointwise [proj]

/-- The arguments of the program. -/
def args : Spec.Args where
  x b s k := x (ix3 b s k)
  g k := g (ix2 0 k)
  w k j := w (ix3 0 k j)

theorem result_at (n : Fin 16384) (j : Fin 4608) : (result x g w : S16384x4608.Idx → EReal) (ix2 n j) = (args x g w).out n j := by
  refine Eq.trans (b := (proj x g w : S4x4096x4608.Idx → EReal) (ix3 ⟨n.val / 4096, by omega⟩ ⟨n.val % 4096, by omega⟩ (Spec.src j))) ?_ (proj_at x g w _ _ _)
  have e : (result x g w : S16384x4608.Idx → EReal) (ix2 n j)
      = if h : j.val < 2048 then (proj x g w : S4x4096x4608.Idx → EReal) (ix3 ⟨n.val / 4096, by omega⟩ ⟨n.val % 4096, by omega⟩ ⟨2560 + j.val, by omega⟩)
        else (proj x g w : S4x4096x4608.Idx → EReal) (ix3 ⟨n.val / 4096, by omega⟩ ⟨n.val % 4096, by omega⟩ ⟨j.val - 2048, by omega⟩) := by
    pointwise [result]
  rw [e]
  split
  · rw [show (⟨2560 + j.val, by omega⟩ : Fin 4608) = Spec.src j from Fin.ext (show 2560 + j.val = (j.val + 2560) % 4608 by omega)]
  · rw [show (⟨j.val - 2048, by omega⟩ : Fin 4608) = Spec.src j from Fin.ext (show j.val - 2048 = (j.val + 2560) % 4608 by omega)]

end Cert.Proof.ProjRef

end
-- ==== Proof.ProjClaim.lean ====
module

public import proofs.«01_k».proof.Proof.ProjVal
public import proofs.«01_k».proof.Proof.ProjRef
public import proofs.«01_k».proof.Defs
public import proofs.«01_k».proof.Proof.Gen.Projection.Frame

@[expose] public section

set_option maxRecDepth 16384
set_option maxHeartbeats 1000000

noncomputable section

/-! The five claims of the in-projection. -/

namespace Cert.Proof.Proj

open Idealize.ShloMosaic Idealize.ShloMosaic.TcCoe Idealize.ShloMosaic.StableHlo Idealize.SL.Sem

theorem frame_projection : Cert.quiescent_Projection := fun m ρ _ => Cert.Projection.Gen.frame m ρ

theorem frame_ideal : Cert.quiescent_ProjectionIdeal := fun m ρ _ => Cert.ProjectionIdeal.Gen.frame m ρ

theorem frame_ref : Cert.quiescent_ProjectionReferenceIdeal := fun m ρ _ =>
  (θ_run Cert.ProjectionReferenceIdeal.defs _ _).mono (fun r h => ⟨fun c => (h c).2, sem_eq_zero_of_no_sems (by decide) r.2⟩)
    (Cert.ProjectionReferenceIdeal.Value.run (F := Ideal) m ρ)

theorem algebraic : Cert.algebraic_ProjectionIdeal_ProjectionReferenceIdeal := by
  intro m ρ m' ρ' _ hagree
  refine ⟨fun c => outArr (args m c), ?_, ?_⟩
  · have hv := Cert.ProjectionIdeal.Gen.run_main (F := Ideal) m ρ
    have hf := Cert.ProjectionIdeal.Gen.frame (F := Ideal) m ρ
    exact (θ_run _ _ _).mono (fun _ h c => ⟨((h.1 c).1 3).trans (arr_eq m c), h.2.1 c⟩) (θ_run_and hv hf)
  · refine (θ_run _ _ _).mono (fun _ h c => ⟨(h c).1.trans ?_, (h c).2⟩) (Cert.ProjectionReferenceIdeal.Value.run (F := Ideal) m' ρ')
    obtain ⟨e0, e1, e2⟩ := hagree c
    rw [e0, e1, e2]
    refine Eq.trans (b := ProjRef.result (a0 m c) (a1 m c) (a2 m c)) rfl ?_
    refine funext fun (y : Cert.ProjectionReferenceIdeal.S16384x4608.Idx) => ?_
    have ey : y = (ix2 ⟨(y 0).val, (y 0).isLt⟩ ⟨(y 1).val, (y 1).isLt⟩ : Cert.ProjectionReferenceIdeal.S16384x4608.Idx) := by
      funext a
      match a with
      | (⟨0, _⟩ : Fin 2) => rfl
      | (⟨1, _⟩ : Fin 2) => rfl
    refine (congrArg (ProjRef.result (a0 m c) (a1 m c) (a2 m c) : Cert.ProjectionReferenceIdeal.S16384x4608.Idx → EReal) ey).trans ?_
    exact ProjRef.result_at (a0 m c) (a1 m c) (a2 m c) ⟨(y 0).val, (y 0).isLt⟩ ⟨(y 1).val, (y 1).isLt⟩

end Cert.Proof.Proj

end
-- ==== Proof.MergeSpec.lean ====
module

public import Idealize.ShloMosaic.Lib.Pointwise

@[expose] public section

/-! The gated merge over the extended reals: the two mixers' rows through their out-projections, each weighed by the logistic function of
its gate, the sum through the layer's out-projection, added to the residual row. -/

noncomputable section

namespace Cert.Proof.Merge.Spec

open Idealize.ShloMosaic

/-- The logistic function as the quotient. -/
theorem div_logistic (z : EReal) : Ideal.div 1 (1 + Ideal.exp (0 - z)) = Ideal.logistic z := by
  rw [zero_sub]; rfl

/-- One column of the mixers' gated sum, of one row. -/
def gated (a r : Fin 512 → EReal) (ga gr : EReal) (wa wr : Fin 512 → EReal) : EReal :=
  Ideal.logistic ga * ∑ d, a d * wa d + Ideal.logistic gr * ∑ d, r d * wr d

/-- One column of the merge, of one row. -/
def merge (x : EReal) (a r : Fin 512 → EReal) (ga gr : Fin 1024 → EReal) (wa wr : Fin 512 → Fin 1024 → EReal) (wo : Fin 1024 → EReal) : EReal :=
  x + ∑ k, gated a r (ga k) (gr k) (fun d => wa d k) (fun d => wr d k) * wo k

/-- The residual rows, the mixers' rows, the projected rows that the gates are columns of, and the weights. -/
structure Args where
  x : Fin 4 → Fin 4096 → Fin 1024 → EReal
  a : Fin 4 → Fin 4096 → Fin 512 → EReal
  r : Fin 4 → Fin 4096 → Fin 512 → EReal
  p : Fin 4 → Fin 4096 → Fin 4608 → EReal
  wa : Fin 512 → Fin 1024 → EReal
  wr : Fin 512 → Fin 1024 → EReal
  wo : Fin 1024 → Fin 1024 → EReal

/-- The result at a row of a sequence, and a column. -/
def Args.at (A : Args) (b : Fin 4) (s : Fin 4096) (j : Fin 1024) : EReal :=
  merge (A.x b s j) (A.a b s) (A.r b s) (fun k => A.p b s ⟨2560 + k.val, by omega⟩) (fun k => A.p b s ⟨3584 + k.val, by omega⟩)
    A.wa A.wr fun k => A.wo k j

/-- The result at a row of all the sequences one after the other, and a column. -/
def Args.out (A : Args) (n : Fin 16384) (j : Fin 1024) : EReal :=
  A.at ⟨n.val / 4096, by omega⟩ ⟨n.val % 4096, by omega⟩ j

end Cert.Proof.Merge.Spec

end
-- ==== Proof.MergeBody.lean ====
module

public import proofs.«01_k».proof.Proof.MergeSpec
public import proofs.«01_k».proof.Proof.Gen.MergeIdeal.Frame
public import Idealize.ShloMosaic.Lib.Pipeline.Value
public import Idealize.ShloMosaic.Lib.WholeRead
public import Idealize.ShloMosaic.Lib.Pointwise

@[expose] public section

set_option maxRecDepth 16384
set_option maxHeartbeats 4000000

noncomputable section

/-! What the body leaves of its first result. -/

namespace Cert.Proof.Merge

open Cert.MergeIdeal Cert.MergeIdeal.Gen
open Idealize.ShloMosaic Idealize.ShloMosaic.TcCoe
open Idealize.ShloMosaic.Pipeline (Dat Cfg Window)

section

variable (x0 : Vec Ideal S512x1024 .f32) (x1 x2 : Vec Ideal S512x512 .bf16) (x3 x4 : Vec Ideal S512x1024 .bf16)
  (x5 x6 : Vec Ideal S1x512x1024 .bf16) (x7 : Vec Ideal S1x1024x1024 .bf16)

/-- A tile's rows of the result. -/
def tile : FVec Ideal S512x1024 .f32 := k0_pay5 (k0_pay3 x1 x5 x2 x6 x3 x4) (k0_pay4 x0) x7

theorem gated_at (r : Fin 512) (k : Fin 1024) : (k0_pay3 x1 x5 x2 x6 x3 x4 : S512x1024.Idx → EReal) (ix2 r k)
    = Spec.gated (fun d => (x1 : S512x512.Idx → EReal) (ix2 r d)) (fun d => (x2 : S512x512.Idx → EReal) (ix2 r d))
        ((x3 : S512x1024.Idx → EReal) (ix2 r k)) ((x4 : S512x1024.Idx → EReal) (ix2 r k))
        (fun d => (x5 : S1x512x1024.Idx → EReal) (ix3 0 d k)) (fun d => (x6 : S1x512x1024.Idx → EReal) (ix3 0 d k)) := by
  unfold Spec.gated
  simp only [← Spec.div_logistic]
  pointwise [k0_pay3]

theorem tile_at (r : Fin 512) (j : Fin 1024) : (tile x0 x1 x2 x3 x4 x5 x6 x7 : S512x1024.Idx → EReal) (ix2 r j)
    = Spec.merge ((x0 : S512x1024.Idx → EReal) (ix2 r j)) (fun d => (x1 : S512x512.Idx → EReal) (ix2 r d)) (fun d => (x2 : S512x512.Idx → EReal) (ix2 r d))
        (fun k => (x3 : S512x1024.Idx → EReal) (ix2 r k)) (fun k => (x4 : S512x1024.Idx → EReal) (ix2 r k))
        (fun d k => (x5 : S1x512x1024.Idx → EReal) (ix3 0 d k)) (fun d k => (x6 : S1x512x1024.Idx → EReal) (ix3 0 d k))
        fun k => (x7 : S1x1024x1024.Idx → EReal) (ix3 0 k j) := by
  unfold Spec.merge
  simp only [← gated_at]
  pointwise [tile, k0_pay5, k0_pay4]

end

/-- A load of the whole of a buffer reads what it holds. -/
theorem rd {S : Shape} {e : EltTy} {a : Memref sig .tc .vmem S e} (h : a.IsWhole) (X : S.Idx → Elt Ideal e) {off : Fin S.rank → ℕ}
    (h0 : off = fun _ => 0) (inb : ∀ a, off a + S.size a ≤ S.size a) :
    View.readAt (Elt Ideal) a.view (Rect.unit (s := S) off S.size inb).toLoadRect (h.unread X) = X := by
  refine funext fun x => (h.readAt_unread X _ x).trans ?_
  exact congrFun (View.ld_unit_zero (S := S) h0 inb X) x

theorem o2 : (![0, 0] : Fin 2 → ℕ) = fun _ => 0 := funext fun a => by fin_cases a <;> rfl
theorem o3 : (![0, 0, 0] : Fin 3 → ℕ) = fun _ => 0 := funext fun a => by fin_cases a <;> rfl

variable (m : (ℓ : Loc nD τ sig) → Buf (Elt Ideal) ℓ) (c : Dev nD) (t : Fin cfg0.N)

theorem outs_eq : (outsAt0 m c t).1 = tile (iblk m c 0 t) (iblk m c 1 t) (iblk m c 2 t) (X0_3 m c t) (X0_4 m c t) (iblk m c 5 t) (iblk m c 6 t) (iblk m c 7 t) := by
  unfold outsAt0
  dsimp only
  unfold out0_A_11
  rw [View.read_writes_junk_eq_canon]
  unfold kernelRun0_A
  refine (View.canon_unit_zero (S := S512x1024) o2 _ _).trans ?_
  unfold tile kernelRun0_A.sl.r kernelRun0_A.sl.r_1
  simp only [rd (S := S512x1024) _ _ o2, rd (S := S512x512) _ _ o2, rd (S := S1x512x1024) _ _ o3, rd (S := S1x1024x1024) _ _ o3]

end Cert.Proof.Merge

end
-- ==== Proof.MergeVal.lean ====
module

public import proofs.«01_k».proof.Proof.MergeSpec
public import proofs.«01_k».proof.Proof.MergeBody
public import Idealize.ShloMosaic.Lib.Pipeline.Value
public import Idealize.ShloMosaic.Lib.Pipeline.ValueKit.Tiles
public import Idealize.ShloMosaic.Lib.StableHlo.ReadAt
public import Idealize.ShloMosaic.Lib.Pointwise

@[expose] public section

set_option maxRecDepth 16384
set_option maxHeartbeats 4000000

noncomputable section

/-! What the points read of the arguments, and the first result's array put together of their rows. -/

namespace Cert.Proof.Merge

open Cert.MergeIdeal Cert.MergeIdeal.Gen
open Idealize.ShloMosaic Idealize.ShloMosaic.TcCoe
open Idealize.ShloMosaic.Pipeline (Dat Cfg Window)

/-! ## The arrays that the windows read -/

variable (m : (ℓ : Loc nD τ sig) → Buf (Elt Ideal) ℓ)

abbrev a0 (c : Dev nD) : S4x4096x1024.Idx → EReal := m ((c : Thread nD τ).loc main_arg0)
abbrev a1 (c : Dev nD) : S4x4096x512.Idx → EReal := m ((c : Thread nD τ).loc main_arg1)
abbrev a2 (c : Dev nD) : S4x4096x512.Idx → EReal := m ((c : Thread nD τ).loc main_arg2)
abbrev a3 (c : Dev nD) : S4x4096x4608.Idx → EReal := m ((c : Thread nD τ).loc main_arg3)
abbrev a4 (c : Dev nD) : S4x512x1024.Idx → EReal := m ((c : Thread nD τ).loc main_arg4)
abbrev a5 (c : Dev nD) : S4x512x1024.Idx → EReal := m ((c : Thread nD τ).loc main_arg5)
abbrev a6 (c : Dev nD) : S4x1024x1024.Idx → EReal := m ((c : Thread nD τ).loc main_arg6)

/-- The arguments of the program. -/
def args (c : Dev nD) : Spec.Args where
  x b s k := a0 m c (ix3 b s k)
  a b s d := a1 m c (ix3 b s d)
  r b s d := a2 m c (ix3 b s d)
  p b s k := a3 m c (ix3 b s k)
  wa d k := a4 m c (ix3 0 d k)
  wr d k := a5 m c (ix3 0 d k)
  wo k j := a6 m c (ix3 0 k j)

theorem v18_at (c : Dev nD) (n : Fin 16384) (k : Fin 1024) :
    (V m c main_v18 : S16384x1024.Idx → EReal) (ix2 n k) = a0 m c (ix3 ⟨n.val / 4096, by omega⟩ ⟨n.val % 4096, by omega⟩ k) := by
  unfold V
  after_reads_at

theorem v20_at (c : Dev nD) (n : Fin 16384) (d : Fin 512) :
    (V m c main_v20 : S16384x512.Idx → EReal) (ix2 n d) = a1 m c (ix3 ⟨n.val / 4096, by omega⟩ ⟨n.val % 4096, by omega⟩ d) := by
  unfold V
  after_reads_at

theorem v22_at (c : Dev nD) (n : Fin 16384) (d : Fin 512) :
    (V m c main_v22 : S16384x512.Idx → EReal) (ix2 n d) = a2 m c (ix3 ⟨n.val / 4096, by omega⟩ ⟨n.val % 4096, by omega⟩ d) := by
  unfold V
  after_reads_at

theorem v23_at (c : Dev nD) (n : Fin 16384) (k : Fin 4608) (hk : k.val < 2048) :
    (V m c main_v23 : S16384x4608.Idx → EReal) (ix2 n k)
      = a3 m c (ix3 ⟨n.val / 4096, by omega⟩ ⟨n.val % 4096, by omega⟩ ⟨2560 + k.val, by omega⟩) := by
  unfold V
  after_reads_at
  rw [dif_pos (by omega)]
  after_reads_at

theorem v11_at (c : Dev nD) (d : Fin 512) (k : Fin 1024) : (V m c main_v11 : S4x512x1024.Idx → EReal) (ix3 0 d k) = a4 m c (ix3 0 d k) := by
  unfold V
  after_reads_at

theorem v12_at (c : Dev nD) (d : Fin 512) (k : Fin 1024) : (V m c main_v12 : S4x512x1024.Idx → EReal) (ix3 0 d k) = a5 m c (ix3 0 d k) := by
  unfold V
  after_reads_at

theorem v13_at (c : Dev nD) (k j : Fin 1024) : (V m c main_v13 : S4x1024x1024.Idx → EReal) (ix3 0 k j) = a6 m c (ix3 0 k j) := by
  unfold V
  after_reads_at

/-! ## The windows' blocks -/

theorem idx_facts : ∀ t : Fin grid0.N,
    (win0_0.index t = ![t.val, 0] ∧ win0_1.index t = ![t.val, 0] ∧ win0_2.index t = ![t.val, 0])
      ∧ (win0_3.index t = ![t.val, 0] ∧ win0_4.index t = ![t.val, 1])
      ∧ (win0_5.index t = ![0, 0, 0] ∧ win0_6.index t = ![0, 0, 0] ∧ win0_7.index t = ![0, 0, 0])
      ∧ win0_11.index t = ![t.val, 0] := by decide +kernel

variable (c : Dev nD) (t : Fin cfg0.N)

/-- The row `r` of the point's tile. -/
abbrev row (r : Fin 512) : Fin 16384 := ⟨t.val * 512 + r.val, by have := t.isLt; have : cfg0.N = 32 := N_0; omega⟩
/-- That row's sequence, and its place there. -/
abbrev seq (r : Fin 512) : Fin 4 := ⟨(row t r).val / 4096, by omega⟩
abbrev tok (r : Fin 512) : Fin 4096 := ⟨(row t r).val % 4096, by omega⟩

theorem x_at (r : Fin 512) (k : Fin 1024) : (iblk m c 0 t : S512x1024.Idx → EReal) (ix2 r k) = (args m c).x (seq t r) (tok t r) k := by
  refine Eq.trans ?_ (v18_at m c (row t r) k)
  refine congrArg (V m c main_v18 : S16384x1024.Idx → EReal) (funext fun a => Fin.ext ?_)
  refine (win0_0.rect_emb_val t (ix2 r k) a).trans ?_
  rw [(idx_facts t).1.1]
  match a with
  | (⟨0, _⟩ : Fin 2) => rfl
  | (⟨1, _⟩ : Fin 2) => show 0 * 1024 + k.val = k.val; omega

theorem a_at (r : Fin 512) (d : Fin 512) : (iblk m c 1 t : S512x512.Idx → EReal) (ix2 r d) = (args m c).a (seq t r) (tok t r) d := by
  refine Eq.trans ?_ (v20_at m c (row t r) d)
  refine congrArg (V m c main_v20 : S16384x512.Idx → EReal) (funext fun a => Fin.ext ?_)
  refine (win0_1.rect_emb_val t (ix2 r d) a).trans ?_
  rw [(idx_facts t).1.2.1]
  match a with
  | (⟨0, _⟩ : Fin 2) => rfl
  | (⟨1, _⟩ : Fin 2) => show 0 * 512 + d.val = d.val; omega

theorem r_at (r : Fin 512) (d : Fin 512) : (iblk m c 2 t : S512x512.Idx → EReal) (ix2 r d) = (args m c).r (seq t r) (tok t r) d := by
  refine Eq.trans ?_ (v22_at m c (row t r) d)
  refine congrArg (V m c main_v22 : S16384x512.Idx → EReal) (funext fun a => Fin.ext ?_)
  refine (win0_2.rect_emb_val t (ix2 r d) a).trans ?_
  rw [(idx_facts t).1.2.2]
  match a with
  | (⟨0, _⟩ : Fin 2) => rfl
  | (⟨1, _⟩ : Fin 2) => show 0 * 512 + d.val = d.val; omega

theorem ga_at (r : Fin 512) (k : Fin 1024) : (X0_3 m c t : S512x1024.Idx → EReal) (ix2 r k)
    = (args m c).p (seq t r) (tok t r) ⟨2560 + k.val, by omega⟩ := by
  refine Eq.trans ?_ (v23_at m c (row t r) ⟨k.val, by omega⟩ (show k.val < 2048 by omega))
  unfold X0_3 Pipeline.Window.fill
  rw [dif_pos (moved0_3 t (ix2 r k : S512x1024.Idx))]
  refine congrArg (V m c main_v23 : S16384x4608.Idx → EReal) (funext fun a => Fin.ext ?_)
  refine (win0_3.rect_emb_val t _ a).trans ?_
  rw [(idx_facts t).2.1.1]
  match a with
  | (⟨0, _⟩ : Fin 2) => rfl
  | (⟨1, _⟩ : Fin 2) => show 0 * 1024 + k.val = k.val; omega

theorem gr_at (r : Fin 512) (k : Fin 1024) : (X0_4 m c t : S512x1024.Idx → EReal) (ix2 r k)
    = (args m c).p (seq t r) (tok t r) ⟨3584 + k.val, by omega⟩ := by
  have e : (⟨3584 + k.val, by omega⟩ : Fin 4608) = ⟨2560 + (⟨1024 + k.val, by omega⟩ : Fin 4608).val, by show 2560 + (1024 + k.val) < 4608; omega⟩ :=
    Fin.ext (show 3584 + k.val = 2560 + (1024 + k.val) by omega)
  rw [e]
  refine Eq.trans ?_ (v23_at m c (row t r) ⟨1024 + k.val, by omega⟩ (show 1024 + k.val < 2048 by omega))
  unfold X0_4 Pipeline.Window.fill
  rw [dif_pos (moved0_4 t (ix2 r k : S512x1024.Idx))]
  refine congrArg (V m c main_v23 : S16384x4608.Idx → EReal) (funext fun a => Fin.ext ?_)
  refine (win0_4.rect_emb_val t _ a).trans ?_
  rw [(idx_facts t).2.1.2]
  match a with
  | (⟨0, _⟩ : Fin 2) => rfl
  | (⟨1, _⟩ : Fin 2) => show 1 * 1024 + k.val = 1024 + k.val; omega

theorem wa_at (d : Fin 512) (k : Fin 1024) : (iblk m c 5 t : S1x512x1024.Idx → EReal) (ix3 0 d k) = (args m c).wa d k := by
  refine Eq.trans ?_ (v11_at m c d k)
  refine congrArg (V m c main_v11 : S4x512x1024.Idx → EReal) (funext fun a => Fin.ext ?_)
  refine (win0_5.rect_emb_val t (ix3 0 d k) a).trans ?_
  rw [(idx_facts t).2.2.1.1]
  match a with
  | (⟨0, _⟩ : Fin 3) => rfl
  | (⟨1, _⟩ : Fin 3) => show 0 * 512 + d.val = d.val; omega
  | (⟨2, _⟩ : Fin 3) => show 0 * 1024 + k.val = k.val; omega

theorem wr_at (d : Fin 512) (k : Fin 1024) : (iblk m c 6 t : S1x512x1024.Idx → EReal) (ix3 0 d k) = (args m c).wr d k := by
  refine Eq.trans ?_ (v12_at m c d k)
  refine congrArg (V m c main_v12 : S4x512x1024.Idx → EReal) (funext fun a => Fin.ext ?_)
  refine (win0_6.rect_emb_val t (ix3 0 d k) a).trans ?_
  rw [(idx_facts t).2.2.1.2.1]
  match a with
  | (⟨0, _⟩ : Fin 3) => rfl
  | (⟨1, _⟩ : Fin 3) => show 0 * 512 + d.val = d.val; omega
  | (⟨2, _⟩ : Fin 3) => show 0 * 1024 + k.val = k.val; omega

theorem wo_at (k j : Fin 1024) : (iblk m c 7 t : S1x1024x1024.Idx → EReal) (ix3 0 k j) = (args m c).wo k j := by
  refine Eq.trans ?_ (v13_at m c k j)
  refine congrArg (V m c main_v13 : S4x1024x1024.Idx → EReal) (funext fun a => Fin.ext ?_)
  refine (win0_7.rect_emb_val t (ix3 0 k j) a).trans ?_
  rw [(idx_facts t).2.2.1.2.2]
  match a with
  | (⟨0, _⟩ : Fin 3) => rfl
  | (⟨1, _⟩ : Fin 3) => show 0 * 1024 + k.val = k.val; omega
  | (⟨2, _⟩ : Fin 3) => show 0 * 1024 + j.val = j.val; omega

/-! ## The result array -/

/-- The result as the array holds it. -/
def outArr (A : Spec.Args) : S16384x1024.Idx → EReal := fun y => A.out ⟨(y 0).val, (y 0).isLt⟩ ⟨(y 1).val, (y 1).isLt⟩

theorem merge_congr {x x' : EReal} {a a' r r' : Fin 512 → EReal} {ga ga' gr gr' : Fin 1024 → EReal} {wa wa' wr wr' : Fin 512 → Fin 1024 → EReal} {wo wo' : Fin 1024 → EReal}
    (hx : x = x') (ha : a = a') (hr : r = r') (hga : ga = ga') (hgr : gr = gr') (hwa : wa = wa') (hwr : wr = wr') (hwo : wo = wo') :
    Spec.merge x a r ga gr wa wr wo = Spec.merge x' a' r' ga' gr' wa' wr' wo' := by
  rw [hx, ha, hr, hga, hgr, hwa, hwr, hwo]

theorem row_eq (r : Fin 512) (j : Fin 1024) : ((outsAt0 m c t).1 : S512x1024.Idx → EReal) (ix2 r j) = (args m c).out (row t r) j := by
  refine (congrFun (outs_eq m c t) (ix2 r j : S512x1024.Idx)).trans ?_
  refine (tile_at _ _ _ _ _ _ _ _ r j).trans ?_
  exact merge_congr (x_at m c t r j) (funext (a_at m c t r)) (funext (r_at m c t r)) (funext (ga_at m c t r)) (funext (gr_at m c t r))
    (funext fun d => funext (wa_at m c t d)) (funext fun d => funext (wr_at m c t d)) (funext fun k => wo_at m c t k j)

theorem flushed_eq : (dats m 0 c).flushed 11 t = ((cfg0.win 11).blk t).view.read (Elt Ideal) (outArr (args m c)) := by
  show (cfg0.win 11).cut (grid0.coords t) ((dats m 0 c).after 11 t) = _
  rw [after0_11]
  refine funext fun (y : S512x1024.Idx) => ?_
  have hy0 : (y 0).val < 512 := (y 0).isLt
  have hy1 : (y 1).val < 1024 := (y 1).isLt
  have ey : y = (ix2 ⟨(y 0).val, hy0⟩ ⟨(y 1).val, hy1⟩ : S512x1024.Idx) := by
    funext a
    match a with
    | (⟨0, _⟩ : Fin 2) => rfl
    | (⟨1, _⟩ : Fin 2) => rfl
  show ((outsAt0 m c t).1 : S512x1024.Idx → EReal) y = outArr (args m c) ((win0_11.rect t).emb y)
  have r : (win0_11.rect t).emb y = (ix2 (row t ⟨(y 0).val, hy0⟩) ⟨(y 1).val, hy1⟩ : S16384x1024.Idx) := by
    funext a
    refine Fin.ext ((win0_11.rect_emb_val t y a).trans ?_)
    rw [(idx_facts t).2.2.2]
    match a with
    | (⟨0, _⟩ : Fin 2) => rfl
    | (⟨1, _⟩ : Fin 2) => show 0 * 1024 + (y 1).val = (y 1).val; omega
  rw [r]
  refine (congrArg ((outsAt0 m c t).1 : S512x1024.Idx → EReal) ey).trans ?_
  exact row_eq m c t ⟨(y 0).val, hy0⟩ ⟨(y 1).val, hy1⟩

theorem mem_blk (i : S16384x1024.Idx) : i ∈ ((cfg0.win 11).blk t).view.set ↔ ∀ a, win0_11.index t a * win0_11.size a ≤ (i a : ℕ)
    ∧ (i a : ℕ) < win0_11.index t a * win0_11.size a + win0_11.xsize (grid0.coords t) a := by
  show i ∈ ((View.whole main_v25_0).slice (win0_11.rect t)).set ↔ _
  rw [View.set_slice_whole, Rect.mem_set_unit]

theorem cover (i : S16384x1024.Idx) : ∃ t : Fin grid0.N, (cfg0.win 11).flush t = true ∧ i ∈ ((cfg0.win 11).blk t).view.set := by
  have h0 : (i 0).val < 16384 := (i 0).isLt
  have h1 : (i 1).val < 1024 := (i 1).isLt
  have hN : grid0.N = 32 := N_0
  refine ⟨⟨(i 0).val / 512, by omega⟩, flush0_11 _, ?_⟩
  rw [mem_blk, (idx_facts _).2.2.2]
  intro a
  match a with
  | (⟨0, _⟩ : Fin 2) =>
    show (i 0).val / 512 * 512 ≤ (i 0).val ∧ (i 0).val < (i 0).val / 512 * 512 + 512
    omega
  | (⟨1, _⟩ : Fin 2) =>
    show 0 * 1024 ≤ (i 1).val ∧ (i 1).val < 0 * 1024 + 1024
    omega

/-- The first result's array ends at the merge. -/
theorem arr_eq : (dats m 0 c).arrAt 11 cfg0.N = outArr (args m c) :=
  (dats m 0 c).arrAt_eq_of_cover 11 (outArr (args m c)) (fun t _ => flushed_eq m c t) cover

end Cert.Proof.Merge

end
-- ==== Proof.MergeRef.lean ====
module

public import proofs.«01_k».proof.Proof.Gen.MergeReferenceIdeal.Run
public import proofs.«01_k».proof.Proof.MergeSpec
public import Idealize.ShloMosaic.Lib.Pointwise

@[expose] public section

/-! The reference's result over the extended reals, at one row and one column. -/

set_option maxRecDepth 16384
set_option maxHeartbeats 1000000

noncomputable section

namespace Cert.Proof.MergeRef

open Cert.MergeReferenceIdeal Cert.MergeReferenceIdeal.Gen
open Idealize.ShloMosaic Idealize.ShloMosaic.TcCoe Idealize.ShloMosaic.StableHlo
open Cert.Proof.Merge

variable (x : S4x4096x1024.Idx → EReal) (a r : S4x4096x512.Idx → EReal) (p : S4x4096x4608.Idx → EReal)
  (wa wr : S4x512x1024.Idx → EReal) (wo : S4x1024x1024.Idx → EReal)

/-- The logistic function of a gate. -/
def gate (z : FVec Ideal S4x4096x1024 .f32) : FVec Ideal S4x4096x1024 .f32 :=
  Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf z)))

/-- A mixer's rows through its out-projection. -/
def outp (a : S4x4096x512.Idx → EReal) (w : S4x512x1024.Idx → EReal) : FVec Ideal S4x4096x1024 .f32 :=
  Host.dotGeneral (F := Ideal) (φ₁ := .f32) (φ₂ := .f32) dot_S4x4096x512_S512x1024_S4x4096x1024_2_0_01_1_n_n none a (shapeCast S512x1024 (extractStridedSlice S1x512x1024 ![0, 0, 0] w slices_S4x512x1024_S1x512x1024_0_0_0) shapeCasts_S1x512x1024_S512x1024)

/-- The mixers' gated sum. -/
def gated : FVec Ideal S4x4096x1024 .f32 :=
  addf (mulf (gate (extractStridedSlice S4x4096x1024 ![0, 0, 2560] p slices_S4x4096x4608_S4x4096x1024_0_0_2560)) (outp a wa))
    (mulf (gate (extractStridedSlice S4x4096x1024 ![0, 0, 3584] p slices_S4x4096x4608_S4x4096x1024_0_0_3584)) (outp r wr))

/-- The result. -/
def result : FVec Ideal S16384x1024 .f32 :=
  shapeCast S16384x1024 (addf (F := Ideal) (φ := .f32) x (Host.dotGeneral (F := Ideal) (φ₁ := .f32) (φ₂ := .f32) dot_S4x4096x1024_S1024x1024_S4x4096x1024_2_0_01_1_n_n none (gated a r p wa wr) (shapeCast S1024x1024 (extractStridedSlice S1x1024x1024 ![0, 0, 0] wo slices_S4x1024x1024_S1x1024x1024_0_0_0) shapeCasts_S1x1024x1024_S1024x1024))) shapeCasts_S4x4096x1024_S16384x1024

theorem gate_at (z : FVec Ideal S4x4096x1024 .f32) (b : Fin 4) (s : Fin 4096) (k : Fin 1024) :
    (gate z : S4x4096x1024.Idx → EReal) (ix3 b s k) = Ideal.logistic ((z : S4x4096x1024.Idx → EReal) (ix3 b s k)) := by
  rw [← Spec.div_logistic, zero_sub]
  pointwise [gate]

theorem outp_at (a : S4x4096x512.Idx → EReal) (w : S4x512x1024.Idx → EReal) (b : Fin 4) (s : Fin 4096) (k : Fin 1024) :
    (outp a w : S4x4096x1024.Idx → EReal) (ix3 b s k) = ∑ d : Fin 512, a (ix3 b s d) * w (ix3 0 d k) := by
  pointwise [outp]

theorem gated_at (b : Fin 4) (s : Fin 4096) (k : Fin 1024) : (gated a r p wa wr : S4x4096x1024.Idx → EReal) (ix3 b s k)
    = Spec.gated (fun d => a (ix3 b s d)) (fun d => r (ix3 b s d)) (p (ix3 b s ⟨2560 + k.val, by omega⟩)) (p (ix3 b s ⟨3584 + k.val, by omega⟩))
        (fun d => wa (ix3 0 d k)) (fun d => wr (ix3 0 d k)) := by
  unfold Spec.gated
  rw [← outp_at, ← outp_at]
  have e1 : p (ix3 b s ⟨2560 + k.val, by omega⟩)
      = (extractStridedSlice S4x4096x1024 ![0, 0, 2560] p slices_S4x4096x4608_S4x4096x1024_0_0_2560 : S4x4096x1024.Idx → EReal) (ix3 b s k) := by
    symm; pointwise []
  have e2 : p (ix3 b s ⟨3584 + k.val, by omega⟩)
      = (extractStridedSlice S4x4096x1024 ![0, 0, 3584] p slices_S4x4096x4608_S4x4096x1024_0_0_3584 : S4x4096x1024.Idx → EReal) (ix3 b s k) := by
    symm; pointwise []
  rw [e1, e2, ← gate_at, ← gate_at]
  rfl

/-- The arguments of the program. -/
def args : Spec.Args where
  x b s k := x (ix3 b s k)
  a b s d := a (ix3 b s d)
  r b s d := r (ix3 b s d)
  p b s k := p (ix3 b s k)
  wa d k := wa (ix3 0 d k)
  wr d k := wr (ix3 0 d k)
  wo k j := wo (ix3 0 k j)

theorem result_at (n : Fin 16384) (j : Fin 1024) :
    (result x a r p wa wr wo : S16384x1024.Idx → EReal) (ix2 n j) = (args x a r p wa wr wo).out n j := by
  refine Eq.trans (b := x (ix3 ⟨n.val / 4096, by omega⟩ ⟨n.val % 4096, by omega⟩ j)
    + ∑ k : Fin 1024, (gated a r p wa wr : S4x4096x1024.Idx → EReal) (ix3 ⟨n.val / 4096, by omega⟩ ⟨n.val % 4096, by omega⟩ k) * wo (ix3 0 k j)) ?_ ?_
  · pointwise [result]
  · simp only [gated_at]
    rfl

end Cert.Proof.MergeRef

end
-- ==== Proof.MergeClaim.lean ====
module

public import proofs.«01_k».proof.Proof.MergeVal
public import proofs.«01_k».proof.Proof.MergeRef
public import proofs.«01_k».proof.Defs
public import proofs.«01_k».proof.Proof.Gen.Merge.Frame

@[expose] public section

set_option maxRecDepth 16384
set_option maxHeartbeats 1000000

noncomputable section

/-! The five claims of the merge. -/

namespace Cert.Proof.Merge

open Idealize.ShloMosaic Idealize.ShloMosaic.TcCoe Idealize.ShloMosaic.StableHlo Idealize.SL.Sem

theorem frame_merge : Cert.quiescent_Merge := fun m ρ _ => Cert.Merge.Gen.frame m ρ

theorem frame_ideal : Cert.quiescent_MergeIdeal := fun m ρ _ => Cert.MergeIdeal.Gen.frame m ρ

theorem frame_ref : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

theorem algebraic : Cert.algebraic_MergeIdeal_MergeReferenceIdeal := by
  intro m ρ m' ρ' _ hagree
  refine ⟨fun c => outArr (args m c), ?_, ?_⟩
  · have hv := Cert.MergeIdeal.Gen.run_main (F := Ideal) m ρ
    have hf := Cert.MergeIdeal.Gen.frame (F := Ideal) m ρ
    exact (θ_run _ _ _).mono (fun _ h c => ⟨((h.1 c).1 11).trans (arr_eq m c), h.2.1 c⟩) (θ_run_and hv hf)
  · refine (θ_run _ _ _).mono (fun _ h c => ⟨(h c).1.trans ?_, (h c).2⟩) (Cert.MergeReferenceIdeal.Value.run (F := Ideal) m' ρ')
    obtain ⟨e0, e1, e2, e3, e4, e5, e6, -⟩ := hagree c
    rw [e0, e1, e2, e3, e4, e5, e6]
    refine Eq.trans (b := MergeRef.result (a0 m c) (a1 m c) (a2 m c) (a3 m c) (a4 m c) (a5 m c) (a6 m c)) rfl ?_
    refine funext fun (y : Cert.MergeReferenceIdeal.S16384x1024.Idx) => ?_
    have ey : y = (ix2 ⟨(y 0).val, (y 0).isLt⟩ ⟨(y 1).val, (y 1).isLt⟩ : Cert.MergeReferenceIdeal.S16384x1024.Idx) := by
      funext a
      match a with
      | (⟨0, _⟩ : Fin 2) => rfl
      | (⟨1, _⟩ : Fin 2) => rfl
    refine (congrArg (MergeRef.result (a0 m c) (a1 m c) (a2 m c) (a3 m c) (a4 m c) (a5 m c) (a6 m c) : Cert.MergeReferenceIdeal.S16384x1024.Idx → EReal) ey).trans ?_
    exact MergeRef.result_at (a0 m c) (a1 m c) (a2 m c) (a3 m c) (a4 m c) (a5 m c) (a6 m c) ⟨(y 0).val, (y 0).isLt⟩ ⟨(y 1).val, (y 1).isLt⟩

end Cert.Proof.Merge

end
-- ==== Proof.lean ====
module

public import proofs.«01_k».proof.Proof.Gen.ReferenceIdeal.Run
public import proofs.«01_k».proof.Defs
public import proofs.«01_k».proof.Proof.RgClaim
public import proofs.«01_k».proof.Proof.FfnClaim
public import proofs.«01_k».proof.Proof.ProjClaim
public import proofs.«01_k».proof.Proof.MergeClaim
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.Pre_tiles_sorted
public import proofs.«01_k».proof.Proof.Gen.Projection
public import proofs.«01_k».proof.Proof.Gen.Projection.Skeleton
public import proofs.«01_k».proof.Proof.Gen.Projection.Launch
public import proofs.«01_k».proof.Proof.Gen.Projection.Points
public import proofs.«01_k».proof.Proof.Gen.Projection.Frame
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionIdeal.Points
public import proofs.«01_k».proof.Proof.Gen.ProjectionIdeal.Frame
public import proofs.«01_k».proof.Proof.Gen.ProjectionReferenceIdeal
public import proofs.«01_k».proof.Proof.Gen.ProjectionReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.MergeReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts,
  Cert.Projection.Gen.facts, Cert.ProjectionIdeal.Gen.facts, Cert.ProjectionReferenceIdeal.Gen.facts,
  Cert.Merge.Gen.facts, Cert.MergeIdeal.Gen.facts, Cert.MergeReferenceIdeal.Gen.facts, Cert.Pre_tiles_sorted.Gen.facts,
  Rg.frame_kernel, Rg.frame_ideal, Rg.frame_ref, Ffn.frame_experts, Ffn.frame_ideal, Ffn.frame_ref,
  Proj.frame_projection, Proj.frame_ideal, Proj.frame_ref, Merge.frame_merge, Merge.frame_ideal, Merge.frame_ref,
  trivial, Rg.algebraic, trivial, Ffn.algebraic, trivial, Proj.algebraic, trivial, Merge.algebraic⟩

end Cert.Proof

end
